-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v135_0)) (v1 : (c : Dev Cert.KernelIdeal.nD) → Buf (Elt Ideal) ((c.tc : Thread Cert.KernelIdeal.nD Cert.KernelIdeal.τ).loc Cert.KernelIdeal.main_v135_1)) (v2 : (c : Dev Cert.KernelIdeal.nD) → Buf (Elt Ideal) ((c.tc : Thread Cert.KernelIdeal.nD Cert.KernelIdeal.τ).loc Cert.KernelIdeal.main_v135_2)) (v3 : (c : Dev Cert.KernelIdeal.nD) → Buf (Elt Ideal) ((c.tc : Thread Cert.KernelIdeal.nD Cert.KernelIdeal.τ).loc Cert.KernelIdeal.main_v135_3)) (v4 : (c : Dev Cert.KernelIdeal.nD) → Buf (Elt Ideal) ((c.tc : Thread Cert.KernelIdeal.nD Cert.KernelIdeal.τ).loc Cert.KernelIdeal.main_v135_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135_0) = v0 c
          ∧ r.2.mem ((c.tc : Thread Cert.KernelIdeal.nD Cert.KernelIdeal.τ).loc Cert.KernelIdeal.main_v135_1) = v1 c
          ∧ r.2.mem ((c.tc : Thread Cert.KernelIdeal.nD Cert.KernelIdeal.τ).loc Cert.KernelIdeal.main_v135_2) = v2 c
          ∧ r.2.mem ((c.tc : Thread Cert.KernelIdeal.nD Cert.KernelIdeal.τ).loc Cert.KernelIdeal.main_v135_3) = v3 c
          ∧ r.2.mem ((c.tc : Thread Cert.KernelIdeal.nD Cert.KernelIdeal.τ).loc Cert.KernelIdeal.main_v135_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v5) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v5) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)) (v2 : (c : Dev Cert.MixIdeal.nD) → Buf (Elt Ideal) ((c.tc : Thread Cert.MixIdeal.nD Cert.MixIdeal.τ).loc Cert.MixIdeal.main_v5_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_v5_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v30) = v0 c
          ∧ r.2.mem ((c.tc : Thread Cert.MixRefIdeal.nD Cert.MixRefIdeal.τ).loc Cert.MixRefIdeal.main_v50) = v1 c
          ∧ r.2.mem ((c.tc : Thread Cert.MixRefIdeal.nD Cert.MixRefIdeal.τ).loc Cert.MixRefIdeal.main_v44) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hMix : Cert.Mix.Facts) (hMixIdeal : Cert.MixIdeal.Facts) (hMixRefIdeal : Cert.MixRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ quiescent_Mix (hMix := hMix)
    ∧ quiescent_MixIdeal (hMixIdeal := hMixIdeal)
    ∧ quiescent_MixRefIdeal (hMixRefIdeal := hMixRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
    ∧ preserves_Mix_MixIdeal
    ∧ algebraic_MixIdeal_MixRefIdeal (hMixIdeal := hMixIdeal) (hMixRefIdeal := hMixRefIdeal)
-- ==== Pre_finite.lean ====
abbrev S16384x512 : Shape := ⟨2, ![16384, 512]⟩
abbrev S16384x8 : Shape := ⟨2, ![16384, 8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn_part2 {F : FTy → Type} [FloatOps F] (main_v27 : IVec S_ 1) (main_v32 : IVec S16384x512 1) : IVec S_ 1 :=
  let main_c_13 : IVec S_ 1 := constantI S_ 1 1#1
  let main_v33 : IVec S_ 1 := (fun x v => Host.reduce IntOp.andi x v reducesTo_S16384x512_S_d0_1 h_S_) main_v32 main_c_13
  let main_v34 : IVec S_ 1 := andi main_v27 main_v33
  main_v34

def fn_part1 {F : FTy → Type} [FloatOps F] (main_arg2 : FVec F S16384x512 .f32) (main_arg3 : FVec F S16384x8 .f32) (main_arg4 : FVec F S16384x512 .f32) (main_v13 : IVec S_ 1) (main_v15 : IVec S16384x512 1) : IVec S_ 1 :=
  let main_cst_6 : FVec F S_ .f32 := constant S_ .f32 0xFF800000#32
  let main_v16 : FVec F S16384x512 .f32 := broadcastInDim S16384x512 ![] bcast_S_S16384x512 main_cst_6
  let main_v17 : IVec S16384x512 1 := cmpf .ogt main_arg2 main_v16
  let main_v18 : IVec S16384x512 1 := andi main_v15 main_v17
  let main_c_7 : IVec S_ 1 := constantI S_ 1 1#1
  let main_v19 : IVec S_ 1 := (fun x v => Host.reduce IntOp.andi x v reducesTo_S16384x512_S_d0_1 h_S_) main_v18 main_c_7
  let main_v20 : IVec S_ 1 := andi main_v13 main_v19
  let main_cst_8 : FVec F S_ .f32 := constant S_ .f32 0x7F800000#32
  let main_v21 : FVec F S16384x8 .f32 := broadcastInDim S16384x8 ![] bcast_S_S16384x8 main_cst_8
  let main_v22 : IVec S16384x8 1 := cmpf .olt main_arg3 main_v21
  let main_cst_9 : FVec F S_ .f32 := constant S_ .f32 0xFF800000#32
  let main_v23 : FVec F S16384x8 .f32 := broadcastInDim S16384x8 ![] bcast_S_S16384x8 main_cst_9
  let main_v24 : IVec S16384x8 1 := cmpf .ogt main_arg3 main_v23
  let main_v25 : IVec S16384x8 1 := andi main_v22 main_v24
  let main_c_10 : IVec S_ 1 := constantI S_ 1 1#1
  let main_v26 : IVec S_ 1 := (fun x v => Host.reduce IntOp.andi x v reducesTo_S16384x8_S_d0_1 h_S_) main_v25 main_c_10
  let main_v27 : IVec S_ 1 := andi main_v20 main_v26
  let main_cst_11 : FVec F S_ .f32 := constant S_ .f32 0x7F800000#32
  let main_v28 : FVec F S16384x512 .f32 := broadcastInDim S16384x512 ![] bcast_S_S16384x512 main_cst_11
  let main_v29 : IVec S16384x512 1 := cmpf .olt main_arg4 main_v28
  let main_cst_12 : FVec F S_ .f32 := constant S_ .f32 0xFF800000#32
  let main_v30 : FVec F S16384x512 .f32 := broadcastInDim S16384x512 ![] bcast_S_S16384x512 main_cst_12
  let main_v31 : IVec S16384x512 1 := cmpf .ogt main_arg4 main_v30
  let main_v32 : IVec S16384x512 1 := andi main_v29 main_v31
  fn_part2 (F := F) main_v27 main_v32

def fn {F : FTy → Type} [FloatOps F] (main_arg0 : FVec F S16384x512 .f32) (main_arg1 : FVec F S16384x512 .f32) (main_arg2 : FVec F S16384x512 .f32) (main_arg3 : FVec F S16384x8 .f32) (main_arg4 : FVec F S16384x512 .f32) : IVec S_ 1 :=
  let main_cst : FVec F S_ .f32 := constant S_ .f32 0x7F800000#32
  let main_v0 : FVec F S16384x512 .f32 := broadcastInDim S16384x512 ![] bcast_S_S16384x512 main_cst
  let main_v1 : IVec S16384x512 1 := cmpf .olt main_arg0 main_v0
  let main_cst_0 : FVec F S_ .f32 := constant S_ .f32 0xFF800000#32
  let main_v2 : FVec F S16384x512 .f32 := broadcastInDim S16384x512 ![] bcast_S_S16384x512 main_cst_0
  let main_v3 : IVec S16384x512 1 := cmpf .ogt main_arg0 main_v2
  let main_v4 : IVec S16384x512 1 := andi main_v1 main_v3
  let main_c : IVec S_ 1 := constantI S_ 1 1#1
  let main_v5 : IVec S_ 1 := (fun x v => Host.reduce IntOp.andi x v reducesTo_S16384x512_S_d0_1 h_S_) main_v4 main_c
  let main_c_1 : IVec S_ 1 := constantI S_ 1 1#1
  let main_v6 : IVec S_ 1 := andi main_c_1 main_v5
  let main_cst_2 : FVec F S_ .f32 := constant S_ .f32 0x7F800000#32
  let main_v7 : FVec F S16384x512 .f32 := broadcastInDim S16384x512 ![] bcast_S_S16384x512 main_cst_2
  let main_v8 : IVec S16384x512 1 := cmpf .olt main_arg1 main_v7
  let main_cst_3 : FVec F S_ .f32 := constant S_ .f32 0xFF800000#32
  let main_v9 : FVec F S16384x512 .f32 := broadcastInDim S16384x512 ![] bcast_S_S16384x512 main_cst_3
  let main_v10 : IVec S16384x512 1 := cmpf .ogt main_arg1 main_v9
  let main_v11 : IVec S16384x512 1 := andi main_v8 main_v10
  let main_c_4 : IVec S_ 1 := constantI S_ 1 1#1
  let main_v12 : IVec S_ 1 := (fun x v => Host.reduce IntOp.andi x v reducesTo_S16384x512_S_d0_1 h_S_) main_v11 main_c_4
  let main_v13 : IVec S_ 1 := andi main_v6 main_v12
  let main_cst_5 : FVec F S_ .f32 := constant S_ .f32 0x7F800000#32
  let main_v14 : FVec F S16384x512 .f32 := broadcastInDim S16384x512 ![] bcast_S_S16384x512 main_cst_5
  let main_v15 : IVec S16384x512 1 := cmpf .olt main_arg2 main_v14
  fn_part1 (F := F) main_arg2 main_arg3 main_arg4 main_v13 main_v15
-- ==== Kernel.lean ====
abbrev S16384x512 : Shape := ⟨2, ![16384, 512]⟩
abbrev S16384x8 : Shape := ⟨2, ![16384, 8]⟩
abbrev S_ : Shape := ⟨0, ![]⟩
abbrev S8x16384x128 : Shape := ⟨3, ![8, 16384, 128]⟩
abbrev S8x16384 : Shape := ⟨2, ![8, 16384]⟩
abbrev S8x16384x1 : Shape := ⟨3, ![8, 16384, 1]⟩
abbrev S16384x4x1x128 : Shape := ⟨4, ![16384, 4, 1, 128]⟩
abbrev S16384x4x2x128 : Shape := ⟨4, ![16384, 4, 2, 128]⟩
abbrev S4x2x16384x128 : Shape := ⟨4, ![4, 2, 16384, 128]⟩
abbrev S16384x8x64 : Shape := ⟨3, ![16384, 8, 64]⟩
abbrev S8x16384x16384 : Shape := ⟨3, ![8, 16384, 16384]⟩
abbrev S8x1x16384 : Shape := ⟨3, ![8, 1, 16384]⟩
abbrev S16384x16384 : Shape := ⟨2, ![16384, 16384]⟩
abbrev S1x16384x16384 : Shape := ⟨3, ![1, 16384, 16384]⟩
abbrev S8x64x16384 : Shape := ⟨3, ![8, 64, 16384]⟩
abbrev S4x2x16384 : Shape := ⟨3, ![4, 2, 16384]⟩
abbrev S4x128x16384 : Shape := ⟨3, ![4, 128, 16384]⟩
abbrev S16384x128 : Shape := ⟨2, ![16384, 128]⟩
abbrev S2x512x128 : Shape := ⟨3, ![2, 512, 128]⟩
abbrev S1x2x16384 : Shape := ⟨3, ![1, 2, 16384]⟩
abbrev S1x128x16384 : Shape := ⟨3, ![1, 128, 16384]⟩
abbrev S512x128 : Shape := ⟨2, ![512, 128]⟩
abbrev S2x16384x128 : Shape := ⟨3, ![2, 16384, 128]⟩
abbrev S2x2x512x512 : Shape := ⟨4, ![2, 2, 512, 512]⟩
abbrev S2x144x512 : Shape := ⟨3, ![2, 144, 512]⟩
abbrev S1x512x128 : Shape := ⟨3, ![1, 512, 128]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S32x512 : Shape := ⟨2, ![32, 512]⟩
abbrev S512x512 : Shape := ⟨2, ![512, 512]⟩
abbrev S1x1x512x512 : Shape := ⟨4, ![1, 1, 512, 512]⟩
abbrev S1x1x512 : Shape := ⟨3, ![1, 1, 512]⟩
abbrev S1x512 : Shape := ⟨2, ![1, 512]⟩
abbrev S1x1x32x512 : Shape := ⟨4, ![1, 1, 32, 512]⟩
abbrev S1x144x512 : Shape := ⟨3, ![1, 144, 512]⟩
abbrev S144x512 : Shape := ⟨2, ![144, 512]⟩

abbrev nBuf : Space → Nat
  | .hbm => 189
  | .vmem => 29
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x8, .f32⟩
  | 4 => ⟨S16384x512, .f32⟩
  | 5 => ⟨S_, .f32⟩
  | 6 => ⟨S_, .f32⟩
  | 7 => ⟨S_, .f32⟩
  | 8 => ⟨S_, .f32⟩
  | 9 => ⟨S8x16384x128, .i32⟩
  | 10 => ⟨S8x16384x128, .i32⟩
  | 11 => ⟨S_, .i32⟩
  | 12 => ⟨S8x16384x128, .i32⟩
  | 13 => ⟨S8x16384x128, .i32⟩
  | 14 => ⟨S_, .i32⟩
  | 15 => ⟨S8x16384x128, .i32⟩
  | 16 => ⟨S8x16384x128, .i32⟩
  | 17 => ⟨S_, .i32⟩
  | 18 => ⟨S8x16384x128, .i32⟩
  | 19 => ⟨S8x16384x128, .i32⟩
  | 20 => ⟨S_, .i32⟩
  | 21 => ⟨S8x16384x128, .i32⟩
  | 22 => ⟨S8x16384x128, .i32⟩
  | 23 => ⟨S8x16384x128, .i1⟩
  | 24 => ⟨S_, .i32⟩
  | 25 => ⟨S8x16384x128, .i32⟩
  | 26 => ⟨S8x16384x128, .i32⟩
  | 27 => ⟨S_, .i32⟩
  | 28 => ⟨S8x16384x128, .i32⟩
  | 29 => ⟨S8x16384x128, .i32⟩
  | 30 => ⟨S8x16384x128, .i1⟩
  | 31 => ⟨S8x16384x128, .i1⟩
  | 32 => ⟨S16384x8, .f32⟩
  | 33 => ⟨S16384x8, .f32⟩
  | 34 => ⟨S8x16384, .f32⟩
  | 35 => ⟨S8x16384x1, .f32⟩
  | 36 => ⟨S8x16384x128, .f32⟩
  | 37 => ⟨S8x16384x128, .bf16⟩
  | 38 => ⟨S8x16384x128, .f32⟩
  | 39 => ⟨S8x16384x128, .f32⟩
  | 40 => ⟨S8x16384x128, .bf16⟩
  | 41 => ⟨S8x16384x128, .f32⟩
  | 42 => ⟨S8x16384x128, .f32⟩
  | 43 => ⟨S8x16384x128, .f32⟩
  | 44 => ⟨S8x16384x128, .i1⟩
  | 45 => ⟨S_, .i32⟩
  | 46 => ⟨S8x16384x128, .i32⟩
  | 47 => ⟨S8x16384x128, .i32⟩
  | 48 => ⟨S8x16384x128, .i1⟩
  | 49 => ⟨S_, .i32⟩
  | 50 => ⟨S8x16384x128, .i32⟩
  | 51 => ⟨S8x16384x128, .i32⟩
  | 52 => ⟨S8x16384x128, .i1⟩
  | 53 => ⟨S_, .f32⟩
  | 54 => ⟨S_, .f32⟩
  | 55 => ⟨S8x16384x128, .f32⟩
  | 56 => ⟨S8x16384x128, .f32⟩
  | 57 => ⟨S8x16384x128, .f32⟩
  | 58 => ⟨S8x16384x128, .f32⟩
  | 59 => ⟨S_, .i32⟩
  | 60 => ⟨S8x16384x128, .i32⟩
  | 61 => ⟨S8x16384x128, .i32⟩
  | 62 => ⟨S8x16384x128, .i1⟩
  | 63 => ⟨S_, .i32⟩
  | 64 => ⟨S8x16384x128, .i32⟩
  | 65 => ⟨S8x16384x128, .i32⟩
  | 66 => ⟨S8x16384x128, .i1⟩
  | 67 => ⟨S_, .i32⟩
  | 68 => ⟨S8x16384x128, .i32⟩
  | 69 => ⟨S8x16384x128, .i32⟩
  | 70 => ⟨S8x16384x128, .i1⟩
  | 71 => ⟨S_, .f32⟩
  | 72 => ⟨S_, .f32⟩
  | 73 => ⟨S8x16384x128, .f32⟩
  | 74 => ⟨S8x16384x128, .f32⟩
  | 75 => ⟨S8x16384x128, .f32⟩
  | 76 => ⟨S8x16384x128, .f32⟩
  | 77 => ⟨S_, .i32⟩
  | 78 => ⟨S8x16384x128, .i32⟩
  | 79 => ⟨S8x16384x128, .i32⟩
  | 80 => ⟨S8x16384x128, .i1⟩
  | 81 => ⟨S_, .i32⟩
  | 82 => ⟨S8x16384x128, .i32⟩
  | 83 => ⟨S8x16384x128, .i32⟩
  | 84 => ⟨S8x16384x128, .i1⟩
  | 85 => ⟨S8x16384x128, .i1⟩
  | 86 => ⟨S_, .f32⟩
  | 87 => ⟨S_, .f32⟩
  | 88 => ⟨S8x16384x128, .f32⟩
  | 89 => ⟨S8x16384x128, .f32⟩
  | 90 => ⟨S8x16384x128, .f32⟩
  | 91 => ⟨S8x16384x128, .i1⟩
  | 92 => ⟨S_, .i32⟩
  | 93 => ⟨S8x16384x128, .i32⟩
  | 94 => ⟨S8x16384x128, .i32⟩
  | 95 => ⟨S8x16384x128, .i1⟩
  | 96 => ⟨S8x16384x128, .i1⟩
  | 97 => ⟨S_, .f32⟩
  | 98 => ⟨S_, .f32⟩
  | 99 => ⟨S8x16384x128, .f32⟩
  | 100 => ⟨S8x16384x128, .f32⟩
  | 101 => ⟨S8x16384x128, .f32⟩
  | 102 => ⟨S16384x4x1x128, .f32⟩
  | 103 => ⟨S16384x4x2x128, .f32⟩
  | 104 => ⟨S4x2x16384x128, .f32⟩
  | 105 => ⟨S8x16384x128, .f32⟩
  | 106 => ⟨S_, .f32⟩
  | 107 => ⟨S_, .f32⟩
  | 108 => ⟨S8x16384x128, .f32⟩
  | 109 => ⟨S8x16384x128, .f32⟩
  | 110 => ⟨S8x16384x128, .f32⟩
  | 111 => ⟨S8x16384x128, .f32⟩
  | 112 => ⟨S8x16384x128, .f32⟩
  | 113 => ⟨S8x16384x128, .bf16⟩
  | 114 => ⟨S16384x4x1x128, .f32⟩
  | 115 => ⟨S16384x4x2x128, .f32⟩
  | 116 => ⟨S4x2x16384x128, .f32⟩
  | 117 => ⟨S8x16384x128, .f32⟩
  | 118 => ⟨S8x16384x128, .f32⟩
  | 119 => ⟨S8x16384x128, .f32⟩
  | 120 => ⟨S8x16384x128, .f32⟩
  | 121 => ⟨S8x16384x128, .bf16⟩
  | 122 => ⟨S16384x4x1x128, .f32⟩
  | 123 => ⟨S16384x4x2x128, .f32⟩
  | 124 => ⟨S4x2x16384x128, .f32⟩
  | 125 => ⟨S8x16384x128, .f32⟩
  | 126 => ⟨S8x16384x128, .i1⟩
  | 127 => ⟨S_, .f32⟩
  | _ => ⟨S16384x512, .f32⟩

abbrev hbmTy0_1 (i : Nat) : BufTy := match i % 128 with
  | 0 => ⟨S_, .f32⟩
  | 1 => ⟨S8x16384x128, .f32⟩
  | 2 => ⟨S8x16384x128, .f32⟩
  | 3 => ⟨S8x16384x128, .f32⟩
  | 4 => ⟨S8x16384x128, .f32⟩
  | 5 => ⟨S8x16384x128, .f32⟩
  | 6 => ⟨S8x16384x128, .bf16⟩
  | 7 => ⟨S16384x8x64, .f32⟩
  | 8 => ⟨S16384x8x64, .f32⟩
  | 9 => ⟨S16384x8x64, .f32⟩
  | 10 => ⟨S16384x8x64, .f32⟩
  | 11 => ⟨S8x16384x16384, .f32⟩
  | 12 => ⟨S_, .f32⟩
  | 13 => ⟨S8x16384x16384, .f32⟩
  | 14 => ⟨S8x16384x16384, .f32⟩
  | 15 => ⟨S8x16384, .f32⟩
  | 16 => ⟨S8x16384x1, .f32⟩
  | 17 => ⟨S8x16384x16384, .f32⟩
  | 18 => ⟨S8x16384x16384, .f32⟩
  | 19 => ⟨S8x16384, .f32⟩
  | 20 => ⟨S8x1x16384, .f32⟩
  | 21 => ⟨S8x16384x16384, .f32⟩
  | 22 => ⟨S8x16384x16384, .f32⟩
  | 23 => ⟨S16384x16384, .i32⟩
  | 24 => ⟨S16384x16384, .i32⟩
  | 25 => ⟨S16384x16384, .i1⟩
  | 26 => ⟨S1x16384x16384, .i1⟩
  | 27 => ⟨S_, .f32⟩
  | 28 => ⟨S_, .f32⟩
  | 29 => ⟨S8x16384x16384, .i1⟩
  | 30 => ⟨S8x16384x16384, .f32⟩
  | 31 => ⟨S8x16384x16384, .f32⟩
  | 32 => ⟨S_, .f32⟩
  | 33 => ⟨S8x16384, .f32⟩
  | 34 => ⟨S8x16384x1, .f32⟩
  | 35 => ⟨S8x16384x16384, .f32⟩
  | 36 => ⟨S8x16384x16384, .f32⟩
  | 37 => ⟨S8x16384x16384, .f32⟩
  | 38 => ⟨S_, .f32⟩
  | 39 => ⟨S8x16384, .f32⟩
  | 40 => ⟨S8x16384x1, .f32⟩
  | 41 => ⟨S8x16384x16384, .f32⟩
  | 42 => ⟨S8x16384x16384, .f32⟩
  | 43 => ⟨S8x64x16384, .f32⟩
  | 44 => ⟨S16384x8x64, .f32⟩
  | 45 => ⟨S8x16384, .f32⟩
  | 46 => ⟨S8x16384, .f32⟩
  | 47 => ⟨S8x16384, .f32⟩
  | 48 => ⟨S8x16384, .f32⟩
  | 49 => ⟨S16384x8x64, .f32⟩
  | 50 => ⟨S_, .f32⟩
  | 51 => ⟨S16384x8, .f32⟩
  | 52 => ⟨S8x16384, .f32⟩
  | 53 => ⟨S4x2x16384, .f32⟩
  | 54 => ⟨S4x2x16384, .f32⟩
  | 55 => ⟨S16384x512, .bf16⟩
  | 56 => ⟨S4x128x16384, .f32⟩
  | 57 => ⟨S16384x512, .bf16⟩
  | 58 => ⟨S16384x512, .bf16⟩
  | 59 => ⟨S4x2x16384, .f32⟩
  | 60 => ⟨S4x2x16384, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | .local _ .vmem, ⟨0, _⟩ => ⟨S16384x128, .bf16⟩
  | .local _ .vmem, ⟨1, _⟩ => ⟨S16384x128, .bf16⟩
  | .local _ .vmem, ⟨2, _⟩ => ⟨S2x512x128, .bf16⟩
  | .local _ .vmem, ⟨3, _⟩ => ⟨S2x512x128, .bf16⟩
  | .local _ .vmem, ⟨4, _⟩ => ⟨S2x512x128, .bf16⟩
  | .local _ .vmem, ⟨5, _⟩ => ⟨S2x512x128, .bf16⟩
  | .local _ .vmem, ⟨6, _⟩ => ⟨S1x2x16384, .f32⟩
  | .local _ .vmem, ⟨7, _⟩ => ⟨S1x2x16384, .f32⟩
  | .local _ .vmem, ⟨8, _⟩ => ⟨S1x2x16384, .f32⟩
  | .local _ .vmem, ⟨9, _⟩ => ⟨S1x2x16384, .f32⟩
  | .local _ .vmem, ⟨10, _⟩ => ⟨S1x128x16384, .f32⟩
  | .local _ .vmem, ⟨11, _⟩ => ⟨S1x128x16384, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S1x2x16384, .f32⟩
  | .local _ .vmem, ⟨17, _⟩ => ⟨S1x2x16384, .f32⟩
  | .local _ .vmem, ⟨18, _⟩ => ⟨S1x2x16384, .f32⟩
  | .local _ .vmem, ⟨19, _⟩ => ⟨S1x2x16384, .f32⟩
  | .local _ .vmem, ⟨20, _⟩ => ⟨S2x16384x128, .bf16⟩
  | .local _ .vmem, ⟨21, _⟩ => ⟨S2x2x512x512, .f32⟩
  | .local _ .vmem, ⟨22, _⟩ => ⟨S2x2x512x512, .f32⟩
  | .local _ .vmem, ⟨23, _⟩ => ⟨S2x2x512x512, .bf16⟩
  | .local _ .vmem, ⟨24, _⟩ => ⟨S2x2x512x512, .bf16⟩
  | .local _ .vmem, ⟨25, _⟩ => ⟨S2x512x128, .f32⟩
  | .local _ .vmem, ⟨26, _⟩ => ⟨S2x512x128, .f32⟩
  | .local _ .vmem, ⟨27, _⟩ => ⟨S2x512x128, .bf16⟩
  | .local _ .vmem, ⟨28, _⟩ => ⟨S2x144x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_call0_v0 : Ref sig .tc := ⟨.hbm, 54, rfl⟩
abbrev main_call0_v1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_call3_v0 : Ref sig .tc := ⟨.hbm, 72, rfl⟩
abbrev main_call3_v1 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_cst_16 : Ref sig .tc := ⟨.hbm, 87, rfl⟩
abbrev main_call6_v0 : Ref sig .tc := ⟨.hbm, 88, rfl⟩
abbrev main_call6_v1 : Ref sig .tc := ⟨.hbm, 89, rfl⟩
abbrev main_v60 : Ref sig .tc := ⟨.hbm, 90, rfl⟩
abbrev main_v61 : Ref sig .tc := ⟨.hbm, 91, rfl⟩
abbrev main_c_17 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_18 : Ref sig .tc := ⟨.hbm, 97, rfl⟩
abbrev main_cst_19 : Ref sig .tc := ⟨.hbm, 98, rfl⟩
abbrev main_call7_v0 : Ref sig .tc := ⟨.hbm, 99, rfl⟩
abbrev main_call7_v1 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_20 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_21 : Ref sig .tc := ⟨.hbm, 127, rfl⟩
abbrev main_cst_22 : Ref sig .tc := ⟨.hbm, 128, rfl⟩
abbrev main_call10_v0 : Ref sig .tc := ⟨.hbm, 129, rfl⟩
abbrev main_call10_v1 : Ref sig .tc := ⟨.hbm, 130, rfl⟩
abbrev main_v91 : Ref sig .tc := ⟨.hbm, 131, rfl⟩
abbrev main_call11_v0 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_23 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_24 : Ref sig .tc := ⟨.hbm, 155, rfl⟩
abbrev main_call12_v0 : Ref sig .tc := ⟨.hbm, 156, rfl⟩
abbrev main_call12_v1 : Ref sig .tc := ⟨.hbm, 157, rfl⟩
abbrev main_call12_v2 : Ref sig .tc := ⟨.hbm, 158, rfl⟩
abbrev main_v113 : Ref sig .tc := ⟨.hbm, 159, rfl⟩
abbrev main_cst_25 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_26 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_27 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135_0 : Ref sig .tc := ⟨.hbm, 184, rfl⟩
abbrev main_v135_1 : Ref sig .tc := ⟨.hbm, 185, rfl⟩
abbrev main_v135_2 : Ref sig .tc := ⟨.hbm, 186, rfl⟩
abbrev main_v135_3 : Ref sig .tc := ⟨.hbm, 187, rfl⟩
abbrev main_v135_4 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c2_i32_751 : BitVec 32 := 2#32
  let arg0 : BitVec 32 := BitVec.ofNat 32 (i 0).val
  let v988 : BitVec 32 := Scalar.muli c2_i32_751 arg0
  let c0_i32_760_r0 : BitVec 32 := 0#32
  let c0_i32_761_r0 : BitVec 32 := 0#32
  ![v988.toNat, 0, 0]
def k0_mult1 (i : grid0.Coords) : BitVec 32 :=
  let arg1 : BitVec 32 := BitVec.ofNat 32 (i 1).val
  let c512_i32 : BitVec 32 := 512#32
  let v58 : BitVec 32 := Scalar.muli arg1 c512_i32
  v58
def k0_off2 (i : grid0.Coords) : Fin 2 → Nat :=
  let arg1 : BitVec 32 := BitVec.ofNat 32 (i 1).val
  let c512_i32 : BitVec 32 := 512#32
  let v58 : BitVec 32 := Scalar.muli arg1 c512_i32
  let v59 : BitVec 32 := v58
  let v60 : Index := Scalar.indexCast v59
  let c0_40 : Index := 0#32
  ![v60.toNat, 0]
def k0_off3 (i : grid0.Coords) : Fin 3 → Nat :=
  let c0_41 : Index := 0#32
  let arg1 : BitVec 32 := BitVec.ofNat 32 (i 1).val
  let c512_i32 : BitVec 32 := 512#32
  let v58 : BitVec 32 := Scalar.muli arg1 c512_i32
  let v59 : BitVec 32 := v58
  let v63 : Index := Scalar.indexCast v59
  let c0_42 : Index := 0#32
  ![0, v63.toNat, 0]
def k0_off4 (i : grid0.Coords) : Fin 3 → Nat :=
  let c1_43 : Index := 1#32
  let arg1 : BitVec 32 := BitVec.ofNat 32 (i 1).val
  let c512_i32 : BitVec 32 := 512#32
  let v58 : BitVec 32 := Scalar.muli arg1 c512_i32
  let v59 : BitVec 32 := v58
  let v66 : Index := Scalar.indexCast v59
  let c0_44 : Index := 0#32
  ![1, v66.toNat, 0]
def k0_off5 (i : grid0.Coords) : Fin 3 → Nat :=
  let c0_77 : Index := 0#32
  let c0_78 : Index := 0#32
  let arg1 : BitVec 32 := BitVec.ofNat 32 (i 1).val
  let c512_i32 : BitVec 32 := 512#32
  let v58 : BitVec 32 := Scalar.muli arg1 c512_i32
  let v59 : BitVec 32 := v58
  let v93 : Index := Scalar.indexCast v59
  ![0, 0, v93.toNat]
def k0_off6 (i : grid0.Coords) : Fin 3 → Nat :=
  let c0_341 : Index := 0#32
  let c1_342 : Index := 1#32
  let arg1 : BitVec 32 := BitVec.ofNat 32 (i 1).val
  let c512_i32 : BitVec 32 := 512#32
  let v58 : BitVec 32 := Scalar.muli arg1 c512_i32
  let v59 : BitVec 32 := v58
  let v467 : Index := Scalar.indexCast v59
  ![0, 1, v467.toNat]
def k0_off7 (i : grid0.Coords) : Fin 3 → Nat :=
  let c0_702 : Index := 0#32
  let c0_703 : Index := 0#32
  let arg1 : BitVec 32 := BitVec.ofNat 32 (i 1).val
  let c512_i32 : BitVec 32 := 512#32
  let v58 : BitVec 32 := Scalar.muli arg1 c512_i32
  let v59 : BitVec 32 := v58
  let v910 : Index := Scalar.indexCast v59
  ![0, 0, v910.toNat]
@[reducible] def k0_t1_loop (i : grid0.Coords) : Scf.Loop 32 :=
  let c0_i32_712 : BitVec 32 := 0#32
  let c31_i32 : BitVec 32 := 31#32
  let arg1 : BitVec 32 := BitVec.ofNat 32 (i 1).val
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_714 : BitVec 32 := 1#32
  ⟨c0_i32_712, v940, c1_i32_714⟩
def k0_mult2 (i : grid0.Coords) (k0_t1 : Fin (k0_t1_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c512_i32_753 : BitVec 32 := 512#32
  let v991 : BitVec 32 := Scalar.muli v990 c512_i32_753
  v991
def k0_off8 (i : grid0.Coords) (k0_t1 : Fin (k0_t1_loop i).trips) : Fin 2 → Nat :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v993 : Index := Scalar.indexCast v992
  let c0_754 : Index := 0#32
  ![v993.toNat, 0]
def k0_off9 (i : grid0.Coords) (k0_t1 : Fin (k0_t1_loop i).trips) : Fin 3 → Nat :=
  let c0_755 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v996 : Index := Scalar.indexCast v992
  let c0_756 : Index := 0#32
  ![0, v996.toNat, 0]
def k0_off10 (i : grid0.Coords) (k0_t1 : Fin (k0_t1_loop i).trips) : Fin 3 → Nat :=
  let c1_757 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v999 : Index := Scalar.indexCast v992
  let c0_758 : Index := 0#32
  ![1, v999.toNat, 0]
def k0_off11 (i : grid0.Coords) (k0_t1 : Fin (k0_t1_loop i).trips) : Fin 3 → Nat :=
  let c0_791 : Index := 0#32
  let c0_792 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v1026 : Index := Scalar.indexCast v992
  ![0, 0, v1026.toNat]
def k0_off12 (i : grid0.Coords) (k0_t1 : Fin (k0_t1_loop i).trips) : Fin 3 → Nat :=
  let c0_1051 : Index := 0#32
  let c1_1052 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v1320 : Index := Scalar.indexCast v992
  ![0, 1, v1320.toNat]
def k0_off13 (i : grid0.Coords) (k0_t1 : Fin (k0_t1_loop i).trips) : Fin 3 → Nat :=
  let c0_1380 : Index := 0#32
  let c0_1381 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v1683 : Index := Scalar.indexCast v992
  ![0, 0, v1683.toNat]
def k0_mult3 (i : grid0.Coords) (k0_t1 : Fin (k0_t1_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c1_i32_1384 : BitVec 32 := 1#32
  let v1691 : BitVec 32 := Scalar.addi v990 c1_i32_1384
  let c512_i32_1385 : BitVec 32 := 512#32
  let v1692 : BitVec 32 := Scalar.muli v1691 c512_i32_1385
  v1692
def k0_off14 (i : grid0.Coords) (k0_t1 : Fin (k0_t1_loop i).trips) (c1_i32_1384 : BitVec 32) : Fin 2 → Nat :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1694 : Index := Scalar.indexCast v1693
  let c0_1386 : Index := 0#32
  ![v1694.toNat, 0]
def k0_off15 (i : grid0.Coords) (k0_t1 : Fin (k0_t1_loop i).trips) (c1_i32_1384 : BitVec 32) : Fin 3 → Nat :=
  let c0_1387 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1697 : Index := Scalar.indexCast v1693
  let c0_1388 : Index := 0#32
  ![0, v1697.toNat, 0]
def k0_off16 (i : grid0.Coords) (k0_t1 : Fin (k0_t1_loop i).trips) (c1_i32_1384 : BitVec 32) : Fin 3 → Nat :=
  let c1_1389 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1700 : Index := Scalar.indexCast v1693
  let c0_1390 : Index := 0#32
  ![1, v1700.toNat, 0]
def k0_off17 (i : grid0.Coords) (k0_t1 : Fin (k0_t1_loop i).trips) (c1_i32_1384 : BitVec 32) : Fin 3 → Nat :=
  let c0_1423 : Index := 0#32
  let c0_1424 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1727 : Index := Scalar.indexCast v1693
  ![0, 0, v1727.toNat]
def k0_off18 (i : grid0.Coords) (k0_t1 : Fin (k0_t1_loop i).trips) (c1_i32_1384 : BitVec 32) : Fin 3 → Nat :=
  let c0_1683 : Index := 0#32
  let c1_1684 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v2021 : Index := Scalar.indexCast v1693
  ![0, 1, v2021.toNat]
def k0_off19 (i : grid0.Coords) (k0_t1 : Fin (k0_t1_loop i).trips) (c1_i32_1384 : BitVec 32) : Fin 3 → Nat :=
  let c0_2012 : Index := 0#32
  let c0_2013 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v2384 : Index := Scalar.indexCast v1693
  ![0, 0, v2384.toNat]
def k0_mult4 (i : grid0.Coords) (k0_t1 : Fin (k0_t1_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c2_i32_2016 : BitVec 32 := 2#32
  let v2392 : BitVec 32 := Scalar.addi v990 c2_i32_2016
  let c512_i32_2017 : BitVec 32 := 512#32
  let v2393 : BitVec 32 := Scalar.muli v2392 c512_i32_2017
  v2393
def k0_mult5 (i : grid0.Coords) (k0_t1 : Fin (k0_t1_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c1_i32_714 : BitVec 32 := 1#32
  let arg22 : BitVec 32 := Scf.iv c0_i32_712 c1_i32_714 k0_t1
  let v989 : BitVec 32 := Scalar.muli c4_i32_752 arg22
  let v990 : BitVec 32 := Scalar.addi v988 v989
  let c3_i32 : BitVec 32 := 3#32
  let v3093 : BitVec 32 := Scalar.addi v990 c3_i32
  let c512_i32_2648 : BitVec 32 := 512#32
  let v3094 : BitVec 32 := Scalar.muli v3093 c512_i32_2648
  v3094
@[reducible] def k0_t2_loop (i : grid0.Coords) : Scf.Loop 32 :=
  let c0_i32_712 : BitVec 32 := 0#32
  let c31_i32 : BitVec 32 := 31#32
  let arg1 : BitVec 32 := BitVec.ofNat 32 (i 1).val
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let v937 : BitVec 32 := Scalar.addi c0_i32_712 v936
  let c1_i32_715 : BitVec 32 := 1#32
  ⟨v940, v937, c1_i32_715⟩
def k0_mult6 (i : grid0.Coords) (k0_t2 : Fin (k0_t2_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c512_i32_753 : BitVec 32 := 512#32
  let v991 : BitVec 32 := Scalar.muli v990 c512_i32_753
  v991
def k0_off20 (i : grid0.Coords) (k0_t2 : Fin (k0_t2_loop i).trips) : Fin 2 → Nat :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v993 : Index := Scalar.indexCast v992
  let c0_754 : Index := 0#32
  ![v993.toNat, 0]
def k0_off21 (i : grid0.Coords) (k0_t2 : Fin (k0_t2_loop i).trips) : Fin 3 → Nat :=
  let c0_755 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v996 : Index := Scalar.indexCast v992
  let c0_756 : Index := 0#32
  ![0, v996.toNat, 0]
def k0_off22 (i : grid0.Coords) (k0_t2 : Fin (k0_t2_loop i).trips) : Fin 3 → Nat :=
  let c1_757 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v999 : Index := Scalar.indexCast v992
  let c0_758 : Index := 0#32
  ![1, v999.toNat, 0]
def k0_off23 (i : grid0.Coords) (k0_t2 : Fin (k0_t2_loop i).trips) : Fin 3 → Nat :=
  let c0_791 : Index := 0#32
  let c0_792 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v1026 : Index := Scalar.indexCast v992
  ![0, 0, v1026.toNat]
def k0_off24 (i : grid0.Coords) (k0_t2 : Fin (k0_t2_loop i).trips) : Fin 3 → Nat :=
  let c0_1051 : Index := 0#32
  let c1_1052 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v1320 : Index := Scalar.indexCast v992
  ![0, 1, v1320.toNat]
def k0_off25 (i : grid0.Coords) (k0_t2 : Fin (k0_t2_loop i).trips) : Fin 3 → Nat :=
  let c0_1380 : Index := 0#32
  let c0_1381 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c512_i32_753 : BitVec 32 := 512#32
  let v991 : BitVec 32 := Scalar.muli v990 c512_i32_753
  let v992 : BitVec 32 := v991
  let v1683 : Index := Scalar.indexCast v992
  ![0, 0, v1683.toNat]
def k0_mult7 (i : grid0.Coords) (k0_t2 : Fin (k0_t2_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c1_i32_1384 : BitVec 32 := 1#32
  let v1691 : BitVec 32 := Scalar.addi v990 c1_i32_1384
  let c512_i32_1385 : BitVec 32 := 512#32
  let v1692 : BitVec 32 := Scalar.muli v1691 c512_i32_1385
  v1692
def k0_off26 (i : grid0.Coords) (k0_t2 : Fin (k0_t2_loop i).trips) (c1_i32_1384 : BitVec 32) : Fin 2 → Nat :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1694 : Index := Scalar.indexCast v1693
  let c0_1386 : Index := 0#32
  ![v1694.toNat, 0]
def k0_off27 (i : grid0.Coords) (k0_t2 : Fin (k0_t2_loop i).trips) (c1_i32_1384 : BitVec 32) : Fin 3 → Nat :=
  let c0_1387 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1697 : Index := Scalar.indexCast v1693
  let c0_1388 : Index := 0#32
  ![0, v1697.toNat, 0]
def k0_off28 (i : grid0.Coords) (k0_t2 : Fin (k0_t2_loop i).trips) (c1_i32_1384 : BitVec 32) : Fin 3 → Nat :=
  let c1_1389 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1700 : Index := Scalar.indexCast v1693
  let c0_1390 : Index := 0#32
  ![1, v1700.toNat, 0]
def k0_off29 (i : grid0.Coords) (k0_t2 : Fin (k0_t2_loop i).trips) (c1_i32_1384 : BitVec 32) : Fin 3 → Nat :=
  let c0_1423 : Index := 0#32
  let c0_1424 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v1727 : Index := Scalar.indexCast v1693
  ![0, 0, v1727.toNat]
def k0_off30 (i : grid0.Coords) (k0_t2 : Fin (k0_t2_loop i).trips) (c1_i32_1384 : BitVec 32) : Fin 3 → Nat :=
  let c0_1683 : Index := 0#32
  let c1_1684 : Index := 1#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v2021 : Index := Scalar.indexCast v1693
  ![0, 1, v2021.toNat]
def k0_off31 (i : grid0.Coords) (k0_t2 : Fin (k0_t2_loop i).trips) (c1_i32_1384 : BitVec 32) : Fin 3 → Nat :=
  let c0_2012 : Index := 0#32
  let c0_2013 : Index := 0#32
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let v1691 : BitVec 32 := Scalar.addi v990 c1_i32_1384
  let c512_i32_1385 : BitVec 32 := 512#32
  let v1692 : BitVec 32 := Scalar.muli v1691 c512_i32_1385
  let v1693 : BitVec 32 := v1692
  let v2384 : Index := Scalar.indexCast v1693
  ![0, 0, v2384.toNat]
def k0_mult8 (i : grid0.Coords) (k0_t2 : Fin (k0_t2_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c2_i32_2016 : BitVec 32 := 2#32
  let v2392 : BitVec 32 := Scalar.addi v990 c2_i32_2016
  let c512_i32_2017 : BitVec 32 := 512#32
  let v2393 : BitVec 32 := Scalar.muli v2392 c512_i32_2017
  v2393
def k0_mult9 (i : grid0.Coords) (k0_t2 : Fin (k0_t2_loop i).trips) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c0_i32_712 : BitVec 32 := 0#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v936 : BitVec 32 := Scalar.subi v935 c0_i32_712
  let c1_i32_713 : BitVec 32 := 1#32
  let v938 : BitVec 32 := Scalar.divsi v936 c1_i32_713
  let v939 : BitVec 32 := Scalar.muli v938 c1_i32_713
  let v940 : BitVec 32 := Scalar.addi c0_i32_712 v939
  let c1_i32_715 : BitVec 32 := 1#32
  let arg22 : BitVec 32 := Scf.iv v940 c1_i32_715 k0_t2
  let v989 : BitVec 32 := Scalar.muli c4_i32_752 arg22
  let v990 : BitVec 32 := Scalar.addi v988 v989
  let c3_i32 : BitVec 32 := 3#32
  let v3093 : BitVec 32 := Scalar.addi v990 c3_i32
  let c512_i32_2648 : BitVec 32 := 512#32
  let v3094 : BitVec 32 := Scalar.muli v3093 c512_i32_2648
  v3094
def k0_cond2 (i : grid0.Coords) : BitVec 1 :=
  let c31_i32 : BitVec 32 := 31#32
  let arg1 : BitVec 32 := BitVec.ofNat 32 (i 1).val
  let v918 : BitVec 32 := Scalar.subi c31_i32 arg1
  let c4_i32_716 : BitVec 32 := 4#32
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v941 : BitVec 32 := Scalar.muli c4_i32_716 v935
  let v942 : BitVec 32 := Scalar.subi v918 v941
  let c2_i32 : BitVec 32 := 2#32
  let v943 : BitVec 1 := Scalar.cmpi .sge v942 c2_i32
  let v944 : BitVec 32 := Scalar.extui v943
  let c0_i32_717 : BitVec 32 := 0#32
  let v945 : BitVec 1 := Scalar.cmpi .ne v944 c0_i32_717
  v945

def k0_mult10 (i : grid0.Coords) : BitVec 32 :=
  let arg1 : BitVec 32 := BitVec.ofNat 32 (i 1).val
  let c1_i32_751 : BitVec 32 := 1#32
  let v988 : BitVec 32 := Scalar.addi arg1 c1_i32_751
  let c4_i32_752 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v989 : BitVec 32 := Scalar.muli c4_i32_752 v935
  let v990 : BitVec 32 := Scalar.addi v988 v989
  let c512_i32_753 : BitVec 32 := 512#32
  let v991 : BitVec 32 := Scalar.muli v990 c512_i32_753
  v991
def k0_off32 (i : grid0.Coords) (c1_i32_751 : BitVec 32) : Fin 2 → Nat :=
  let arg1 : BitVec 32 := BitVec.ofNat 32 (i 1).val
  let v988 : BitVec 32 := Scalar.addi arg1 c1_i32_751
  let c4_i32_752 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v989 : BitVec 32 := Scalar.muli c4_i32_752 v935
  let v990 : BitVec 32 := Scalar.addi v988 v989
  let c512_i32_753 : BitVec 32 := 512#32
  let v991 : BitVec 32 := Scalar.muli v990 c512_i32_753
  let v992 : BitVec 32 := v991
  let v993 : Index := Scalar.indexCast v992
  let c0_754 : Index := 0#32
  ![v993.toNat, 0]
def k0_off33 (i : grid0.Coords) (c1_i32_751 : BitVec 32) : Fin 3 → Nat :=
  let c0_755 : Index := 0#32
  let arg1 : BitVec 32 := BitVec.ofNat 32 (i 1).val
  let v988 : BitVec 32 := Scalar.addi arg1 c1_i32_751
  let c4_i32_752 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v989 : BitVec 32 := Scalar.muli c4_i32_752 v935
  let v990 : BitVec 32 := Scalar.addi v988 v989
  let c512_i32_753 : BitVec 32 := 512#32
  let v991 : BitVec 32 := Scalar.muli v990 c512_i32_753
  let v992 : BitVec 32 := v991
  let v996 : Index := Scalar.indexCast v992
  let c0_756 : Index := 0#32
  ![0, v996.toNat, 0]
def k0_off34 (i : grid0.Coords) (c1_i32_751 : BitVec 32) : Fin 3 → Nat :=
  let c1_757 : Index := 1#32
  let arg1 : BitVec 32 := BitVec.ofNat 32 (i 1).val
  let v988 : BitVec 32 := Scalar.addi arg1 c1_i32_751
  let c4_i32_752 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v989 : BitVec 32 := Scalar.muli c4_i32_752 v935
  let v990 : BitVec 32 := Scalar.addi v988 v989
  let c512_i32_753 : BitVec 32 := 512#32
  let v991 : BitVec 32 := Scalar.muli v990 c512_i32_753
  let v992 : BitVec 32 := v991
  let v999 : Index := Scalar.indexCast v992
  let c0_758 : Index := 0#32
  ![1, v999.toNat, 0]
def k0_off35 (i : grid0.Coords) (c1_i32_751 : BitVec 32) : Fin 3 → Nat :=
  let c0_791 : Index := 0#32
  let c0_792 : Index := 0#32
  let arg1 : BitVec 32 := BitVec.ofNat 32 (i 1).val
  let v988 : BitVec 32 := Scalar.addi arg1 c1_i32_751
  let c4_i32_752 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v989 : BitVec 32 := Scalar.muli c4_i32_752 v935
  let v990 : BitVec 32 := Scalar.addi v988 v989
  let c512_i32_753 : BitVec 32 := 512#32
  let v991 : BitVec 32 := Scalar.muli v990 c512_i32_753
  let v992 : BitVec 32 := v991
  let v1026 : Index := Scalar.indexCast v992
  ![0, 0, v1026.toNat]
def k0_off36 (i : grid0.Coords) (c1_i32_751 : BitVec 32) : Fin 3 → Nat :=
  let c0_1051 : Index := 0#32
  let c1_1052 : Index := 1#32
  let arg1 : BitVec 32 := BitVec.ofNat 32 (i 1).val
  let v988 : BitVec 32 := Scalar.addi arg1 c1_i32_751
  let c4_i32_752 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v989 : BitVec 32 := Scalar.muli c4_i32_752 v935
  let v990 : BitVec 32 := Scalar.addi v988 v989
  let c512_i32_753 : BitVec 32 := 512#32
  let v991 : BitVec 32 := Scalar.muli v990 c512_i32_753
  let v992 : BitVec 32 := v991
  let v1320 : Index := Scalar.indexCast v992
  ![0, 1, v1320.toNat]
def k0_off37 (i : grid0.Coords) (c1_i32_751 : BitVec 32) : Fin 3 → Nat :=
  let c0_1380 : Index := 0#32
  let c0_1381 : Index := 0#32
  let arg1 : BitVec 32 := BitVec.ofNat 32 (i 1).val
  let v988 : BitVec 32 := Scalar.addi arg1 c1_i32_751
  let c4_i32_752 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v989 : BitVec 32 := Scalar.muli c4_i32_752 v935
  let v990 : BitVec 32 := Scalar.addi v988 v989
  let c512_i32_753 : BitVec 32 := 512#32
  let v991 : BitVec 32 := Scalar.muli v990 c512_i32_753
  let v992 : BitVec 32 := v991
  let v1683 : Index := Scalar.indexCast v992
  ![0, 0, v1683.toNat]
def k0_mult11 (i : grid0.Coords) : BitVec 32 :=
  let arg1 : BitVec 32 := BitVec.ofNat 32 (i 1).val
  let c2_i32_1384 : BitVec 32 := 2#32
  let v1691 : BitVec 32 := Scalar.addi arg1 c2_i32_1384
  let c4_i32_1385 : BitVec 32 := 4#32
  let c31_i32 : BitVec 32 := 31#32
  let v918 : BitVec 32 := Scalar.subi c31_i32 arg1
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v1692 : BitVec 32 := Scalar.muli c4_i32_1385 v935
  let v1693 : BitVec 32 := Scalar.addi v1691 v1692
  let c512_i32_1386 : BitVec 32 := 512#32
  let v1694 : BitVec 32 := Scalar.muli v1693 c512_i32_1386
  v1694
def k0_cond3 (i : grid0.Coords) : BitVec 1 :=
  let c31_i32 : BitVec 32 := 31#32
  let arg1 : BitVec 32 := BitVec.ofNat 32 (i 1).val
  let v918 : BitVec 32 := Scalar.subi c31_i32 arg1
  let c4_i32_716 : BitVec 32 := 4#32
  let c0_i32_706 : BitVec 32 := 0#32
  let v920 : BitVec 1 := Scalar.cmpi .sgt v918 c0_i32_706
  let v921 : BitVec 32 := Scalar.extui v920
  let c0_i32_707 : BitVec 32 := 0#32
  let v922 : BitVec 1 := Scalar.cmpi .slt v918 c0_i32_707
  let v923 : BitVec 32 := Scalar.extui v922
  let v924 : BitVec 32 := Scalar.subi v921 v923
  let c4_i32 : BitVec 32 := 4#32
  let c0_i32_708 : BitVec 32 := 0#32
  let v925 : BitVec 1 := Scalar.cmpi .sgt c4_i32 c0_i32_708
  let v926 : BitVec 32 := Scalar.extui v925
  let c0_i32_709 : BitVec 32 := 0#32
  let v927 : BitVec 1 := Scalar.cmpi .slt c4_i32 c0_i32_709
  let v928 : BitVec 32 := Scalar.extui v927
  let v929 : BitVec 32 := Scalar.subi v926 v928
  let v930 : BitVec 1 := Scalar.cmpi .ne v924 v929
  let v931 : BitVec 32 := Scalar.remsi v918 c4_i32
  let c0_i32_710 : BitVec 32 := 0#32
  let v932 : BitVec 1 := Scalar.cmpi .ne v931 c0_i32_710
  let v933 : BitVec 1 := Scalar.andi v930 v932
  let v919 : BitVec 32 := Scalar.divsi v918 c4_i32
  let c1_i32 : BitVec 32 := 1#32
  let v934 : BitVec 32 := Scalar.subi v919 c1_i32
  let v935 : BitVec 32 := Scalar.select v933 v934 v919
  let v941 : BitVec 32 := Scalar.muli c4_i32_716 v935
  let v942 : BitVec 32 := Scalar.subi v918 v941
  let c2_i32_718 : BitVec 32 := 2#32
  let v946 : BitVec 32 := Scalar.remsi v942 c2_i32_718
  let c1_i32_719 : BitVec 32 := 1#32
  let v947 : BitVec 1 := Scalar.cmpi .eq v946 c1_i32_719
  let v948 : BitVec 32 := Scalar.extui v947
  let c0_i32_720 : BitVec 32 := 0#32
  let v949 : BitVec 1 := Scalar.cmpi .ne v948 c0_i32_720
  v949

def k0_mult12 : BitVec 32 :=
  let c15872_i32 : BitVec 32 := 15872#32
  c15872_i32
def k0_mult13 (i : grid0.Coords) : BitVec 32 :=
  let arg1 : BitVec 32 := BitVec.ofNat 32 (i 1).val
  let c512_i32_738 : BitVec 32 := 512#32
  let v966 : BitVec 32 := Scalar.muli arg1 c512_i32_738
  v966
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x16384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S16384x512 : Shape := ⟨2, ![16384, 512]⟩
abbrev S16384x8 : Shape := ⟨2, ![16384, 8]⟩
abbrev S_ : Shape := ⟨0, ![]⟩
abbrev S16384x8x64 : Shape := ⟨3, ![16384, 8, 64]⟩
abbrev S8x16384 : Shape := ⟨2, ![8, 16384]⟩
abbrev S8x16384x16384 : Shape := ⟨3, ![8, 16384, 16384]⟩
abbrev S8x16384x1 : Shape := ⟨3, ![8, 16384, 1]⟩
abbrev S8x1x16384 : Shape := ⟨3, ![8, 1, 16384]⟩
abbrev S16384x16384 : Shape := ⟨2, ![16384, 16384]⟩
abbrev S1x16384x16384 : Shape := ⟨3, ![1, 16384, 16384]⟩
abbrev S8x64x16384 : Shape := ⟨3, ![8, 64, 16384]⟩
abbrev S8x16384x64 : Shape := ⟨3, ![8, 16384, 64]⟩
abbrev S16384x4x128 : Shape := ⟨3, ![16384, 4, 128]⟩
abbrev S4x128x16384 : Shape := ⟨3, ![4, 128, 16384]⟩
abbrev S4x2x16384 : Shape := ⟨3, ![4, 2, 16384]⟩

abbrev nBuf : Space → Nat
  | .hbm => 116
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x8x64, .f32⟩
  | .hbm, ⟨9, _⟩ => ⟨S16384x8x64, .f32⟩
  | .hbm, ⟨10, _⟩ => ⟨S16384x8x64, .f32⟩
  | .hbm, ⟨11, _⟩ => ⟨S16384x8x64, .f32⟩
  | .hbm, ⟨12, _⟩ => ⟨S8x16384, .f32⟩
  | .hbm, ⟨13, _⟩ => ⟨S8x16384, .f32⟩
  | .hbm, ⟨14, _⟩ => ⟨S8x16384x16384, .f32⟩
  | .hbm, ⟨15, _⟩ => ⟨S8x16384x1, .f32⟩
  | .hbm, ⟨16, _⟩ => ⟨S8x16384x16384, .f32⟩
  | .hbm, ⟨17, _⟩ => ⟨S8x16384x16384, .f32⟩
  | .hbm, ⟨18, _⟩ => ⟨S8x1x16384, .f32⟩
  | .hbm, ⟨19, _⟩ => ⟨S8x16384x16384, .f32⟩
  | .hbm, ⟨20, _⟩ => ⟨S8x16384x16384, .f32⟩
  | .hbm, ⟨21, _⟩ => ⟨S16384x16384, .i32⟩
  | .hbm, ⟨22, _⟩ => ⟨S16384x16384, .i32⟩
  | .hbm, ⟨23, _⟩ => ⟨S16384x16384, .i1⟩
  | .hbm, ⟨24, _⟩ => ⟨S1x16384x16384, .i1⟩
  | .hbm, ⟨25, _⟩ => ⟨S_, .f32⟩
  | .hbm, ⟨26, _⟩ => ⟨S_, .f32⟩
  | .hbm, ⟨27, _⟩ => ⟨S8x16384x16384, .i1⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .i1⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .i1⟩
  | .hbm, ⟨46, _⟩ => ⟨S_, .f32⟩
  | .hbm, ⟨47, _⟩ => ⟨S8x16384, .f32⟩
  | .hbm, ⟨48, _⟩ => ⟨S8x16384, .i1⟩
  | .hbm, ⟨49, _⟩ => ⟨S_, .f32⟩
  | .hbm, ⟨50, _⟩ => ⟨S8x16384, .f32⟩
  | .hbm, ⟨51, _⟩ => ⟨S_, .f32⟩
  | .hbm, ⟨52, _⟩ => ⟨S8x16384, .f32⟩
  | .hbm, ⟨53, _⟩ => ⟨S_, .f32⟩
  | .hbm, ⟨54, _⟩ => ⟨S8x16384, .f32⟩
  | .hbm, ⟨55, _⟩ => ⟨S8x16384, .f32⟩
  | .hbm, ⟨56, _⟩ => ⟨S8x16384, .f32⟩
  | .hbm, ⟨57, _⟩ => ⟨S8x16384x1, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S8x16384, .f32⟩
  | .hbm, ⟨63, _⟩ => ⟨S8x16384x1, .f32⟩
  | .hbm, ⟨64, _⟩ => ⟨S8x16384x16384, .f32⟩
  | .hbm, ⟨65, _⟩ => ⟨S8x16384x16384, .f32⟩
  | .hbm, ⟨66, _⟩ => ⟨S8x16384x1, .f32⟩
  | .hbm, ⟨67, _⟩ => ⟨S_, .f32⟩
  | .hbm, ⟨68, _⟩ => ⟨S8x16384x1, .f32⟩
  | .hbm, ⟨69, _⟩ => ⟨S8x16384x1, .f32⟩
  | .hbm, ⟨70, _⟩ => ⟨S8x64x16384, .f32⟩
  | .hbm, ⟨71, _⟩ => ⟨S16384x8x64, .f32⟩
  | .hbm, ⟨72, _⟩ => ⟨S8x64x16384, .f32⟩
  | .hbm, ⟨73, _⟩ => ⟨S8x16384x16384, .f32⟩
  | .hbm, ⟨74, _⟩ => ⟨S8x64x16384, .f32⟩
  | .hbm, ⟨75, _⟩ => ⟨S16384x8x64, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384, .f32⟩
  | .hbm, ⟨81, _⟩ => ⟨S8x16384x1, .f32⟩
  | .hbm, ⟨82, _⟩ => ⟨S8x16384x1, .f32⟩
  | .hbm, ⟨83, _⟩ => ⟨S8x16384x16384, .f32⟩
  | .hbm, ⟨84, _⟩ => ⟨S8x16384x16384, .f32⟩
  | .hbm, ⟨85, _⟩ => ⟨S_, .f32⟩
  | .hbm, ⟨86, _⟩ => ⟨S8x16384, .f32⟩
  | .hbm, ⟨87, _⟩ => ⟨S8x16384x16384, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384x16384, .f32⟩
  | .hbm, ⟨92, _⟩ => ⟨S8x16384x16384, .f32⟩
  | .hbm, ⟨93, _⟩ => ⟨S8x16384x16384, .f32⟩
  | .hbm, ⟨94, _⟩ => ⟨S_, .f32⟩
  | .hbm, ⟨95, _⟩ => ⟨S8x16384, .f32⟩
  | .hbm, ⟨96, _⟩ => ⟨S8x1x16384, .f32⟩
  | .hbm, ⟨97, _⟩ => ⟨S_, .f32⟩
  | .hbm, ⟨98, _⟩ => ⟨S8x16384, .f32⟩
  | .hbm, ⟨99, _⟩ => ⟨S_, .f32⟩
  | .hbm, ⟨100, _⟩ => ⟨S8x16384, .f32⟩
  | .hbm, ⟨101, _⟩ => ⟨S8x16384x1, .f32⟩
  | .hbm, ⟨102, _⟩ => ⟨S_, .f32⟩
  | .hbm, ⟨103, _⟩ => ⟨S8x16384, .f32⟩
  | .hbm, ⟨104, _⟩ => ⟨S8x16384x64, .f32⟩
  | .hbm, ⟨105, _⟩ => ⟨S16384x8x64, .f32⟩
  | .hbm, ⟨106, _⟩ => ⟨S8x16384x64, .f32⟩
  | .hbm, ⟨107, _⟩ => ⟨S16384x8x64, .f32⟩
  | .hbm, ⟨108, _⟩ => ⟨S16384x4x128, .f32⟩
  | .hbm, ⟨109, _⟩ => ⟨S4x128x16384, .f32⟩
  | .hbm, ⟨110, _⟩ => ⟨S16384x512, .f32⟩
  | .hbm, ⟨111, _⟩ => ⟨S16384x512, .bf16⟩
  | .hbm, ⟨112, _⟩ => ⟨S16384x512, .f32⟩
  | .hbm, ⟨113, _⟩ => ⟨S16384x512, .bf16⟩
  | .hbm, ⟨114, _⟩ => ⟨S4x2x16384, .f32⟩
  | .hbm, ⟨115, _⟩ => ⟨S4x2x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_call1_cst : Ref sig .tc := ⟨.hbm, 90, rfl⟩
abbrev main_call1_v0 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_cst_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== GateUp.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpIdeal.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S16384x1024, .f32⟩
  | .hbm, ⟨3, _⟩ => ⟨S16384x5632, .f32⟩
  | .hbm, ⟨4, _⟩ => ⟨S_, .f32⟩
  | .hbm, ⟨5, _⟩ => ⟨S1024x5632, .f32⟩
  | .hbm, ⟨6, _⟩ => ⟨S16384x5632, .f32⟩
  | .hbm, ⟨7, _⟩ => ⟨S5632x1024, .f32⟩
  | .hbm, ⟨8, _⟩ => ⟨S1024x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutIdeal.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== In.lean ====
abbrev S16384x1024 : Shape := ⟨2, ![16384, 1024]⟩
abbrev S16384x2688 : Shape := ⟨2, ![16384, 2688]⟩
abbrev S1024x2688 : Shape := ⟨2, ![1024, 2688]⟩
abbrev S2048x1024 : Shape := ⟨2, ![2048, 1024]⟩
abbrev S2048x896 : Shape := ⟨2, ![2048, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2688, .bf16⟩
  | .hbm, ⟨2, _⟩ => ⟨S1024x2688, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S16384x1024 : Shape := ⟨2, ![16384, 1024]⟩
abbrev S16384x2688 : Shape := ⟨2, ![16384, 2688]⟩
abbrev S_ : Shape := ⟨0, ![]⟩
abbrev S1024x2688 : Shape := ⟨2, ![1024, 2688]⟩
abbrev S2688x1024 : Shape := ⟨2, ![2688, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2688, .bf16⟩
  | .hbm, ⟨2, _⟩ => ⟨S16384x1024, .f32⟩
  | .hbm, ⟨3, _⟩ => ⟨S16384x2688, .f32⟩
  | .hbm, ⟨4, _⟩ => ⟨S_, .f32⟩
  | .hbm, ⟨5, _⟩ => ⟨S1024x2688, .f32⟩
  | .hbm, ⟨6, _⟩ => ⟨S16384x2688, .f32⟩
  | .hbm, ⟨7, _⟩ => ⟨S2688x1024, .f32⟩
  | .hbm, ⟨8, _⟩ => ⟨S1024x2688, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S16384x5632 : Shape := ⟨2, ![16384, 5632]⟩
abbrev S256x1024 : Shape := ⟨2, ![256, 1024]⟩
abbrev S256x512 : Shape := ⟨2, ![256, 512]⟩
abbrev S256x5632 : Shape := ⟨2, ![256, 5632]⟩
abbrev S_ : Shape := ⟨0, ![]⟩
abbrev S256 : Shape := ⟨1, ![256]⟩
abbrev S256x1 : Shape := ⟨2, ![256, 1]⟩
abbrev S1x512 : Shape := ⟨2, ![1, 512]⟩
abbrev S512x1024 : Shape := ⟨2, ![512, 1024]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S1024x5632, .bf16⟩
  | .hbm, ⟨12, _⟩ => ⟨S2816x1024, .bf16⟩
  | .hbm, ⟨13, _⟩ => ⟨S16384x1024, .f32⟩
  | .hbm, ⟨14, _⟩ => ⟨S16384x1024, .f32⟩
  | .hbm, ⟨15, _⟩ => ⟨S16384x5632, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x5632, .f32⟩
  | .local _ .vmem, ⟨13, _⟩ => ⟨S256x5632, .f32⟩
  | .local _ .vmem, ⟨14, _⟩ => ⟨S1024x1024, .bf16⟩
  | .local _ .vmem, ⟨15, _⟩ => ⟨S1024x5632, .bf16⟩
  | .local _ .vmem, ⟨16, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixRefIdeal.lean ====
abbrev S16384x1024 : Shape := ⟨2, ![16384, 1024]⟩
abbrev S16384x512 : Shape := ⟨2, ![16384, 512]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S512 : Shape := ⟨1, ![512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 76
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x5632, .f32⟩
  | .hbm, ⟨7, _⟩ => ⟨S2816x1024, .f32⟩
  | .hbm, ⟨8, _⟩ => ⟨S512, .f32⟩
  | .hbm, ⟨9, _⟩ => ⟨S16384x512, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S512, .f32⟩
  | .hbm, ⟨26, _⟩ => ⟨S16384x512, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x512, .f32⟩
  | .hbm, ⟨38, _⟩ => ⟨S16384x512, .f32⟩
  | .hbm, ⟨39, _⟩ => ⟨S1x512, .f32⟩
  | .hbm, ⟨40, _⟩ => ⟨S16384x512, .f32⟩
  | .hbm, ⟨41, _⟩ => ⟨S16384x512, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x5632, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S_, .f32⟩
  | .hbm, ⟨70, _⟩ => ⟨S16384x2816, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x1024, .f32⟩
  | .hbm, ⟨75, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Proof.Body.lean ====
/-
The kernel's body as a structured program: one chunk of 32 key rows, one step (one block of 512 queries against
the point's block of 512 keys), the set-up of the key block's operands, and the point's program made of them.
-/
module

public import proofs.«01_k».proof.KernelIdeal
public import proofs.«01_k».proof.Proof.Gen.KernelIdeal

@[expose] public section

namespace Cert.KernelIdeal.Body

open Idealize.ShloMosaic Idealize.SL.Sem
open Facts₀ Facts

variable {F : FTy → Type} [FloatOps F] [Named F]

/-- A TensorCore program of the kernel's module. -/
abbrev P (F : FTy → Type) [FloatOps F] [Named F] (α : Type) := Prog (TpuEff nD τ sig (Elt F) Λ₀ .tc) α

/-- The buffers one run of the body works on, each with the evidence that it is a whole buffer. -/
structure Refs where
  q : Memref sig .tc .hbm S8x16384x128 .bf16
  hq : q.IsWhole
  dout : Memref sig .tc .vmem S16384x128 .bf16
  hdout : dout.IsWhole
  k : Memref sig .tc .vmem S2x512x128 .bf16
  hk : k.IsWhole
  v : Memref sig .tc .vmem S2x512x128 .bf16
  hv : v.IsWhole
  lse : Memref sig .tc .vmem S1x2x16384 .f32
  hlse : lse.IsWhole
  delta : Memref sig .tc .vmem S1x2x16384 .f32
  hdelta : delta.IsWhole
  dqt : Memref sig .tc .vmem S1x128x16384 .f32
  hdqt : dqt.IsWhole
  dk : Memref sig .tc .vmem S512x128 .bf16
  hdk : dk.IsWhole
  dv : Memref sig .tc .vmem S512x128 .bf16
  hdv : dv.IsWhole
  dck : Memref sig .tc .vmem S1x2x16384 .f32
  hdck : dck.IsWhole
  dcq : Memref sig .tc .vmem S1x2x16384 .f32
  hdcq : dcq.IsWhole
  qv : Memref sig .tc .vmem S2x16384x128 .bf16
  hqv : qv.IsWhole
  st : Memref sig .tc .vmem S2x2x512x512 .f32
  hst : st.IsWhole
  dp : Memref sig .tc .vmem S2x2x512x512 .f32
  hdp : dp.IsWhole
  pt : Memref sig .tc .vmem S2x2x512x512 .bf16
  hpt : pt.IsWhole
  ds : Memref sig .tc .vmem S2x2x512x512 .bf16
  hds : ds.IsWhole
  dka : Memref sig .tc .vmem S2x512x128 .f32
  hdka : dka.IsWhole
  dva : Memref sig .tc .vmem S2x512x128 .f32
  hdva : dva.IsWhole
  vh : Memref sig .tc .vmem S2x512x128 .bf16
  hvh : vh.IsWhole
  kx : Memref sig .tc .vmem S2x144x512 .bf16
  hkx : kx.IsWhole
  sem : DmaSems sig S_

/-! ## The rectangles a step names -/

theorem inbChunk (s h : Fin 2) (r : Fin 16) :
    ∀ a, (![s.val, h.val, 32 * r.val, 0] : Fin 4 → Nat) a + S1x1x32x512.size a ≤ S2x2x512x512.size a := by
  revert s h r; decide +kernel

/-- Rows `32 r … 32 r + 31` of the square of slot `s` and head `h`. -/
abbrev rChunk (s h : Fin 2) (r : Fin 16) : Rect S2x2x512x512 :=
  Rect.unit (s := S2x2x512x512) ![s.val, h.val, 32 * r.val, 0] S1x1x32x512.size (inbChunk s h r)

theorem packedChunk (s h : Fin 2) (r : Fin 16) : (rChunk s h r).PackedRows (EltTy.packing .bf16) := by
  revert s h r; decide +kernel

theorem inbSquare (s h : Fin 2) :
    ∀ a, (![s.val, h.val, 0, 0] : Fin 4 → Nat) a + S1x1x512x512.size a ≤ S2x2x512x512.size a := by
  revert s h; decide +kernel

/-- The square of slot `s` and head `h`. -/
abbrev rSquare (s h : Fin 2) : Rect S2x2x512x512 :=
  Rect.unit (s := S2x2x512x512) ![s.val, h.val, 0, 0] S1x1x512x512.size (inbSquare s h)

theorem inbHead (h : Fin 2) : ∀ a, (![h.val, 0, 0] : Fin 3 → Nat) a + S1x512x128.size a ≤ S2x512x128.size a := by
  revert h; decide +kernel

/-- The 512 rows of head `h`. -/
abbrev rHead (h : Fin 2) : Rect S2x512x128 :=
  Rect.unit (s := S2x512x128) ![h.val, 0, 0] S1x512x128.size (inbHead h)

theorem packedHead (h : Fin 2) : (rHead h).PackedRows (EltTy.packing .bf16) := by
  revert h; decide +kernel

theorem inbKx (h : Fin 2) : ∀ a, (![h.val, 0, 0] : Fin 3 → Nat) a + S1x144x512.size a ≤ S2x144x512.size a := by
  revert h; decide +kernel

/-- The 144 rows of head `h`'s transposed keys with the rows of ones below. -/
abbrev rKx (h : Fin 2) : Rect S2x144x512 := Rect.unit (s := S2x144x512) ![h.val, 0, 0] S1x144x512.size (inbKx h)

theorem inbKxT (h : Fin 2) : ∀ a, (![h.val, 0, 0] : Fin 3 → Nat) a + S1x128x512.size a ≤ S2x144x512.size a := by
  revert h; decide +kernel

/-- The 128 rows of head `h`'s transposed keys. -/
abbrev rKxT (h : Fin 2) : Rect S2x144x512 := Rect.unit (s := S2x144x512) ![h.val, 0, 0] S1x128x512.size (inbKxT h)

theorem packedKxT (h : Fin 2) : (rKxT h).PackedRows (EltTy.packing .bf16) := by
  revert h; decide +kernel

theorem inbKxO (h : Fin 2) : ∀ a, (![h.val, 128, 0] : Fin 3 → Nat) a + S1x16x512.size a ≤ S2x144x512.size a := by
  revert h; decide +kernel

/-- The 16 rows of ones below head `h`'s transposed keys. -/
abbrev rKxO (h : Fin 2) : Rect S2x144x512 := Rect.unit (s := S2x144x512) ![h.val, 128, 0] S1x16x512.size (inbKxO h)

theorem packedKxO (h : Fin 2) : (rKxO h).PackedRows (EltTy.packing .bf16) := by
  revert h; decide +kernel

/-- The places of one block of 512 queries in the buffers a step works on, as the program computes them. -/
structure Offs where
  o2 : Fin 2 → Nat
  i2 : ∀ a, o2 a + S512x128.size a ≤ S16384x128.size a
  o3 : Fin 3 → Nat
  i3 : ∀ a, o3 a + S1x512x128.size a ≤ S2x16384x128.size a
  o4 : Fin 3 → Nat
  i4 : ∀ a, o4 a + S1x512x128.size a ≤ S2x16384x128.size a
  o5 : Fin 3 → Nat
  i5 : ∀ a, o5 a + S1x1x512.size a ≤ S1x2x16384.size a
  o6 : Fin 3 → Nat
  i6 : ∀ a, o6 a + S1x1x512.size a ≤ S1x2x16384.size a
  o7 : Fin 3 → Nat
  i7 : ∀ a, o7 a + S1x128x512.size a ≤ S1x128x16384.size a

/-- The 512 rows of `do` at `off`. -/
abbrev rDo (off : Fin 2 → Nat) (i : ∀ a, off a + S512x128.size a ≤ S16384x128.size a) : Rect S16384x128 :=
  Rect.unit (s := S16384x128) off S512x128.size i
/-- The 512 rows of the queries at `off`. -/
abbrev rQ (off : Fin 3 → Nat) (i : ∀ a, off a + S1x512x128.size a ≤ S2x16384x128.size a) : Rect S2x16384x128 :=
  Rect.unit (s := S2x16384x128) off S1x512x128.size i
/-- The 512 entries of a row with one entry per query at `off`. -/
abbrev rRow (off : Fin 3 → Nat) (i : ∀ a, off a + S1x1x512.size a ≤ S1x2x16384.size a) : Rect S1x2x16384 :=
  Rect.unit (s := S1x2x16384) off S1x1x512.size i
/-- The 512 columns of the transposed gradient of the queries at `off`. -/
abbrev rDqt (off : Fin 3 → Nat) (i : ∀ a, off a + S1x128x512.size a ≤ S1x128x16384.size a) : Rect S1x128x16384 :=
  Rect.unit (s := S1x128x16384) off S1x128x512.size i

/-- Head 0 of a pair. -/
abbrev h0 : Fin 2 := ⟨0, by decide⟩
/-- Head 1 of a pair. -/
abbrev h1 : Fin 2 := ⟨1, by decide⟩

/-! ## One step -/

/-- The causal mask of chunk `r` on the diagonal block: a logit whose key is not after its query stays, another
    becomes minus infinity. -/
noncomputable def maskChunk (r : Fin 16) (x : FVec F S32x512 .f32) : FVec F S32x512 .f32 :=
  select (cmpi .sle (addi (iota .tc S32x512 32 [0] iota_S32x512_d0_w32) (broadcast S32x512 (BitVec.ofNat 32 (32 * r.val))))
    (iota .tc S32x512 32 [1] iota_S32x512_d1_w32)) x (broadcast S32x512 (Scalar.ofBits .f32 0xFF800000#32))

/-- One chunk of 32 keys: the probabilities from the logits, and the gradient of the logits from them. -/
noncomputable def chunk (R : Refs) (s h : Fin 2) (f : Fin 16 → FVec F S32x512 .f32 → FVec F S32x512 .f32)
    (lse dl : FVec F S1x512 .f32) (r : Fin 16) : P F PUnit := do
  let st : Vec F S1x1x32x512 .f32 ← Prog.lift (.load R.st (rChunk s h r).toLoadRect (View.loadsAt_vmem h_S1x1x32x512))
  let p : FVec F S32x512 .f32 := exp2 (subf (f r (shapeCast S32x512 st shapeCasts_S1x1x32x512_S32x512))
    (broadcastTo S32x512 lse broadcasts_S1x512_S32x512))
  let _ : Vec F S1x1x32x512 .bf16 ← Prog.lift (.load R.pt (rChunk s h r).toLoadRect (View.loadsAt_vmem h_S1x1x32x512))
  Prog.lift (.store R.pt (rChunk s h r)
    (shapeCast S1x1x32x512 (truncf .bf16 p bitsLt_bf16_f32) shapeCasts_S32x512_S1x1x32x512 : FVec F S1x1x32x512 .bf16)
    Finset.univ (View.stores_vmem h_S1x1x32x512 (R.hpt.storeExact_slice rfl _ (packedChunk s h r)) (fun _ => rfl)) (.inl rfl))
  let dp : Vec F S1x1x32x512 .f32 ← Prog.lift (.load R.dp (rChunk s h r).toLoadRect (View.loadsAt_vmem h_S1x1x32x512))
  let d : FVec F S32x512 .f32 := mulf p (subf (shapeCast S32x512 dp shapeCasts_S1x1x32x512_S32x512)
    (broadcastTo S32x512 dl broadcasts_S1x512_S32x512))
  let _ : Vec F S1x1x32x512 .bf16 ← Prog.lift (.load R.ds (rChunk s h r).toLoadRect (View.loadsAt_vmem h_S1x1x32x512))
  Prog.lift (.store R.ds (rChunk s h r)
    (shapeCast S1x1x32x512 (truncf .bf16 d bitsLt_bf16_f32) shapeCasts_S32x512_S1x1x32x512 : FVec F S1x1x32x512 .bf16)
    Finset.univ (View.stores_vmem h_S1x1x32x512 (R.hds.storeExact_slice rfl _ (packedChunk s h r)) (fun _ => rfl)) (.inl rfl))

/-- The chunks of a list, in order. -/
noncomputable def chunks (R : Refs) (s h : Fin 2) (f : Fin 16 → FVec F S32x512 .f32 → FVec F S32x512 .f32)
    (lse dl : FVec F S1x512 .f32) : List (Fin 16) → P F PUnit
  | [] => .ret ⟨⟩
  | r :: rs => do
    chunk R s h f lse dl r
    chunks R s h f lse dl rs

/-- The sixteen chunks of a block of 512 keys. -/
abbrev allChunks : List (Fin 16) :=
  [⟨0, by decide⟩, ⟨1, by decide⟩, ⟨2, by decide⟩, ⟨3, by decide⟩, ⟨4, by decide⟩, ⟨5, by decide⟩, ⟨6, by decide⟩,
   ⟨7, by decide⟩, ⟨8, by decide⟩, ⟨9, by decide⟩, ⟨10, by decide⟩, ⟨11, by decide⟩, ⟨12, by decide⟩, ⟨13, by decide⟩,
   ⟨14, by decide⟩, ⟨15, by decide⟩]

/-- The two products of head `h`: keys against queries into `st`, values against `do` into `dp`. -/
noncomputable def products (R : Refs) (s h : Fin 2) (vdo vq : FVec F S512x128 .bf16) : P F PUnit := do
  let k : Vec F S1x512x128 .bf16 ← Prog.lift (.load R.k (rHead h).toLoadRect (View.loadsAt_vmem h_S1x512x128))
  let _ : Vec F S1x1x512x512 .f32 ← Prog.lift (.load R.st (rSquare s h).toLoadRect (View.loadsAt_vmem h_S1x1x512x512))
  Prog.lift (.store R.st (rSquare s h)
    (shapeCast S1x1x512x512 (matmul dot_S512x128_S512x128_S512x512_1_1_0_0_n_n none
      (shapeCast S512x128 k shapeCasts_S1x512x128_S512x128 : FVec F S512x128 .bf16) vq (constant S512x512 .f32 0x00000000#32))
      shapeCasts_S512x512_S1x1x512x512 : FVec F S1x1x512x512 .f32)
    Finset.univ (View.stores_vmem_bits_univ h_S1x1x512x512 rfl) (.inl rfl))
  let v : Vec F S1x512x128 .bf16 ← Prog.lift (.load R.vh (rHead h).toLoadRect (View.loadsAt_vmem h_S1x512x128))
  let _ : Vec F S1x1x512x512 .f32 ← Prog.lift (.load R.dp (rSquare s h).toLoadRect (View.loadsAt_vmem h_S1x1x512x512))
  Prog.lift (.store R.dp (rSquare s h)
    (shapeCast S1x1x512x512 (matmul dot_S512x128_S512x128_S512x512_1_1_0_0_n_n none
      (shapeCast S512x128 v shapeCasts_S1x512x128_S512x128 : FVec F S512x128 .bf16) vdo (constant S512x512 .f32 0x00000000#32))
      shapeCasts_S512x512_S1x1x512x512 : FVec F S1x1x512x512 .f32)
    Finset.univ (View.stores_vmem_bits_univ h_S1x1x512x512 rfl) (.inl rfl))

/-- The chunks of head `h`, with the block's row sums read first. -/
noncomputable def headChunks (R : Refs) (s h : Fin 2) (f : Fin 16 → FVec F S32x512 .f32 → FVec F S32x512 .f32)
    (off : Fin 3 → Nat) (i : ∀ a, off a + S1x1x512.size a ≤ S1x2x16384.size a) : P F PUnit := do
  let lse : Vec F S1x1x512 .f32 ← Prog.lift (.load R.lse (rRow off i).toLoadRect (View.loadsAt_vmem h_S1x1x512))
  let dl : Vec F S1x1x512 .f32 ← Prog.lift (.load R.delta (rRow off i).toLoadRect (View.loadsAt_vmem h_S1x1x512))
  chunks R s h f (shapeCast S1x512 lse shapeCasts_S1x1x512_S1x512) (shapeCast S1x512 dl shapeCasts_S1x1x512_S1x512) allChunks

/-- Head `h`'s sums of a step: into the gradients of values and keys, into the row of query sums; what it adds to
    the transposed gradient of the queries is returned. -/
noncomputable def accum (R : Refs) (s h : Fin 2) (off : Fin 3 → Nat) (i : ∀ a, off a + S1x1x512.size a ≤ S1x2x16384.size a)
    (vdo vq : FVec F S512x128 .bf16) (dq : FVec F S128x512 .f32) : P F (FVec F S128x512 .f32) := do
  let dva : Vec F S1x512x128 .f32 ← Prog.lift (.load R.dva (rHead h).toLoadRect (View.loadsAt_vmem h_S1x512x128))
  let pt : Vec F S1x1x512x512 .bf16 ← Prog.lift (.load R.pt (rSquare s h).toLoadRect (View.loadsAt_vmem h_S1x1x512x512))
  let dva' : FVec F S512x128 .f32 := addf (shapeCast S512x128 dva shapeCasts_S1x512x128_S512x128)
    (matmul dot_S512x512_S512x128_S512x128_1_0_0_1_n_n none
      (shapeCast S512x512 pt shapeCasts_S1x1x512x512_S512x512 : FVec F S512x512 .bf16) vdo (constant S512x128 .f32 0x00000000#32))
  let _ : Vec F S1x512x128 .f32 ← Prog.lift (.load R.dva (rHead h).toLoadRect (View.loadsAt_vmem h_S1x512x128))
  Prog.lift (.store R.dva (rHead h) (shapeCast S1x512x128 dva' shapeCasts_S512x128_S1x512x128 : FVec F S1x512x128 .f32)
    Finset.univ (View.stores_vmem_bits_univ h_S1x512x128 rfl) (.inl rfl))
  let dka : Vec F S1x512x128 .f32 ← Prog.lift (.load R.dka (rHead h).toLoadRect (View.loadsAt_vmem h_S1x512x128))
  let ds : Vec F S1x1x512x512 .bf16 ← Prog.lift (.load R.ds (rSquare s h).toLoadRect (View.loadsAt_vmem h_S1x1x512x512))
  let dka' : FVec F S512x128 .f32 := addf (shapeCast S512x128 dka shapeCasts_S1x512x128_S512x128)
    (matmul dot_S512x512_S512x128_S512x128_1_0_0_1_n_n none
      (shapeCast S512x512 ds shapeCasts_S1x1x512x512_S512x512 : FVec F S512x512 .bf16) vq (constant S512x128 .f32 0x00000000#32))
  let _ : Vec F S1x512x128 .f32 ← Prog.lift (.load R.dka (rHead h).toLoadRect (View.loadsAt_vmem h_S1x512x128))
  Prog.lift (.store R.dka (rHead h) (shapeCast S1x512x128 dka' shapeCasts_S512x128_S1x512x128 : FVec F S1x512x128 .f32)
    Finset.univ (View.stores_vmem_bits_univ h_S1x512x128 rfl) (.inl rfl))
  let kx : Vec F S1x144x512 .bf16 ← Prog.lift (.load R.kx (rKx h).toLoadRect (View.loadsAt_vmem h_S1x144x512))
  let ds' : Vec F S1x1x512x512 .bf16 ← Prog.lift (.load R.ds (rSquare s h).toLoadRect (View.loadsAt_vmem h_S1x1x512x512))
  let m : FVec F S144x512 .f32 := matmul dot_S144x512_S512x512_S144x512_1_0_0_1_n_n none
    (shapeCast S144x512 kx shapeCasts_S1x144x512_S144x512 : FVec F S144x512 .bf16)
    (shapeCast S512x512 ds' shapeCasts_S1x1x512x512_S512x512 : FVec F S512x512 .bf16) (constant S144x512 .f32 0x00000000#32)
  let dcq : Vec F S1x1x512 .f32 ← Prog.lift (.load R.dcq (rRow off i).toLoadRect (View.loadsAt_vmem h_S1x1x512))
  let dcq' : FVec F S1x512 .f32 := addf (shapeCast S1x512 dcq shapeCasts_S1x1x512_S1x512)
    (extractStridedSlice S1x512 ![128, 0] m slices_S144x512_o128_0_S1x512)
  let _ : Vec F S1x1x512 .f32 ← Prog.lift (.load R.dcq (rRow off i).toLoadRect (View.loadsAt_vmem h_S1x1x512))
  Prog.lift (.store R.dcq (rRow off i) (shapeCast S1x1x512 dcq' shapeCasts_S1x512_S1x1x512 : FVec F S1x1x512 .f32)
    Finset.univ (View.stores_vmem_bits_univ h_S1x1x512 rfl) (.inl rfl))
  pure (addf dq (extractStridedSlice S128x512 ![0, 0] m slices_S144x512_o0_0_S128x512))

/-- One step: the block of queries at `o` against the point's block of keys, in the squares of slot `s`. -/
noncomputable def step (R : Refs) (s : Fin 2) (f : Fin 16 → FVec F S32x512 .f32 → FVec F S32x512 .f32) (o : Offs) : P F PUnit := do
  let vdo : Vec F S512x128 .bf16 ← Prog.lift (.load R.dout (rDo o.o2 o.i2).toLoadRect (View.loadsAt_vmem h_S512x128))
  let q0 : Vec F S1x512x128 .bf16 ← Prog.lift (.load R.qv (rQ o.o3 o.i3).toLoadRect (View.loadsAt_vmem h_S1x512x128))
  let q1 : Vec F S1x512x128 .bf16 ← Prog.lift (.load R.qv (rQ o.o4 o.i4).toLoadRect (View.loadsAt_vmem h_S1x512x128))
  let vdo' : FVec F S512x128 .bf16 := shapeCast S512x128 vdo shapeCasts_S512x128_S512x128
  let q0' : FVec F S512x128 .bf16 := shapeCast S512x128 q0 shapeCasts_S1x512x128_S512x128
  let q1' : FVec F S512x128 .bf16 := shapeCast S512x128 q1 shapeCasts_S1x512x128_S512x128
  products R s h0 vdo' q0'
  products R s h1 vdo' q1'
  headChunks R s h0 f o.o5 o.i5
  headChunks R s h1 f o.o6 o.i6
  let a ← accum R s h0 o.o5 o.i5 vdo' q0' (broadcast S128x512 (Scalar.ofBits .f32 0x00000000#32))
  let b ← accum R s h1 o.o6 o.i6 vdo' q1' a
  let dqt : Vec F S1x128x512 .f32 ← Prog.lift (.load R.dqt (rDqt o.o7 o.i7).toLoadRect (View.loadsAt_vmem h_S1x128x512))
  let _ : Vec F S1x128x512 .f32 ← Prog.lift (.load R.dqt (rDqt o.o7 o.i7).toLoadRect (View.loadsAt_vmem h_S1x128x512))
  Prog.lift (.store R.dqt (rDqt o.o7 o.i7) (shapeCast S1x128x512 (addf (shapeCast S128x512 dqt shapeCasts_S1x128x512_S128x512) b)
      shapeCasts_S128x512_S1x128x512 : FVec F S1x128x512 .f32)
    Finset.univ (View.stores_vmem_bits_univ h_S1x128x512 rfl) (.inl rfl))

/-! ## The point's program -/

/-- At the first block of keys of a pair of heads: the pair's queries come in, the two sums over all key blocks start
    at zero. -/
noncomputable def start (R : Refs) (i : grid0.Coords) (h : k0_cond1 i = 1#1) : P F PUnit := do
  Prog.lift (.enqueueDma (R.q.slice (Rect.unit (s := S8x16384x128) (k0_off1 i) S2x16384x128.size (k0_off1_inb i h)) (fun _ => rfl))
    (.here R.qv) (.dma R.sem.sem) (R.hq.wordExact_slice rfl _ (k0_off1_wordsbf16 i h)) R.hqv.wordExact ⟨Or.inl rfl, trivial⟩)
  Prog.lift (.waitDma2 R.sem.sem
    (R.q.slice (Rect.unit (s := S8x16384x128) (k0_off1 i) S2x16384x128.size (k0_off1_inb i h)) (fun _ => rfl))
    R.qv (R.hq.wordExact_slice rfl _ (k0_off1_wordsbf16 i h)) R.hqv.wordExact)
  let _ : Vec F S1x128x16384 .f32 ← Prog.lift (.load R.dqt (Rect.unit (s := S1x128x16384) ![0, 0, 0] S1x128x16384.size inb_S1x128x16384_S1x128x16384_0_0_0).toLoadRect (View.loadsAt_vmem h_S1x128x16384))
  Prog.lift (.store R.dqt (Rect.unit (s := S1x128x16384) ![0, 0, 0] S1x128x16384.size inb_S1x128x16384_S1x128x16384_0_0_0)
    (broadcast S1x128x16384 (Scalar.ofBits .f32 0x00000000#32) : FVec F S1x128x16384 .f32) Finset.univ (View.stores_vmem_bits_univ h_S1x128x16384 rfl) (.inl rfl))
  let _ : Vec F S1x2x16384 .f32 ← Prog.lift (.load R.dcq (Rect.unit (s := S1x2x16384) ![0, 0, 0] S1x2x16384.size inb_S1x2x16384_S1x2x16384_0_0_0).toLoadRect (View.loadsAt_vmem h_S1x2x16384))
  Prog.lift (.store R.dcq (Rect.unit (s := S1x2x16384) ![0, 0, 0] S1x2x16384.size inb_S1x2x16384_S1x2x16384_0_0_0)
    (broadcast S1x2x16384 (Scalar.ofBits .f32 0x00000000#32) : FVec F S1x2x16384 .f32) Finset.univ (View.stores_vmem_bits_univ h_S1x2x16384 rfl) (.inl rfl))

/-- A sum over query blocks starts at zero. -/
noncomputable def zeroAcc (a : Memref sig .tc .vmem S2x512x128 .f32) : P F PUnit := do
  let _ : Vec F S2x512x128 .f32 ← Prog.lift (.load a (Rect.unit (s := S2x512x128) ![0, 0, 0] S2x512x128.size inb_S2x512x128_S2x512x128_0_0_0).toLoadRect (View.loadsAt_vmem h_S2x512x128))
  Prog.lift (.store a (Rect.unit (s := S2x512x128) ![0, 0, 0] S2x512x128.size inb_S2x512x128_S2x512x128_0_0_0)
    (shapeCast S2x512x128 (broadcast S2x512x128 (Scalar.ofBits .f32 0x00000000#32)) shapeCasts_S2x512x128_S2x512x128 : FVec F S2x512x128 .f32)
    Finset.univ (View.stores_vmem_bits_univ h_S2x512x128 rfl) (.inl rfl))

/-- The lanes of head 0. -/
noncomputable def lanes0 : IVec S512x128 1 := cmpi .slt (iota .tc S512x128 32 [1] iota_S512x128_d1_w32) (broadcast S512x128 64#32)
/-- The lanes of head 1. -/
noncomputable def lanes1 : IVec S512x128 1 := cmpi .sge (iota .tc S512x128 32 [1] iota_S512x128_d1_w32) (broadcast S512x128 64#32)

/-- The operands of head `h` made from the point's block: the values with the other head's lanes at zero; the keys
    likewise, transposed, with sixteen rows of ones below. -/
noncomputable def operands (R : Refs) (h : Fin 2) (lanes : IVec S512x128 1) : P F PUnit := do
  let v : Vec F S1x512x128 .bf16 ← Prog.lift (.load R.v (rHead h).toLoadRect (View.loadsAt_vmem h_S1x512x128))
  let _ : Vec F S1x512x128 .bf16 ← Prog.lift (.load R.vh (rHead h).toLoadRect (View.loadsAt_vmem h_S1x512x128))
  Prog.lift (.store R.vh (rHead h) (shapeCast S1x512x128 (select lanes (shapeCast S512x128 v shapeCasts_S1x512x128_S512x128)
      (broadcast S512x128 (Scalar.ofBits .bf16 0x0000#16))) shapeCasts_S512x128_S1x512x128 : FVec F S1x512x128 .bf16)
    Finset.univ (View.stores_vmem h_S1x512x128 (R.hvh.storeExact_slice rfl _ (packedHead h)) (fun _ => rfl)) (.inl rfl))
  let k : Vec F S1x512x128 .bf16 ← Prog.lift (.load R.k (rHead h).toLoadRect (View.loadsAt_vmem h_S1x512x128))
  let _ : Vec F S1x128x512 .bf16 ← Prog.lift (.load R.kx (rKxT h).toLoadRect (View.loadsAt_vmem h_S1x128x512))
  Prog.lift (.store R.kx (rKxT h) (shapeCast S1x128x512 (truncf .bf16 (transpose S128x512 [1, 0] (extf .f32
      (select lanes (shapeCast S512x128 k shapeCasts_S1x512x128_S512x128) (broadcast S512x128 (Scalar.ofBits .bf16 0x0000#16)))
      bitsLt_bf16_f32) transposes_S512x128_p1_0_S128x512) bitsLt_bf16_f32) shapeCasts_S128x512_S1x128x512 : FVec F S1x128x512 .bf16)
    Finset.univ (View.stores_vmem h_S1x128x512 (R.hkx.storeExact_slice rfl _ (packedKxT h)) (fun _ => rfl)) (.inl rfl))
  let _ : Vec F S1x16x512 .bf16 ← Prog.lift (.load R.kx (rKxO h).toLoadRect (View.loadsAt_vmem h_S1x16x512))
  Prog.lift (.store R.kx (rKxO h) (shapeCast S1x16x512 (broadcast S16x512 (Scalar.ofBits .bf16 0x3F80#16)) shapeCasts_S16x512_S1x16x512 : FVec F S1x16x512 .bf16)
    Finset.univ (View.stores_vmem h_S1x16x512 (R.hkx.storeExact_slice rfl _ (packedKxO h)) (fun _ => rfl)) (.inl rfl))

/-- The diagonal block's places. -/
abbrev offD (i : grid0.Coords) : Offs where
  o2 := k0_off2 i
  i2 := k0_off2_inb i
  o3 := k0_off3 i
  i3 := k0_off3_inb i
  o4 := k0_off4 i
  i4 := k0_off4_inb i
  o5 := k0_off5 i
  i5 := k0_off5_inb i
  o6 := k0_off6 i
  i6 := k0_off6_inb i
  o7 := k0_off7 i
  i7 := k0_off7_inb i

/-- The places of the first block of a trip of the first loop. -/
abbrev offA (i : grid0.Coords) (t : Fin (k0_t1_loop i).trips) : Offs where
  o2 := k0_off8 i t
  i2 := k0_off8_inb i t
  o3 := k0_off9 i t
  i3 := k0_off9_inb i t
  o4 := k0_off10 i t
  i4 := k0_off10_inb i t
  o5 := k0_off11 i t
  i5 := k0_off11_inb i t
  o6 := k0_off12 i t
  i6 := k0_off12_inb i t
  o7 := k0_off13 i t
  i7 := k0_off13_inb i t

/-- The places of the further blocks of a trip of the first loop. -/
abbrev offA' (i : grid0.Coords) (t : Fin (k0_t1_loop i).trips) (r : Fin 3) : Offs where
  o2 := k0_off14 i t (BitVec.ofNat 32 (1 + r.val))
  i2 := k0_off14_inb i t r
  o3 := k0_off15 i t (BitVec.ofNat 32 (1 + r.val))
  i3 := k0_off15_inb i t r
  o4 := k0_off16 i t (BitVec.ofNat 32 (1 + r.val))
  i4 := k0_off16_inb i t r
  o5 := k0_off17 i t (BitVec.ofNat 32 (1 + r.val))
  i5 := k0_off17_inb i t r
  o6 := k0_off18 i t (BitVec.ofNat 32 (1 + r.val))
  i6 := k0_off18_inb i t r
  o7 := k0_off19 i t (BitVec.ofNat 32 (1 + r.val))
  i7 := k0_off19_inb i t r

/-- The places of the first block of a trip of the second loop (which runs no trip). -/
abbrev offB (i : grid0.Coords) (t : Fin (k0_t2_loop i).trips) : Offs where
  o2 := k0_off20 i t
  i2 := k0_off20_inb i t
  o3 := k0_off21 i t
  i3 := k0_off21_inb i t
  o4 := k0_off22 i t
  i4 := k0_off22_inb i t
  o5 := k0_off23 i t
  i5 := k0_off23_inb i t
  o6 := k0_off24 i t
  i6 := k0_off24_inb i t
  o7 := k0_off25 i t
  i7 := k0_off25_inb i t

/-- The places of the further blocks of a trip of the second loop. -/
abbrev offB' (i : grid0.Coords) (t : Fin (k0_t2_loop i).trips) (r : Fin 3) : Offs where
  o2 := k0_off26 i t (BitVec.ofNat 32 (1 + r.val))
  i2 := k0_off26_inb i t r
  o3 := k0_off27 i t (BitVec.ofNat 32 (1 + r.val))
  i3 := k0_off27_inb i t r
  o4 := k0_off28 i t (BitVec.ofNat 32 (1 + r.val))
  i4 := k0_off28_inb i t r
  o5 := k0_off29 i t (BitVec.ofNat 32 (1 + r.val))
  i5 := k0_off29_inb i t r
  o6 := k0_off30 i t (BitVec.ofNat 32 (1 + r.val))
  i6 := k0_off30_inb i t r
  o7 := k0_off31 i t (BitVec.ofNat 32 (1 + r.val))
  i7 := k0_off31_inb i t r

/-- The places of the two blocks left over by the loop. -/
abbrev offC (i : grid0.Coords) (h : k0_cond2 i = 1#1) (r : Fin 2) : Offs where
  o2 := k0_off32 i (BitVec.ofNat 32 (1 + r.val))
  i2 := k0_off32_inb i h r
  o3 := k0_off33 i (BitVec.ofNat 32 (1 + r.val))
  i3 := k0_off33_inb i h r
  o4 := k0_off34 i (BitVec.ofNat 32 (1 + r.val))
  i4 := k0_off34_inb i h r
  o5 := k0_off35 i (BitVec.ofNat 32 (1 + r.val))
  i5 := k0_off35_inb i h r
  o6 := k0_off36 i (BitVec.ofNat 32 (1 + r.val))
  i6 := k0_off36_inb i h r
  o7 := k0_off37 i (BitVec.ofNat 32 (1 + r.val))
  i7 := k0_off37_inb i h r

/-- The last block's places. -/
abbrev offL : Offs where
  o2 := ![15872, 0]
  i2 := inb_S16384x128_S512x128_15872_0
  o3 := ![0, 15872, 0]
  i3 := inb_S2x16384x128_S1x512x128_0_15872_0
  o4 := ![1, 15872, 0]
  i4 := inb_S2x16384x128_S1x512x128_1_15872_0
  o5 := ![0, 0, 15872]
  i5 := inb_S1x2x16384_S1x1x512_0_0_15872
  o6 := ![0, 1, 15872]
  i6 := inb_S1x2x16384_S1x1x512_0_1_15872
  o7 := ![0, 0, 15872]
  i7 := inb_S1x128x16384_S1x128x512_0_0_15872

/-- No mask. -/
abbrev noMask (_ : Fin 16) (x : FVec F S32x512 .f32) : FVec F S32x512 .f32 := x

/-- Four steps, in the slots 0, 1, 0, 1. -/
noncomputable def four (R : Refs) (a b c d : Offs) : P F PUnit := do
  step R h0 noMask a
  step R h1 noMask b
  step R h0 noMask c
  step R h1 noMask d

/-- The row `at` of the transposed gradient of head `h`'s keys, negated, as the key block's entries of the gradient
    of the key's cumulative sum. -/
noncomputable def finishRow (R : Refs) (h : Fin 2) (off : Fin 2 → Nat) (hs : S128x512.Slices off S1x512)
    (o : Fin 3 → Nat) (io : ∀ a, o a + S1x1x512.size a ≤ S1x2x16384.size a) : P F PUnit := do
  let a : Vec F S1x512x128 .f32 ← Prog.lift (.load R.dka (rHead h).toLoadRect (View.loadsAt_vmem h_S1x512x128))
  let _ : Vec F S1x1x512 .f32 ← Prog.lift (.load R.dck (rRow o io).toLoadRect (View.loadsAt_vmem h_S1x1x512))
  Prog.lift (.store R.dck (rRow o io) (shapeCast S1x1x512 (subf (broadcast S1x512 (Scalar.ofBits .f32 0x00000000#32))
      (extractStridedSlice S1x512 off (transpose S128x512 [1, 0] (shapeCast S512x128 a shapeCasts_S1x512x128_S512x128)
        transposes_S512x128_p1_0_S128x512) hs)) shapeCasts_S1x512_S1x1x512 : FVec F S1x1x512 .f32)
    Finset.univ (View.stores_vmem_bits_univ h_S1x1x512 rfl) (.inl rfl))

/-- The key block's results from the sums over its query blocks. -/
noncomputable def finish (R : Refs) (i : grid0.Coords) : P F PUnit := do
  let a0 : Vec F S1x512x128 .f32 ← Prog.lift (.load R.dka (rHead h0).toLoadRect (View.loadsAt_vmem h_S1x512x128))
  let a1 : Vec F S1x512x128 .f32 ← Prog.lift (.load R.dka (rHead h1).toLoadRect (View.loadsAt_vmem h_S1x512x128))
  let _ : Vec F S512x128 .bf16 ← Prog.lift (.load R.dk (Rect.unit (s := S512x128) ![0, 0] S512x128.size inb_S512x128_S512x128_0_0).toLoadRect (View.loadsAt_vmem h_S512x128))
  Prog.lift (.store R.dk (Rect.unit (s := S512x128) ![0, 0] S512x128.size inb_S512x128_S512x128_0_0)
    (truncf .bf16 (mulf (select lanes0 (shapeCast S512x128 a0 shapeCasts_S1x512x128_S512x128) (shapeCast S512x128 a1 shapeCasts_S1x512x128_S512x128))
      (broadcast S512x128 (Named.named κ "ln2" 0x3F317218#32))) bitsLt_bf16_f32 : FVec F S512x128 .bf16)
    Finset.univ (View.stores_vmem h_S512x128 (R.hdk.storeExact_slice rfl _ packedbf16_S512x128_S512x128_0_0) (fun _ => rfl)) (.inl rfl))
  let b0 : Vec F S1x512x128 .f32 ← Prog.lift (.load R.dva (rHead h0).toLoadRect (View.loadsAt_vmem h_S1x512x128))
  let b1 : Vec F S1x512x128 .f32 ← Prog.lift (.load R.dva (rHead h1).toLoadRect (View.loadsAt_vmem h_S1x512x128))
  let _ : Vec F S512x128 .bf16 ← Prog.lift (.load R.dv (Rect.unit (s := S512x128) ![0, 0] S512x128.size inb_S512x128_S512x128_0_0).toLoadRect (View.loadsAt_vmem h_S512x128))
  Prog.lift (.store R.dv (Rect.unit (s := S512x128) ![0, 0] S512x128.size inb_S512x128_S512x128_0_0)
    (truncf .bf16 (select lanes0 (shapeCast S512x128 b0 shapeCasts_S1x512x128_S512x128) (shapeCast S512x128 b1 shapeCasts_S1x512x128_S512x128))
      bitsLt_bf16_f32 : FVec F S512x128 .bf16)
    Finset.univ (View.stores_vmem h_S512x128 (R.hdv.storeExact_slice rfl _ packedbf16_S512x128_S512x128_0_0) (fun _ => rfl)) (.inl rfl))
  finishRow R h0 ![67, 0] slices_S128x512_o67_0_S1x512 (k0_off5 i) (k0_off5_inb i)
  finishRow R h1 ![3, 0] slices_S128x512_o3_0_S1x512 (k0_off6 i) (k0_off6_inb i)

/-- What comes first at the first block of keys. -/
noncomputable def first (R : Refs) (i : grid0.Coords) : P F PUnit := do
  if h : k0_cond1 i = 1#1 then start R i h else pure ⟨⟩

/-- The query blocks past the diagonal one: in fours, two more, and the last one. -/
noncomputable def blocks (R : Refs) (i : grid0.Coords) : P F PUnit := do
  Scf.Loop.for (k0_t1_loop i) (k0_t1_ok i) ⟨⟩ fun t _ =>
    four R (offA i t) (offA' i t 0) (offA' i t 1) (offA' i t 2)
  Scf.Loop.for (k0_t2_loop i) (k0_t2_ok i) ⟨⟩ fun t _ =>
    four R (offB i t) (offB' i t 0) (offB' i t 1) (offB' i t 2)
  if h : k0_cond2 i = 1#1 then do
    step R h0 noMask (offC i h 0)
    step R h1 noMask (offC i h 1)
  else pure ⟨⟩
  if h : k0_cond3 i = 1#1 then step R h0 noMask offL else pure ⟨⟩
  pure ⟨⟩

/-- The body at a point: block `i 1` of the keys of the pair of heads `i 0` against the query blocks from its own on. -/
noncomputable def point (R : Refs) (i : grid0.Coords) : P F PUnit := do
  first R i
  zeroAcc R.dka
  zeroAcc R.dva
  operands R h0 lanes0
  operands R h1 lanes1
  step R h0 maskChunk (offD i)
  blocks R i
  finish R i

end Cert.KernelIdeal.Body
-- ==== Proof.Own.lean ====
/-
The body's buffers as one state, and what a piece of the body does to it: `Run σ p a σ'` says that on the buffers at
`σ` the program `p` comes to its end with result `a` and the buffers at `σ'`. A load and a store are stated once for
every buffer.
-/
module

public import proofs.«01_k».proof.Proof.Body
public import Idealize.ShloMosaic.Lib.Pipeline.Frame
public import Idealize.ShloMosaic.Lib.Scf

@[expose] public section

namespace Cert.KernelIdeal.Body

open Idealize.ShloMosaic Idealize.SL.Sem
open Idealize.SL
open Idealize.SL.BI (sProp bigSep)
open scoped Idealize.SL.BI
open Idealize.SL.BI.BIBase Idealize.SL.BI.Laws Idealize.SL.ProofMode
open Idealize.SL.RA

variable {F : FTy → Type} [FloatOps F] [Named F]

local notation "𝕄" => MT nD τ sig Unit (Elt F) ℕ (Pipeline.UD sig nD τ) ℕ

/-- The buffers in VMEM the body works on. -/
inductive B where
  | dout | k | v | lse | delta | dqt | dk | dv | dck | dcq | qv | st | dp | pt | ds | dka | dva | vh | kx
  deriving DecidableEq

instance : Fintype B where
  elems := {.dout, .k, .v, .lse, .delta, .dqt, .dk, .dv, .dck, .dcq, .qv, .st, .dp, .pt, .ds, .dka, .dva, .vh, .kx}
  complete b := by cases b <;> decide

/-- A buffer's shape. -/
abbrev B.shape : B → Shape
  | .dout => S16384x128 | .k => S2x512x128 | .v => S2x512x128 | .lse => S1x2x16384 | .delta => S1x2x16384
  | .dqt => S1x128x16384 | .dk => S512x128 | .dv => S512x128 | .dck => S1x2x16384 | .dcq => S1x2x16384
  | .qv => S2x16384x128 | .st => S2x2x512x512 | .dp => S2x2x512x512 | .pt => S2x2x512x512 | .ds => S2x2x512x512
  | .dka => S2x512x128 | .dva => S2x512x128 | .vh => S2x512x128 | .kx => S2x144x512

/-- A buffer's element type. -/
abbrev B.elt : B → EltTy
  | .dout => .bf16 | .k => .bf16 | .v => .bf16 | .lse => .f32 | .delta => .f32
  | .dqt => .f32 | .dk => .bf16 | .dv => .bf16 | .dck => .f32 | .dcq => .f32
  | .qv => .bf16 | .st => .f32 | .dp => .f32 | .pt => .bf16 | .ds => .bf16
  | .dka => .f32 | .dva => .f32 | .vh => .bf16 | .kx => .bf16

/-- The buffer itself. -/
abbrev Refs.ref (R : Refs) : (b : B) → Memref sig .tc .vmem b.shape b.elt
  | .dout => R.dout | .k => R.k | .v => R.v | .lse => R.lse | .delta => R.delta
  | .dqt => R.dqt | .dk => R.dk | .dv => R.dv | .dck => R.dck | .dcq => R.dcq
  | .qv => R.qv | .st => R.st | .dp => R.dp | .pt => R.pt | .ds => R.ds
  | .dka => R.dka | .dva => R.dva | .vh => R.vh | .kx => R.kx

/-- What every buffer holds. -/
abbrev St (F : FTy → Type) := (b : B) → b.shape.Idx → Elt F b.elt

/-- The state with one buffer's contents replaced. -/
def St.set (σ : St F) (b : B) (X : b.shape.Idx → Elt F b.elt) : St F := Function.update σ b X

theorem St.set_self (σ : St F) (b : B) (X : b.shape.Idx → Elt F b.elt) : σ.set b X b = X := Function.update_self ..
theorem St.set_ne (σ : St F) {b b' : B} (X : b.shape.Idx → Elt F b.elt) (h : b' ≠ b) : σ.set b X b' = σ b' :=
  Function.update_of_ne h ..

/-- Every buffer owned at the state's contents. -/
noncomputable def holds (c : Dev nD) (R : Refs) (σ : St F) : sProp 𝕄 :=
  bigSep Finset.univ fun b => owns (c.tc : Thread nD τ) (R.ref b) fullShare (σ b)

variable (c : Dev nD) (R : Refs)

/-- One buffer taken out of the state. -/
theorem holds_split (b : B) (σ : St F) :
    (holds c R σ : sProp 𝕄) = iprop(owns (c.tc : Thread nD τ) (R.ref b) fullShare (σ b)
      ∗ bigSep (Finset.univ.erase b) fun b' => owns (c.tc : Thread nD τ) (R.ref b') fullShare (σ b')) :=
  BI.bigSep_univ_split b

/-- One buffer's contents replaced: the others are what they were. -/
theorem holds_set (b : B) (σ : St F) (X : b.shape.Idx → Elt F b.elt) :
    (holds c R (σ.set b X) : sProp 𝕄) = iprop(owns (c.tc : Thread nD τ) (R.ref b) fullShare X
      ∗ bigSep (Finset.univ.erase b) fun b' => owns (c.tc : Thread nD τ) (R.ref b') fullShare (σ b')) := by
  rw [holds_split c R b, St.set_self]
  exact congrArg (fun X => iprop(_ ∗ X)) (BI.bigSep_congr fun b' hb => by rw [St.set_ne _ _ (Finset.ne_of_mem_erase hb)])

/-- The program runs from the state to its end, the result and the state there named. -/
def Run {α : Type} (σ : St F) (p : P F α) (a : α) (σ' : St F) : Prop :=
  (holds c R σ : sProp 𝕄) ⊢ wp frame (wpE (defs₀ (F := F)) Variants.none (c.tc : Thread nD τ) none) Set.univ p
    (fun x => iprop(⌜x = a⌝ ∗ holds c R σ'))

variable {c R}

theorem Run.ret {α : Type} (σ : St F) (a : α) : Run c R σ (.ret a) a σ := by
  unfold Run
  rw [wp_ret]
  iintro H
  imodintro
  isplitr
  · ipureintro; rfl
  · iexact H

theorem Run.bind {α β : Type} {σ σ' σ'' : St F} {p : P F α} {k : α → P F β} {a : α} {b : β}
    (h : Run c R σ p a σ') (h' : Run c R σ' (k a) b σ'') : Run c R σ (p >>= k) b σ'' := by
  unfold Run at *
  rw [wp_bind]
  refine h.trans (wp_mono _ _ _ fun x => ?_)
  iintro ⟨%hx, H⟩
  subst hx
  iapply h'
  iexact H

theorem Run.congr {α : Type} {σ σ' σ₁ : St F} {p : P F α} {a : α} (h : Run c R σ p a σ') (e : σ' = σ₁) : Run c R σ p a σ₁ := e ▸ h

/-- A load's value is the part of the buffer's contents its rectangle names. -/
theorem Run.load (b : B) {σ : St F} {r : Rect b.shape} {hl : (R.ref b).view.LoadsAt r.toLoadRect} :
    Run c R σ (Prog.lift (.load (R.ref b) r.toLoadRect hl)) (fun j => σ b (r.emb j)) σ := by
  unfold Run
  rw [holds_split c R b]
  iintro ⟨H, Hr⟩
  ihave H' := (show owns (c.tc : Thread nD τ) (R.ref b) fullShare (σ b) ⊢ iprop(∃ g, ⌜(R.ref b).view.read (Elt F) g = σ b⌝ ∗ (R.ref b).view.loc (c.tc : Thread nD τ) ↦[(R.ref b).view.set]{fullShare} g) from .rfl) $$ H
  icases H' with ⟨%g, %hg, H⟩
  iapply (wp_load_rect Variants.none (c.tc : Thread nD τ) none Set.univ (View.set_slice_subset (R.ref b).view r)) $$ H
  iintro H
  rw [wp_ret]
  imodintro
  isplitr
  · ipureintro; rw [← hg]; rfl
  · isplitl [H]
    · rw [← hg]; iapply (owns_intro (c.tc : Thread nD τ) (R.ref b)); iexact H
    · iexact Hr

/-- A store replaces that part of the buffer's contents. -/
theorem Run.store (b : B) {σ : St F} {r : Rect b.shape} {w : r.shape.Idx → Elt F b.elt}
    {hx : ((R.ref b).access r).Stores Finset.univ} {hm : (Finset.univ : Finset r.shape.Idx) = Finset.univ ∨ ∀ a, r.stride a = 1} :
    Run c R σ (Prog.lift (.store (R.ref b) r w Finset.univ hx hm)) ⟨⟩ (σ.set b (r.overlay (σ b) w)) := by
  unfold Run
  rw [holds_split c R b, holds_set c R b]
  iintro ⟨H, Hr⟩
  ihave H' := (show owns (c.tc : Thread nD τ) (R.ref b) fullShare (σ b) ⊢ iprop(∃ g, ⌜(R.ref b).view.read (Elt F) g = σ b⌝ ∗ (R.ref b).view.loc (c.tc : Thread nD τ) ↦[(R.ref b).view.set]{fullShare} g) from .rfl) $$ H
  icases H' with ⟨%g, %hg, H⟩
  iapply (wp_store Variants.none (c.tc : Thread nD τ) none Set.univ (View.set_slice_subset (R.ref b).view r)) $$ H
  iintro H
  rw [wp_ret]
  imodintro
  isplitr
  · ipureintro; rfl
  · isplitl [H]
    · have e : (R.ref b).view.read (Elt F) (((R.ref b).access r).write (Elt F) g w Finset.univ) = r.overlay (σ b) w := by
        funext j
        by_cases hj : j ∈ r.set
        · obtain ⟨i, rfl⟩ := r.exists_idx_of_mem hj
          exact (View.read_slice_write_emb r g w (Finset.mem_univ i)).trans (Rect.overlay_emb r (σ b) w i).symm
        · rw [Rect.overlay_of_not_mem _ _ _ hj, ← hg]
          exact View.read_slice_write_of_not_mem r _ _ _ (by rw [Rect.map_emb_univ]; exact hj)
      rw [← e]
      iapply (owns_intro (c.tc : Thread nD τ) (R.ref b)); iexact H
    · iexact Hr

/-- Trips in order, each a state's change. -/
theorem Run.forFrom {n : Nat} {body : Fin n → PUnit → P F PUnit} {f : Fin n → St F → St F}
    (h : ∀ t σ, Run c R σ (body t ⟨⟩) ⟨⟩ (f t σ)) :
    ∀ (ks : List (Fin n)) (σ : St F), Run c R σ (Scf.forFrom body ks ⟨⟩) ⟨⟩ (ks.foldl (fun σ t => f t σ) σ)
  | [], σ => .ret σ _
  | t :: ts, σ => (h t σ).bind (Run.forFrom h ts (f t σ))

end Cert.KernelIdeal.Body
-- ==== Proof.Sem.lean ====
/-
What the pieces of the body do to the buffers, as functions of the state, and that the program does this
(`Run`): one chunk, the products, the sums of a step, a step, the operands' set-up, the results, the query blocks.
-/
module

public import proofs.«01_k».proof.Proof.Own

@[expose] public section

namespace Cert.KernelIdeal.Body

open Idealize.ShloMosaic Idealize.SL.Sem
open Facts₀ Facts

variable {F : FTy → Type} [FloatOps F] [Named F]

/-- The part of a buffer's contents a rectangle names. -/
abbrev part {s : Shape} {α : Type} (r : Rect s) (X : s.Idx → α) : r.shape.Idx → α := fun j => X (r.emb j)

/-! ## One chunk -/

/-- The probabilities of a chunk. -/
noncomputable def pVal (f : Fin 16 → FVec F S32x512 .f32 → FVec F S32x512 .f32) (lse : FVec F S1x512 .f32) (r : Fin 16)
    (st : Vec F S1x1x32x512 .f32) : FVec F S32x512 .f32 :=
  exp2 (subf (f r (shapeCast S32x512 st shapeCasts_S1x1x32x512_S32x512)) (broadcastTo S32x512 lse broadcasts_S1x512_S32x512))

/-- The gradient of a chunk's logits, from its probabilities. -/
noncomputable def dVal (p : FVec F S32x512 .f32) (dl : FVec F S1x512 .f32) (dp : Vec F S1x1x32x512 .f32) : FVec F S32x512 .f32 :=
  mulf p (subf (shapeCast S32x512 dp shapeCasts_S1x1x32x512_S32x512) (broadcastTo S32x512 dl broadcasts_S1x512_S32x512))

/-- A chunk's values as they are stored. -/
noncomputable def chunkOut (x : FVec F S32x512 .f32) : FVec F S1x1x32x512 .bf16 :=
  shapeCast S1x1x32x512 (truncf .bf16 x bitsLt_bf16_f32 : FVec F S32x512 .bf16) shapeCasts_S32x512_S1x1x32x512

/-- One chunk's change of the state. -/
noncomputable def chunkS (s h : Fin 2) (f : Fin 16 → FVec F S32x512 .f32 → FVec F S32x512 .f32) (lse dl : FVec F S1x512 .f32)
    (r : Fin 16) (σ : St F) : St F :=
  (σ.set .pt ((rChunk s h r).overlay (σ .pt) (chunkOut (pVal f lse r (part (rChunk s h r) (σ .st)))))).set .ds
    ((rChunk s h r).overlay (σ .ds)
      (chunkOut (dVal (pVal f lse r (part (rChunk s h r) (σ .st))) dl (part (rChunk s h r) (σ .dp)))))

variable {c : Dev nD} {R : Refs}

theorem run_chunk (s h : Fin 2) (f : Fin 16 → FVec F S32x512 .f32 → FVec F S32x512 .f32) (lse dl : FVec F S1x512 .f32)
    (r : Fin 16) (σ : St F) : Run c R σ (chunk R s h f lse dl r) ⟨⟩ (chunkS s h f lse dl r σ) := by
  unfold chunk
  exact (Run.load .st).bind ((Run.load .pt).bind ((Run.store .pt).bind ((Run.load .dp).bind ((Run.load .ds).bind (Run.store .ds)))))

/-- The chunks of a list, in order. -/
noncomputable def chunksS (s h : Fin 2) (f : Fin 16 → FVec F S32x512 .f32 → FVec F S32x512 .f32) (lse dl : FVec F S1x512 .f32)
    (rs : List (Fin 16)) (σ : St F) : St F := rs.foldl (fun σ r => chunkS s h f lse dl r σ) σ

theorem run_chunks (s h : Fin 2) (f : Fin 16 → FVec F S32x512 .f32 → FVec F S32x512 .f32) (lse dl : FVec F S1x512 .f32) :
    ∀ (rs : List (Fin 16)) (σ : St F), Run c R σ (chunks R s h f lse dl rs) ⟨⟩ (chunksS s h f lse dl rs σ)
  | [], σ => .ret σ _
  | r :: rs, σ => (run_chunk s h f lse dl r σ).bind (run_chunks s h f lse dl rs _)

/-! ## One step -/

/-- Head `h`'s logits: its keys against the queries. -/
noncomputable def logits (k : Vec F S1x512x128 .bf16) (vq : FVec F S512x128 .bf16) : FVec F S1x1x512x512 .f32 :=
  shapeCast S1x1x512x512 (matmul dot_S512x128_S512x128_S512x512_1_1_0_0_n_n none
    (shapeCast S512x128 k shapeCasts_S1x512x128_S512x128 : FVec F S512x128 .bf16) vq (constant S512x512 .f32 0x00000000#32))
    shapeCasts_S512x512_S1x1x512x512

/-- The two products' change of the state. -/
noncomputable def productsS (s h : Fin 2) (vdo vq : FVec F S512x128 .bf16) (σ : St F) : St F :=
  (σ.set .st ((rSquare s h).overlay (σ .st) (logits (part (rHead h) (σ .k)) vq))).set .dp
    ((rSquare s h).overlay (σ .dp) (logits (part (rHead h) (σ .vh)) vdo))

theorem run_products (s h : Fin 2) (vdo vq : FVec F S512x128 .bf16) (σ : St F) :
    Run c R σ (products R s h vdo vq) ⟨⟩ (productsS s h vdo vq σ) := by
  unfold products
  exact (Run.load .k).bind ((Run.load .st).bind ((Run.store .st).bind ((Run.load .vh).bind ((Run.load .dp).bind (Run.store .dp)))))

/-- A row of one block of queries. -/
abbrev rowOf (x : Vec F S1x1x512 .f32) : FVec F S1x512 .f32 := shapeCast S1x512 x shapeCasts_S1x1x512_S1x512

/-- Head `h`'s chunks' change of the state. -/
noncomputable def headChunksS (s h : Fin 2) (f : Fin 16 → FVec F S32x512 .f32 → FVec F S32x512 .f32)
    (off : Fin 3 → Nat) (i : ∀ a, off a + S1x1x512.size a ≤ S1x2x16384.size a) (σ : St F) : St F :=
  chunksS s h f (rowOf (part (rRow off i) (σ .lse))) (rowOf (part (rRow off i) (σ .delta))) allChunks σ

theorem run_headChunks (s h : Fin 2) (f : Fin 16 → FVec F S32x512 .f32 → FVec F S32x512 .f32)
    (off : Fin 3 → Nat) (i : ∀ a, off a + S1x1x512.size a ≤ S1x2x16384.size a) (σ : St F) :
    Run c R σ (headChunks R s h f off i) ⟨⟩ (headChunksS s h f off i σ) := by
  unfold headChunks
  exact (Run.load .lse).bind ((Run.load .delta).bind (run_chunks s h f _ _ allChunks _))

/-- A sum over the queries' blocks with one block's product added. -/
noncomputable def accVal (a : Vec F S1x512x128 .f32) (x : Vec F S1x1x512x512 .bf16) (y : FVec F S512x128 .bf16) : FVec F S1x512x128 .f32 :=
  shapeCast S1x512x128 (addf (shapeCast S512x128 a shapeCasts_S1x512x128_S512x128)
    (matmul dot_S512x512_S512x128_S512x128_1_0_0_1_n_n none
      (shapeCast S512x512 x shapeCasts_S1x1x512x512_S512x512 : FVec F S512x512 .bf16) y (constant S512x128 .f32 0x00000000#32)))
    shapeCasts_S512x128_S1x512x128

/-- The extended transposed keys against the gradient of the logits. -/
noncomputable def kxVal (kx : Vec F S1x144x512 .bf16) (ds : Vec F S1x1x512x512 .bf16) : FVec F S144x512 .f32 :=
  matmul dot_S144x512_S512x512_S144x512_1_0_0_1_n_n none
    (shapeCast S144x512 kx shapeCasts_S1x144x512_S144x512 : FVec F S144x512 .bf16)
    (shapeCast S512x512 ds shapeCasts_S1x1x512x512_S512x512 : FVec F S512x512 .bf16) (constant S144x512 .f32 0x00000000#32)

/-- The row of query sums with one block's added. -/
noncomputable def dcqVal (a : Vec F S1x1x512 .f32) (m : FVec F S144x512 .f32) : FVec F S1x1x512 .f32 :=
  shapeCast S1x1x512 (addf (shapeCast S1x512 a shapeCasts_S1x1x512_S1x512)
    (extractStridedSlice S1x512 ![128, 0] m slices_S144x512_o128_0_S1x512)) shapeCasts_S1x512_S1x1x512

/-- The sums of head `h` in the state. -/
noncomputable def accumS (s h : Fin 2) (off : Fin 3 → Nat) (i : ∀ a, off a + S1x1x512.size a ≤ S1x2x16384.size a)
    (vdo vq : FVec F S512x128 .bf16) (σ : St F) : St F :=
  ((σ.set .dva ((rHead h).overlay (σ .dva) (accVal (part (rHead h) (σ .dva)) (part (rSquare s h) (σ .pt)) vdo))).set .dka
    ((rHead h).overlay (σ .dka) (accVal (part (rHead h) (σ .dka)) (part (rSquare s h) (σ .ds)) vq))).set .dcq
    ((rRow off i).overlay (σ .dcq) (dcqVal (part (rRow off i) (σ .dcq)) (kxVal (part (rKx h) (σ .kx)) (part (rSquare s h) (σ .ds)))))

/-- What head `h` adds to the transposed gradient of the queries, added. -/
noncomputable def accumV (s h : Fin 2) (dq : FVec F S128x512 .f32) (σ : St F) : FVec F S128x512 .f32 :=
  addf dq (extractStridedSlice S128x512 ![0, 0] (kxVal (part (rKx h) (σ .kx)) (part (rSquare s h) (σ .ds))) slices_S144x512_o0_0_S128x512)

theorem run_accum (s h : Fin 2) (off : Fin 3 → Nat) (i : ∀ a, off a + S1x1x512.size a ≤ S1x2x16384.size a)
    (vdo vq : FVec F S512x128 .bf16) (dq : FVec F S128x512 .f32) (σ : St F) :
    Run c R σ (accum R s h off i vdo vq dq) (accumV s h dq σ) (accumS s h off i vdo vq σ) := by
  unfold accum
  exact (Run.load .dva).bind ((Run.load .pt).bind ((Run.load .dva).bind ((Run.store .dva).bind ((Run.load .dka).bind
    ((Run.load .ds).bind ((Run.load .dka).bind ((Run.store .dka).bind ((Run.load .kx).bind ((Run.load .ds).bind
    ((Run.load .dcq).bind ((Run.load .dcq).bind ((Run.store .dcq).bind (Run.ret _ _)))))))))))))

/-- The block's `do`. -/
noncomputable abbrev doOf (o : Offs) (σ : St F) : FVec F S512x128 .bf16 :=
  shapeCast S512x128 (part (rDo o.o2 o.i2) (σ .dout) : Vec F S512x128 .bf16) shapeCasts_S512x128_S512x128
/-- The block's queries of head 0. -/
noncomputable abbrev q0Of (o : Offs) (σ : St F) : FVec F S512x128 .bf16 :=
  shapeCast S512x128 (part (rQ o.o3 o.i3) (σ .qv) : Vec F S1x512x128 .bf16) shapeCasts_S1x512x128_S512x128
/-- The block's queries of head 1. -/
noncomputable abbrev q1Of (o : Offs) (σ : St F) : FVec F S512x128 .bf16 :=
  shapeCast S512x128 (part (rQ o.o4 o.i4) (σ .qv) : Vec F S1x512x128 .bf16) shapeCasts_S1x512x128_S512x128

/-- The state with both heads' products and chunks done. -/
noncomputable def squaresS (s : Fin 2) (f : Fin 16 → FVec F S32x512 .f32 → FVec F S32x512 .f32) (o : Offs) (σ : St F) : St F :=
  headChunksS s h1 f o.o6 o.i6 (headChunksS s h0 f o.o5 o.i5
    (productsS s h1 (doOf o σ) (q1Of o σ) (productsS s h0 (doOf o σ) (q0Of o σ) σ)))

/-- The zero the queries' sum of a step starts from. -/
noncomputable abbrev dqZero : FVec F S128x512 .f32 := broadcast S128x512 (Scalar.ofBits .f32 0x00000000#32)

/-- The block of the transposed gradient of the queries with what the step adds. -/
noncomputable def dqtVal (a : Vec F S1x128x512 .f32) (b : FVec F S128x512 .f32) : FVec F S1x128x512 .f32 :=
  shapeCast S1x128x512 (addf (shapeCast S128x512 a shapeCasts_S1x128x512_S128x512) b) shapeCasts_S128x512_S1x128x512

/-- A step's change of the state. -/
noncomputable def stepS (s : Fin 2) (f : Fin 16 → FVec F S32x512 .f32 → FVec F S32x512 .f32) (o : Offs) (σ : St F) : St F :=
  let σ₁ := squaresS s f o σ
  let σ₂ := accumS s h0 o.o5 o.i5 (doOf o σ) (q0Of o σ) σ₁
  let σ₃ := accumS s h1 o.o6 o.i6 (doOf o σ) (q1Of o σ) σ₂
  σ₃.set .dqt ((rDqt o.o7 o.i7).overlay (σ₃ .dqt) (dqtVal (part (rDqt o.o7 o.i7) (σ₃ .dqt)) (accumV s h1 (accumV s h0 dqZero σ₁) σ₂)))

theorem run_step (s : Fin 2) (f : Fin 16 → FVec F S32x512 .f32 → FVec F S32x512 .f32) (o : Offs) (σ : St F) :
    Run c R σ (step R s f o) ⟨⟩ (stepS s f o σ) := by
  unfold step
  exact (Run.load .dout).bind ((Run.load .qv).bind ((Run.load .qv).bind ((run_products s h0 _ _ _).bind ((run_products s h1 _ _ _).bind
    ((run_headChunks s h0 f _ _ _).bind ((run_headChunks s h1 f _ _ _).bind ((run_accum s h0 _ _ _ _ _ _).bind ((run_accum s h1 _ _ _ _ _ _).bind
    ((Run.load .dqt).bind ((Run.load .dqt).bind (Run.store .dqt)))))))))))

/-! ## The point's pieces -/

/-- The whole of a sum's buffer. -/
abbrev rAll : Rect S2x512x128 := Rect.unit (s := S2x512x128) ![0, 0, 0] S2x512x128.size inb_S2x512x128_S2x512x128_0_0_0

/-- The zero a sum starts from. -/
noncomputable abbrev accZero : FVec F S2x512x128 .f32 :=
  shapeCast S2x512x128 (broadcast S2x512x128 (Scalar.ofBits .f32 0x00000000#32)) shapeCasts_S2x512x128_S2x512x128

theorem run_zero_dka (σ : St F) : Run c R σ (zeroAcc R.dka) ⟨⟩ (σ.set .dka (rAll.overlay (σ .dka) accZero)) := by
  unfold zeroAcc
  exact (Run.load .dka).bind (Run.store .dka)

theorem run_zero_dva (σ : St F) : Run c R σ (zeroAcc R.dva) ⟨⟩ (σ.set .dva (rAll.overlay (σ .dva) accZero)) := by
  unfold zeroAcc
  exact (Run.load .dva).bind (Run.store .dva)

/-- The values of head `h` with the other lanes at zero. -/
noncomputable def vhVal (lanes : IVec S512x128 1) (v : Vec F S1x512x128 .bf16) : FVec F S1x512x128 .bf16 :=
  shapeCast S1x512x128 (select lanes (shapeCast S512x128 v shapeCasts_S1x512x128_S512x128)
    (broadcast S512x128 (Scalar.ofBits .bf16 0x0000#16))) shapeCasts_S512x128_S1x512x128

/-- The keys of head `h` with the other lanes at zero, transposed. -/
noncomputable def kxTVal (lanes : IVec S512x128 1) (k : Vec F S1x512x128 .bf16) : FVec F S1x128x512 .bf16 :=
  shapeCast S1x128x512 (truncf .bf16 (transpose S128x512 [1, 0] (extf .f32
      (select lanes (shapeCast S512x128 k shapeCasts_S1x512x128_S512x128) (broadcast S512x128 (Scalar.ofBits .bf16 0x0000#16)))
      bitsLt_bf16_f32) transposes_S512x128_p1_0_S128x512) bitsLt_bf16_f32) shapeCasts_S128x512_S1x128x512

/-- The rows of ones. -/
noncomputable def onesVal : FVec F S1x16x512 .bf16 :=
  shapeCast S1x16x512 (broadcast S16x512 (Scalar.ofBits .bf16 0x3F80#16)) shapeCasts_S16x512_S1x16x512

/-- The operands' set-up of head `h`. -/
noncomputable def operandsS (h : Fin 2) (lanes : IVec S512x128 1) (σ : St F) : St F :=
  let σ₁ := (σ.set .vh ((rHead h).overlay (σ .vh) (vhVal lanes (part (rHead h) (σ .v))))).set .kx
    ((rKxT h).overlay (σ .kx) (kxTVal lanes (part (rHead h) (σ .k))))
  σ₁.set .kx ((rKxO h).overlay (σ₁ .kx) onesVal)

theorem run_operands (h : Fin 2) (lanes : IVec S512x128 1) (σ : St F) :
    Run c R σ (operands R h lanes) ⟨⟩ (operandsS h lanes σ) := by
  unfold operands
  exact ((Run.load .v).bind ((Run.load .vh).bind ((Run.store .vh).bind ((Run.load .k).bind ((Run.load .kx).bind
    ((Run.store .kx).bind ((Run.load .kx).bind (Run.store .kx))))))))

/-- The row of a key sum's gradient from the transposed gradient of the keys. -/
noncomputable def dckVal (off : Fin 2 → Nat) (hs : S128x512.Slices off S1x512) (a : Vec F S1x512x128 .f32) : FVec F S1x1x512 .f32 :=
  shapeCast S1x1x512 (subf (broadcast S1x512 (Scalar.ofBits .f32 0x00000000#32))
      (extractStridedSlice S1x512 off (transpose S128x512 [1, 0] (shapeCast S512x128 a shapeCasts_S1x512x128_S512x128)
        transposes_S512x128_p1_0_S128x512) hs)) shapeCasts_S1x512_S1x1x512

/-- One row of the key sums' gradient written. -/
noncomputable def finishRowS (h : Fin 2) (off : Fin 2 → Nat) (hs : S128x512.Slices off S1x512)
    (o : Fin 3 → Nat) (io : ∀ a, o a + S1x1x512.size a ≤ S1x2x16384.size a) (σ : St F) : St F :=
  σ.set .dck ((rRow o io).overlay (σ .dck) (dckVal off hs (part (rHead h) (σ .dka))))

theorem run_finishRow (h : Fin 2) (off : Fin 2 → Nat) (hs : S128x512.Slices off S1x512)
    (o : Fin 3 → Nat) (io : ∀ a, o a + S1x1x512.size a ≤ S1x2x16384.size a) (σ : St F) :
    Run c R σ (finishRow R h off hs o io) ⟨⟩ (finishRowS h off hs o io σ) := by
  unfold finishRow
  exact (Run.load .dka).bind ((Run.load .dck).bind (Run.store .dck))

/-- The whole of a key block's result. -/
abbrev rOut : Rect S512x128 := Rect.unit (s := S512x128) ![0, 0] S512x128.size inb_S512x128_S512x128_0_0

/-- The lanes of head 0 of one sum and of head 1 of another. -/
noncomputable abbrev mix (a0 a1 : Vec F S1x512x128 .f32) : FVec F S512x128 .f32 :=
  select lanes0 (shapeCast S512x128 a0 shapeCasts_S1x512x128_S512x128) (shapeCast S512x128 a1 shapeCasts_S1x512x128_S512x128)

/-- The gradient of the key block from the sums. -/
noncomputable def dkVal (a0 a1 : Vec F S1x512x128 .f32) : FVec F S512x128 .bf16 :=
  truncf .bf16 (mulf (mix a0 a1) (broadcast S512x128 (Named.named κ "ln2" 0x3F317218#32))) bitsLt_bf16_f32

/-- The gradient of the value block from the sums. -/
noncomputable def dvVal (a0 a1 : Vec F S1x512x128 .f32) : FVec F S512x128 .bf16 :=
  truncf .bf16 (mix a0 a1) bitsLt_bf16_f32

/-- The key block's results written. -/
noncomputable def finishS (i : grid0.Coords) (σ : St F) : St F :=
  finishRowS h1 ![3, 0] slices_S128x512_o3_0_S1x512 (k0_off6 i) (k0_off6_inb i)
    (finishRowS h0 ![67, 0] slices_S128x512_o67_0_S1x512 (k0_off5 i) (k0_off5_inb i)
      ((σ.set .dk (rOut.overlay (σ .dk) (dkVal (part (rHead h0) (σ .dka)) (part (rHead h1) (σ .dka))))).set .dv
        (rOut.overlay (σ .dv) (dvVal (part (rHead h0) (σ .dva)) (part (rHead h1) (σ .dva))))))

theorem run_finish (i : grid0.Coords) (σ : St F) : Run c R σ (finish R i) ⟨⟩ (finishS i σ) := by
  unfold finish
  exact (Run.load .dka).bind ((Run.load .dka).bind ((Run.load .dk).bind ((Run.store .dk).bind ((Run.load .dva).bind ((Run.load .dva).bind
    ((Run.load .dv).bind ((Run.store .dv).bind ((run_finishRow h0 _ _ _ _ _).bind (run_finishRow h1 _ _ _ _ _)))))))))

/-! ## The query blocks -/

/-- Four steps. -/
noncomputable def fourS (a b c d : Offs) (σ : St F) : St F :=
  stepS h1 noMask d (stepS h0 noMask c (stepS h1 noMask b (stepS h0 noMask a σ)))

theorem run_four (o o' o'' o''' : Offs) (σ : St F) : Run c R σ (four R o o' o'' o''') ⟨⟩ (fourS o o' o'' o''' σ) := by
  unfold four
  exact (run_step _ _ _ _).bind ((run_step _ _ _ _).bind ((run_step _ _ _ _).bind (run_step _ _ _ _)))

/-- A choice between two programs is a choice between two states. -/
theorem Run.dite {p : Prop} [Decidable p] {σ : St F} {t : p → P F PUnit} {e : ¬p → P F PUnit} {f : p → St F} {g : ¬p → St F}
    (ht : ∀ h, Run c R σ (t h) ⟨⟩ (f h)) (he : ∀ h, Run c R σ (e h) ⟨⟩ (g h)) :
    Run c R σ (if h : p then t h else e h) ⟨⟩ (if h : p then f h else g h) := by
  by_cases h : p
  · rw [dif_pos h, dif_pos h]; exact ht h
  · rw [dif_neg h, dif_neg h]; exact he h

/-- A loop whose every trip is a state's change. -/
theorem Run.loop {l : Scf.Loop 32} {hok : l.OK} {body : Fin l.trips → PUnit → P F PUnit} {f : Fin l.trips → St F → St F}
    (h : ∀ t σ, Run c R σ (body t ⟨⟩) ⟨⟩ (f t σ)) (σ : St F) :
    Run c R σ (Scf.Loop.for l hok ⟨⟩ body) ⟨⟩ ((List.finRange l.trips).foldl (fun σ t => f t σ) σ) := by
  have e : Scf.Loop.for l hok ⟨⟩ body = Scf.forFrom body (List.finRange l.trips) ⟨⟩ := Scf.for_eq ..
  rw [e]
  exact Run.forFrom h _ σ

/-- A trip of the first loop. -/
noncomputable def tripA (i : grid0.Coords) (t : Fin (k0_t1_loop i).trips) (σ : St F) : St F :=
  fourS (offA i t) (offA' i t 0) (offA' i t 1) (offA' i t 2) σ

/-- A trip of the second loop. -/
noncomputable def tripB (i : grid0.Coords) (t : Fin (k0_t2_loop i).trips) (σ : St F) : St F :=
  fourS (offB i t) (offB' i t 0) (offB' i t 1) (offB' i t 2) σ

/-- The blocks' change of the state. -/
noncomputable def blocksS (i : grid0.Coords) (σ : St F) : St F :=
  let σ₁ := (List.finRange (k0_t1_loop i).trips).foldl (fun σ t => tripA i t σ) σ
  let σ₂ := (List.finRange (k0_t2_loop i).trips).foldl (fun σ t => tripB i t σ) σ₁
  let σ₃ := if h : k0_cond2 i = 1#1 then stepS h1 noMask (offC i h 1) (stepS h0 noMask (offC i h 0) σ₂) else σ₂
  if h : k0_cond3 i = 1#1 then stepS h0 noMask offL σ₃ else σ₃

theorem run_two (i : grid0.Coords) {σ σ' : St F} {k : PUnit → P F PUnit}
    (hk : Run c R (if h : k0_cond2 i = 1#1 then stepS h1 noMask (offC i h 1) (stepS h0 noMask (offC i h 0) σ) else σ) (k ⟨⟩) ⟨⟩ σ') :
    Run c R σ (if h : k0_cond2 i = 1#1 then
        step R h0 noMask (offC i h 0) >>= fun _ => step R h1 noMask (offC i h 1) >>= k
      else k ⟨⟩ : P F PUnit) ⟨⟩ σ' := by
  by_cases h : k0_cond2 i = 1#1
  · rw [dif_pos h] at hk ⊢
    exact (run_step h0 noMask (offC i h 0) σ).bind ((run_step h1 noMask (offC i h 1) _).bind hk)
  · rw [dif_neg h] at hk ⊢
    exact hk

theorem run_last (i : grid0.Coords) (σ : St F) :
    Run c R σ (if h : k0_cond3 i = 1#1 then step R h0 noMask offL >>= fun _ => pure ⟨⟩ else pure ⟨⟩ : P F PUnit) ⟨⟩
      (if h : k0_cond3 i = 1#1 then stepS h0 noMask offL σ else σ) :=
  Run.dite (fun _ => (run_step h0 noMask offL σ).bind (Run.ret _ _)) (fun _ => Run.ret σ _)

theorem run_blocks (i : grid0.Coords) (σ : St F) : Run c R σ (blocks R i) ⟨⟩ (blocksS i σ) := by
  unfold blocks
  refine Run.bind (Run.loop (f := tripA i) (fun t σ => run_four (offA i t) (offA' i t 0) (offA' i t 1) (offA' i t 2) σ) σ) ?_
  refine Run.bind (Run.loop (f := tripB i) (fun t σ => run_four (offB i t) (offB' i t 0) (offB' i t 1) (offB' i t 2) σ) _) ?_
  exact run_two i (run_last i _)

/-- The body's change of the state after what comes first. -/
noncomputable def restS (i : grid0.Coords) (σ : St F) : St F :=
  let σ₁ := (σ.set .dka (rAll.overlay (σ .dka) accZero)).set .dva (rAll.overlay (σ .dva) accZero)
  let σ₂ := operandsS h1 lanes1 (operandsS h0 lanes0 σ₁)
  finishS i (blocksS i (stepS h0 maskChunk (offD i) σ₂))

/-- The body after what comes first. -/
noncomputable def rest (R : Refs) (i : grid0.Coords) : P F PUnit := do
  zeroAcc R.dka
  zeroAcc R.dva
  operands R h0 lanes0
  operands R h1 lanes1
  step R h0 maskChunk (offD i)
  blocks R i
  finish R i

theorem run_rest (i : grid0.Coords) (σ : St F) : Run c R σ (rest R i) ⟨⟩ (restS i σ) := by
  unfold rest
  exact (run_zero_dka _).bind ((run_zero_dva _).bind ((run_operands _ _ _).bind ((run_operands _ _ _).bind ((run_step _ _ _ _).bind
    ((run_blocks _ _).bind (run_finish _ _))))))

end Cert.KernelIdeal.Body
-- ==== Proof.First.lean ====
/-
What comes first at a pair's first block of keys: the pair's queries are copied in by the body's own transfer and the
two sums over all key blocks are set to zero. The buffers of a point are named here, each by its window or scratch.
-/
module

public import proofs.«01_k».proof.Proof.Sem
public import proofs.«01_k».proof.Proof.Gen.KernelIdeal.Frame

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F]

local notation "𝕄" => MT nD τ sig Unit (Elt F) ℕ (Pipeline.UD sig nD τ) ℕ

/-- The buffers of the body at point `t`. -/
abbrev refsAt (t : Fin cfg0.N) : Refs where
  q := Memref.whole main_v77
  hq := Memref.isWhole_whole _
  dout := win0_0.stage (cfg0.slots t 0)
  hdout := hstage0_0 ((cfg0.slots t 0).cast nbuf0_0)
  k := win0_1.stage (cfg0.slots t 1)
  hk := hstage0_1 ((cfg0.slots t 1).cast nbuf0_1)
  v := win0_2.stage (cfg0.slots t 2)
  hv := hstage0_2 ((cfg0.slots t 2).cast nbuf0_2)
  lse := win0_3.stage (cfg0.slots t 3)
  hlse := hstage0_3 ((cfg0.slots t 3).cast nbuf0_3)
  delta := win0_4.stage (cfg0.slots t 4)
  hdelta := hstage0_4 ((cfg0.slots t 4).cast nbuf0_4)
  dqt := win0_5.stage (cfg0.slots t 5)
  hdqt := hstage0_5 ((cfg0.slots t 5).cast nbuf0_5)
  dk := win0_6.stage (cfg0.slots t 6)
  hdk := hstage0_6 ((cfg0.slots t 6).cast nbuf0_6)
  dv := win0_7.stage (cfg0.slots t 7)
  hdv := hstage0_7 ((cfg0.slots t 7).cast nbuf0_7)
  dck := win0_8.stage (cfg0.slots t 8)
  hdck := hstage0_8 ((cfg0.slots t 8).cast nbuf0_8)
  dcq := win0_9.stage (cfg0.slots t 9)
  hdcq := hstage0_9 ((cfg0.slots t 9).cast nbuf0_9)
  qv := Memref.whole cc0_scratch0
  hqv := Memref.isWhole_whole _
  st := Memref.whole cc0_scratch1
  hst := Memref.isWhole_whole _
  dp := Memref.whole cc0_scratch2
  hdp := Memref.isWhole_whole _
  pt := Memref.whole cc0_scratch3
  hpt := Memref.isWhole_whole _
  ds := Memref.whole cc0_scratch4
  hds := Memref.isWhole_whole _
  dka := Memref.whole cc0_scratch5
  hdka := Memref.isWhole_whole _
  dva := Memref.whole cc0_scratch6
  hdva := Memref.isWhole_whole _
  vh := Memref.whole cc0_scratch7
  hvh := Memref.isWhole_whole _
  kx := Memref.whole cc0_scratch8
  hkx := Memref.isWhole_whole _
  sem := cc0_scoped0

/-- The rows of the queries' array the transfer at point `i` reads. -/
abbrev rQin (i : grid0.Coords) (h : k0_cond1 i = 1#1) : Rect S8x16384x128 :=
  Rect.unit (s := S8x16384x128) (k0_off1 i) S2x16384x128.size (k0_off1_inb i h)

/-- The transfer of a pair's queries, and its wait. -/
def copyIn (R : Refs) (i : grid0.Coords) (h : k0_cond1 i = 1#1) : P F PUnit := do
  Prog.lift (.enqueueDma (R.q.slice (rQin i h) (fun _ => rfl))
    (.here R.qv) (.dma R.sem.sem) (R.hq.wordExact_slice rfl _ (k0_off1_wordsbf16 i h)) R.hqv.wordExact ⟨Or.inl rfl, trivial⟩)
  Prog.lift (.waitDma2 R.sem.sem (R.q.slice (rQin i h) (fun _ => rfl))
    R.qv (R.hq.wordExact_slice rfl _ (k0_off1_wordsbf16 i h)) R.hqv.wordExact)

/-- The whole of the transposed gradient of a pair's queries. -/
abbrev rDqtAll : Rect S1x128x16384 := Rect.unit (s := S1x128x16384) ![0, 0, 0] S1x128x16384.size inb_S1x128x16384_S1x128x16384_0_0_0
/-- The whole of a pair's rows. -/
abbrev rRowAll : Rect S1x2x16384 := Rect.unit (s := S1x2x16384) ![0, 0, 0] S1x2x16384.size inb_S1x2x16384_S1x2x16384_0_0_0

/-- The two sums over all key blocks at zero. -/
def zeroOut (R : Refs) : P F PUnit := do
  let _ : Vec F S1x128x16384 .f32 ← Prog.lift (.load R.dqt rDqtAll.toLoadRect (View.loadsAt_vmem h_S1x128x16384))
  Prog.lift (.store R.dqt rDqtAll (broadcast S1x128x16384 (Scalar.ofBits .f32 0x00000000#32) : FVec F S1x128x16384 .f32) Finset.univ
    (View.stores_vmem_bits_univ h_S1x128x16384 rfl) (.inl rfl))
  let _ : Vec F S1x2x16384 .f32 ← Prog.lift (.load R.dcq rRowAll.toLoadRect (View.loadsAt_vmem h_S1x2x16384))
  Prog.lift (.store R.dcq rRowAll (broadcast S1x2x16384 (Scalar.ofBits .f32 0x00000000#32) : FVec F S1x2x16384 .f32) Finset.univ
    (View.stores_vmem_bits_univ h_S1x2x16384 rfl) (.inl rfl))

theorem start_eq (R : Refs) (i : grid0.Coords) (h : k0_cond1 i = 1#1) :
    (start R i h : P F PUnit) = copyIn R i h >>= fun _ => zeroOut R := rfl

/-- The state with the two sums at zero. -/
def zeroOutS (σ : St F) : St F :=
  (σ.set .dqt (rDqtAll.overlay (σ .dqt) (broadcast S1x128x16384 (Scalar.ofBits .f32 0x00000000#32)))).set .dcq
    (rRowAll.overlay (σ .dcq) (broadcast S1x2x16384 (Scalar.ofBits .f32 0x00000000#32)))

theorem run_zeroOut {c : Dev nD} {R : Refs} (σ : St F) : Run c R σ (zeroOut R) ⟨⟩ (zeroOutS σ) := by
  unfold zeroOut
  exact (Run.load .dqt).bind ((Run.store .dqt).bind ((Run.load .dcq).bind (Run.store .dcq)))

/-- The transfer: the scratch for the queries ends at the pair's rows of the array, whatever it held. -/
theorem wp_copyIn (c : Dev nD) (t : Fin cfg0.N) (i : grid0.Coords) (h : k0_cond1 i = 1#1)
    (Q : Buf (Elt F) ((c : Thread nD τ).loc main_v77)) (X : B.qv.shape.Idx → Elt F B.qv.elt) (W : Waits sig Unit) (K : PUnit → sProp 𝕄) :
    iprop(semVal ((c : Thread nD τ), SemLoc.dma 20) 0
        ∗ ((Memref.whole main_v77 : Memref sig .tc .hbm S8x16384x128 .bf16).view.loc (c : Thread nD τ) ↦{fullShare} Q)
        ∗ owns (c : Thread nD τ) (Memref.whole cc0_scratch0) fullShare X
        ∗ owes (c : Thread nD τ) 0 W
        ∗ (iprop(semVal ((c : Thread nD τ), SemLoc.dma 20) 0
            ∗ ((Memref.whole main_v77 : Memref sig .tc .hbm S8x16384x128 .bf16).view.loc (c : Thread nD τ) ↦{fullShare} Q)
            ∗ owns (c : Thread nD τ) (Memref.whole cc0_scratch0) fullShare (part (rQin i h) Q)
            ∗ (∃ W', owes (c : Thread nD τ) 0 W')) -∗ K ⟨⟩))
      ⊢ wp frame (wpE (defs₀ (F := F)) Variants.none (c : Thread nD τ) none) Set.univ (copyIn (refsAt t) i h) K := by
  unfold copyIn
  unfold owns
  iintro ⟨Hs, Hq, ⟨%f, %hf, Hx⟩, HW, Hk⟩
  sl_exec
  sl_step
  iapply Hk
  isplitl [Hs]; · iexact Hs
  isplitl [Hq]; · iexact Hq
  isplitl [Hx]
  · iexists _
    isplitr
    swap; · iexact Hx
    ipureintro
    funext j
    refine (congrArg _ (show j = (Rect.whole cc0_scratch0.ty.shape).emb j from (Rect.emb_whole_apply ..).symm)).trans ?_
    exact View.read_writes_cons_emb ..
  · iexists _; iexact HW

/-- A run that keeps what else is held. -/
theorem Run.keep {c : Dev nD} {R : Refs} {σ σ' : St F} {p : P F PUnit} (h : Run c R σ p ⟨⟩ σ') (O : sProp 𝕄) :
    iprop(holds c R σ ∗ O) ⊢ wp frame (wpE (defs₀ (F := F)) Variants.none (c : Thread nD τ) none) Set.univ p
      (fun _ => iprop(holds c R σ' ∗ O)) := by
  unfold Run at h
  iintro ⟨H, HO⟩
  iapply (wp_wand_r frame (wpE (defs₀ (F := F)) Variants.none (c : Thread nD τ) none) Set.univ)
  isplitl [H]
  · iapply h; iexact H
  · iintro %x ⟨-, H⟩
    isplitl [H]; · iexact H
    iexact HO

/-- What comes first, as a change of the state: `Q` is the queries' array. -/
def firstS (i : grid0.Coords) (Q : S8x16384x128.Idx → Elt F .bf16) (σ : St F) : St F :=
  if h : k0_cond1 i = 1#1 then zeroOutS (σ.set .qv (part (rQin i h) Q)) else σ

/-- The body's change of the state at a point. -/
def pointS (i : grid0.Coords) (Q : S8x16384x128.Idx → Elt F .bf16) (σ : St F) : St F := restS i (firstS i Q σ)

/-- What the body holds besides its buffers in VMEM: its transfer's counter at zero, the queries' array, and the
    record of its waits. -/
def others (c : Dev nD) (Q : Buf (Elt F) ((c : Thread nD τ).loc main_v77)) : sProp 𝕄 :=
  iprop(semVal ((c : Thread nD τ), SemLoc.dma 20) 0
    ∗ ((Memref.whole main_v77 : Memref sig .tc .hbm S8x16384x128 .bf16).view.loc (c : Thread nD τ) ↦{fullShare} Q)
    ∗ (∃ W, owes (c : Thread nD τ) 0 W))

theorem wp_first (c : Dev nD) (t : Fin cfg0.N) (i : grid0.Coords) (Q : Buf (Elt F) ((c : Thread nD τ).loc main_v77)) (σ : St F) :
    iprop(holds c (refsAt t) σ ∗ others c Q)
      ⊢ wp frame (wpE (defs₀ (F := F)) Variants.none (c : Thread nD τ) none) Set.univ (first (refsAt t) i)
          (fun _ => iprop(holds c (refsAt t) (firstS i Q σ) ∗ others c Q)) := by
  unfold first firstS
  by_cases h : k0_cond1 i = 1#1
  · rw [dif_pos h, dif_pos h, start_eq, wp_bind, holds_split c (refsAt t) .qv]
    unfold others
    iintro ⟨⟨Hx, Hr⟩, Hs, Hq, ⟨%W, HW⟩⟩
    iapply (wp_copyIn c t i h Q (σ .qv) W)
    isplitl [Hs]; · iexact Hs
    isplitl [Hq]; · iexact Hq
    isplitl [Hx]; · iexact Hx
    isplitl [HW]; · iexact HW
    iintro ⟨Hs, Hq, Hx, HW⟩
    iapply ((run_zeroOut (c := c) (R := refsAt t) (σ.set .qv (part (rQin i h) Q))).keep)
    isplitl [Hx Hr]
    · rw [holds_set c (refsAt t) .qv]
      isplitl [Hx]
      · iexact Hx
      · iexact Hr
    · isplitl [Hs]; · iexact Hs
      isplitl [Hq]; · iexact Hq
      iexact HW
  · rw [dif_neg h, dif_neg h]
    iintro H
    sl_step
    iexact H

/-- THE POINT: the body takes the state to `pointS`, whatever it was. -/
theorem wp_point (c : Dev nD) (t : Fin cfg0.N) (i : grid0.Coords) (Q : Buf (Elt F) ((c : Thread nD τ).loc main_v77)) (σ : St F) :
    iprop(holds c (refsAt t) σ ∗ others c Q)
      ⊢ wp frame (wpE (defs₀ (F := F)) Variants.none (c : Thread nD τ) none) Set.univ (point (refsAt t) i)
          (fun _ => iprop(holds c (refsAt t) (pointS i Q σ) ∗ others c Q)) := by
  have e : (point (refsAt t) i : P F PUnit) = first (refsAt t) i >>= fun _ => rest (refsAt t) i := rfl
  rw [e, wp_bind]
  have h : Run c (refsAt t) (firstS i Q σ) (rest (refsAt t) i) ⟨⟩ (pointS i Q σ) := run_rest i (firstS i Q σ)
  exact (wp_first c t i Q σ).trans (wp_mono _ _ _ fun _ => h.keep (others c Q))

end Cert.KernelIdeal.Body
-- ==== Proof.Keep.lean ====
/-
What the body leaves as it found it: the five blocks it is handed, and the queries once they are in.
-/
module

public import proofs.«01_k».proof.Proof.First

@[expose] public section

noncomputable section

namespace Cert.KernelIdeal.Body

open Idealize.ShloMosaic

variable {F : FTy → Type} [FloatOps F] [Named F]

/-- The buffers only read after what comes first. -/
def B.inp : B → Bool
  | .dout | .k | .v | .lse | .delta | .qv => true
  | _ => false

/-- `f` leaves every buffer that is only read as it was. -/
def Keeps (f : St F → St F) : Prop := ∀ (σ : St F) (b : B), b.inp = true → f σ b = σ b

theorem keep_set {σ : St F} {b b' : B} {X : b'.shape.Idx → Elt F b'.elt} (hb : b.inp = true) (hb' : b'.inp = false) :
    σ.set b' X b = σ b := St.set_ne _ _ (by rintro rfl; rw [hb] at hb'; exact absurd hb' (by decide))

theorem Keeps.foldl {α : Type} (f : α → St F → St F) (h : ∀ a, Keeps (f a)) (l : List α) : Keeps (fun σ => l.foldl (fun σ a => f a σ) σ) := by
  induction l with
  | nil => exact fun _ _ _ => rfl
  | cons a l ih => exact fun σ b hb => (ih (f a σ) b hb).trans (h a σ b hb)

theorem keeps_chunkS (s h f lse dl) (r : Fin 16) : Keeps (F := F) (chunkS s h f lse dl r) := fun σ b hb => by
  unfold chunkS
  rw [keep_set hb rfl, keep_set hb rfl]

theorem keeps_chunksS (s h f lse dl) (rs : List (Fin 16)) : Keeps (F := F) (chunksS s h f lse dl rs) :=
  Keeps.foldl _ (fun r => keeps_chunkS s h f lse dl r) rs

theorem keeps_headChunksS (s h f off i) : Keeps (F := F) (headChunksS s h f off i) := fun σ b hb => by
  unfold headChunksS
  exact keeps_chunksS _ _ _ _ _ _ _ b hb

theorem keeps_productsS (s h vdo vq) : Keeps (F := F) (productsS s h vdo vq) := fun σ b hb => by
  unfold productsS
  rw [keep_set hb rfl, keep_set hb rfl]

theorem keeps_squaresS (s f o) : Keeps (F := F) (squaresS s f o) := fun σ b hb => by
  unfold squaresS
  rw [keeps_headChunksS _ _ _ _ _ _ b hb, keeps_headChunksS _ _ _ _ _ _ b hb, keeps_productsS _ _ _ _ _ b hb, keeps_productsS _ _ _ _ _ b hb]

theorem keeps_accumS (s h off i vdo vq) : Keeps (F := F) (accumS s h off i vdo vq) := fun σ b hb => by
  unfold accumS
  rw [keep_set hb rfl, keep_set hb rfl, keep_set hb rfl]

theorem keeps_stepS (s f o) : Keeps (F := F) (stepS s f o) := fun σ b hb => by
  unfold stepS
  rw [keep_set hb rfl, keeps_accumS _ _ _ _ _ _ _ b hb, keeps_accumS _ _ _ _ _ _ _ b hb, keeps_squaresS _ _ _ _ b hb]

theorem keeps_fourS (a b c d) : Keeps (F := F) (fourS a b c d) := fun σ x hb => by
  unfold fourS
  rw [keeps_stepS _ _ _ _ x hb, keeps_stepS _ _ _ _ x hb, keeps_stepS _ _ _ _ x hb, keeps_stepS _ _ _ _ x hb]

theorem keeps_blocksS (i) : Keeps (F := F) (blocksS i) := fun σ b hb => by
  have hA := Keeps.foldl (tripA (F := F) i) (fun t => keeps_fourS _ _ _ _) (List.finRange _)
  have hB := Keeps.foldl (tripB (F := F) i) (fun t => keeps_fourS _ _ _ _) (List.finRange _)
  unfold blocksS
  have h2 : ∀ σ : St F, (if h : k0_cond2 i = 1#1 then stepS h1 noMask (offC i h 1) (stepS h0 noMask (offC i h 0) σ) else σ) b = σ b := fun σ => by
    split
    · rw [keeps_stepS _ _ _ _ b hb, keeps_stepS _ _ _ _ b hb]
    · rfl
  split
  · rw [keeps_stepS _ _ _ _ b hb, h2]
    exact (hB _ b hb).trans (hA σ b hb)
  · rw [h2]
    exact (hB _ b hb).trans (hA σ b hb)

theorem keeps_operandsS (h lanes) : Keeps (F := F) (operandsS h lanes) := fun σ b hb => by
  unfold operandsS
  rw [keep_set hb rfl, keep_set hb rfl, keep_set hb rfl]

theorem keeps_finishS (i) : Keeps (F := F) (finishS i) := fun σ b hb => by
  unfold finishS finishRowS
  rw [keep_set hb rfl, keep_set hb rfl, keep_set hb rfl, keep_set hb rfl]

/-- After what comes first, the body leaves the buffers it only reads as they were. -/
theorem keeps_restS (i) : Keeps (F := F) (restS i) := fun σ b hb => by
  unfold restS
  rw [keeps_finishS i _ b hb, keeps_blocksS i _ b hb, keeps_stepS _ _ _ _ b hb, keeps_operandsS _ _ _ b hb, keeps_operandsS _ _ _ b hb,
    keep_set hb rfl, keep_set hb rfl]

/-- The body leaves its five input blocks as they were. -/
theorem pointS_keep (i : grid0.Coords) (Q : S8x16384x128.Idx → Elt F .bf16) (σ : St F) {b : B} (hb : b.inp = true) (hq : b ≠ .qv) :
    pointS i Q σ b = σ b := by
  unfold pointS firstS
  rw [keeps_restS i _ b hb]
  split
  · unfold zeroOutS
    rw [keep_set hb rfl, keep_set hb rfl, St.set_ne _ _ hq]
  · rfl

/-- At a pair's first block of keys the queries' buffer ends at the pair's queries. -/
theorem pointS_qv_first (i : grid0.Coords) (Q : S8x16384x128.Idx → Elt F .bf16) (σ : St F) (h : k0_cond1 i = 1#1) :
    pointS i Q σ .qv = part (rQin i h) Q := by
  unfold pointS firstS
  rw [keeps_restS i _ .qv rfl, dif_pos h]
  unfold zeroOutS
  rw [keep_set rfl rfl, keep_set rfl rfl, St.set_self]

/-- At another block of keys the queries' buffer stays. -/
theorem pointS_qv_later (i : grid0.Coords) (Q : S8x16384x128.Idx → Elt F .bf16) (σ : St F) (h : ¬ k0_cond1 i = 1#1) :
    pointS i Q σ .qv = σ .qv := by
  unfold pointS firstS
  rw [keeps_restS i _ .qv rfl, dif_neg h]

end Cert.KernelIdeal.Body
-- ==== Proof.Same.lean ====
module
public import proofs.«01_k».proof.Proof.Body

public section

set_option pp.maxSteps 400
namespace Cert.KernelIdeal.Body
open Idealize.ShloMosaic Idealize.SL.Sem
open Facts₀ Facts
variable {F : FTy → Type} [FloatOps F] [Named F]

set_option maxRecDepth 100000 in
set_option maxHeartbeats 4000000 in
/-- The printed body is the program of this module. -/
theorem cc0_eq (R : Refs) (i : grid0.Coords) :
    (cc0_attn_bwd i R.q R.hq R.dout R.hdout R.k R.hk R.v R.hv R.lse R.hlse R.delta R.hdelta R.dqt R.hdqt R.dk R.hdk R.dv R.hdv
      R.dck R.hdck R.dcq R.hdcq R.qv R.hqv R.st R.hst R.dp R.hdp R.pt R.hpt R.ds R.hds R.dka R.hdka R.dva R.hdva R.vh R.hvh R.kx R.hkx R.sem
      : P F PUnit) = point R i := by
  unfold cc0_attn_bwd point
  by_cases h : k0_cond1 i = 1#1
  · refine (congrArg (fun x => x >>= _) (dif_pos h)).trans (Eq.trans ?_ (congrArg (fun x => x >>= _) (dif_pos h)).symm)
    rfl
  · refine (congrArg (fun x => x >>= _) (dif_neg h)).trans (Eq.trans ?_ (congrArg (fun x => x >>= _) (dif_neg h)).symm)
    rfl
end Cert.KernelIdeal.Body
-- ==== Proof.Launch.lean ====
/-
The launch: what every point's body finds and leaves in its windows, and the run of the whole program from it.
-/
module

public import proofs.«01_k».proof.Proof.Keep
public import proofs.«01_k».proof.Proof.Same
public import Idealize.ShloMosaic.Lib.Pipeline.FrameBody

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the points find -/

/-- Two unit rectangles at one place name the same indices. -/
theorem emb_unit_congr {s : Shape} {off off' : Fin s.rank → Nat} {size : Fin s.rank → Nat} {i : ∀ a, off a + size a ≤ s.size a}
    {i' : ∀ a, off' a + size a ≤ s.size a} (e : off = off') (j : (Rect.unit (s := s) off size i).shape.Idx) :
    (Rect.unit (s := s) off size i).emb j = (Rect.unit (s := s) off' size i').emb j := by subst e; rfl

theorem inbPair (t : Fin cfg0.N) : ∀ a, (![2 * (t.val / 32), 0, 0] : Fin 3 → Nat) a + S2x16384x128.size a ≤ S8x16384x128.size a := by
  revert t; decide +kernel

/-- The rows of the queries' array that belong to the pair of heads of point `t`. -/
abbrev rPair (t : Fin cfg0.N) : Rect S8x16384x128 :=
  Rect.unit (s := S8x16384x128) ![2 * (t.val / 32), 0, 0] S2x16384x128.size (inbPair t)

/-- The queries of the pair of heads of point `t`. -/
def qAt (c : Dev nD) (t : Fin cfg0.N) : S2x16384x128.Idx → Elt F .bf16 := part (rPair t) (Gen.V m c main_v77)

theorem cond1_iff : ∀ t : Fin cfg0.N, k0_cond1 (grid0.coords t) = 1#1 ↔ t.val % 32 = 0 := by decide +kernel
theorem off1_eq : ∀ t : Fin cfg0.N, t.val % 32 = 0 → k0_off1 (grid0.coords t) = ![2 * (t.val / 32), 0, 0] := by decide +kernel

theorem part_rQin (c : Dev nD) (t : Fin cfg0.N) (h : k0_cond1 (grid0.coords t) = 1#1) :
    part (rQin (grid0.coords t) h) (Gen.V m c main_v77) = qAt m c t := by
  have e := off1_eq t ((cond1_iff t).mp h)
  unfold qAt part
  funext j
  congr 1
  exact emb_unit_congr e j

/-- The state holds the point's blocks, and the pair's queries where an earlier point has brought them. -/
structure Inp (c : Dev nD) (t : Fin cfg0.N) (σ : St F) : Prop where
  dout : σ .dout = Gen.iblk m c 0 t
  k : σ .k = Gen.iblk m c 1 t
  v : σ .v = Gen.iblk m c 2 t
  lse : σ .lse = Gen.iblk m c 3 t
  delta : σ .delta = Gen.iblk m c 4 t
  qv : t.val % 32 ≠ 0 → σ .qv = qAt m c t

/-- After a point the queries' buffer holds its pair's queries. -/
theorem pointS_qv (c : Dev nD) (t : Fin cfg0.N) (σ : St F) (h : Inp m c t σ) :
    pointS (grid0.coords t) (Gen.V m c main_v77) σ .qv = qAt m c t := by
  by_cases h1 : k0_cond1 (grid0.coords t) = 1#1
  · rw [pointS_qv_first _ _ _ h1, part_rQin]
  · rw [pointS_qv_later _ _ _ h1, h.qv fun e => h1 ((cond1_iff t).mpr e)]

/-- What a point may make of an output's contents `Y`: what the body makes of a state that has the point's
    blocks and `Y`. -/
def OutRel (b : B) (c : Dev nD) (t : Fin cfg0.N) (Y X : b.shape.Idx → Elt F b.elt) : Prop :=
  ∃ σ, Inp m c t σ ∧ σ b = Y ∧ X = pointS (grid0.coords t) (Gen.V m c main_v77) σ b

/-! ## The invariant -/

/-- The scratch buffers at some state in which the queries are the pair's where an earlier point brought them. -/
def scratch (c : Dev nD) (n : ℕ) : sProp 𝕄 :=
  iprop(∃ σ : St F, ⌜∀ t : Fin cfg0.N, t.val = n → n % 32 ≠ 0 → σ .qv = qAt m c t⌝
    ∗ owns (c : Thread nD τ) (Memref.whole cc0_scratch0) fullShare (σ .qv)
    ∗ owns (c : Thread nD τ) (Memref.whole cc0_scratch1) fullShare (σ .st)
    ∗ owns (c : Thread nD τ) (Memref.whole cc0_scratch2) fullShare (σ .dp)
    ∗ owns (c : Thread nD τ) (Memref.whole cc0_scratch3) fullShare (σ .pt)
    ∗ owns (c : Thread nD τ) (Memref.whole cc0_scratch4) fullShare (σ .ds)
    ∗ owns (c : Thread nD τ) (Memref.whole cc0_scratch5) fullShare (σ .dka)
    ∗ owns (c : Thread nD τ) (Memref.whole cc0_scratch6) fullShare (σ .dva)
    ∗ owns (c : Thread nD τ) (Memref.whole cc0_scratch7) fullShare (σ .vh)
    ∗ owns (c : Thread nD τ) (Memref.whole cc0_scratch8) fullShare (σ .kx))

/-- The body's own cell. -/
abbrev osem0 : Fin 1 → SemLoc sig := fun j => (![SemLoc.dma 20] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0) := by
  rw [Pipeline.ownSems0_eq_of_list c osem0 [0] (by decide) (by decide)]; rfl

/-- The array the body's own transfer reads. -/
def H0 : Finset (Ref sig .tc) := {main_v77}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop(((Memref.whole main_v77 : Memref sig .tc .hbm S8x16384x128 .bf16).view.loc (c : Thread nD τ)) ↦{fullShare} Gen.V m c main_v77) := by
  rw [BI.bigSep_eq_bigSepL_of_eq [main_v77] (by decide) (by decide)]; rfl

/-- A state with these contents of the scratch buffers. -/
def scrOf (f0 : S2x16384x128.Idx → Elt F .bf16) (f1 f2 : S2x2x512x512.Idx → Elt F .f32) (f3 f4 : S2x2x512x512.Idx → Elt F .bf16)
    (f5 f6 : S2x512x128.Idx → Elt F .f32) (f7 : S2x512x128.Idx → Elt F .bf16) (f8 : S2x144x512.Idx → Elt F .bf16) : St F
  | .k | .v => f7
  | .dout | .dk | .dv => fun _ => (Scalar.ofBits .bf16 0x0000#16 : F .bf16)
  | .lse | .delta | .dqt | .dck | .dcq => fun _ => (Scalar.ofBits .f32 0x00000000#32 : F .f32)
  | .qv => f0 | .st => f1 | .dp => f2 | .pt => f3 | .ds => f4 | .dka => f5 | .dva => f6 | .vh => f7 | .kx => f8

/-- What the body holds besides its windows, before point `n`. -/
def Inv (c : Dev nD) (n : ℕ) : sProp 𝕄 :=
  iprop(scratch m c n ∗ (∃ r, prngReg c r) ∗ semVal ((c : Thread nD τ), SemLoc.dma 20) 0
    ∗ ((Memref.whole main_v77 : Memref sig .tc .hbm S8x16384x128 .bf16).view.loc (c : Thread nD τ) ↦{fullShare} Gen.V m c main_v77))

/-- The proof's data: the arrays as the region finds them; a point leaves its inputs and makes of its outputs what
    the body makes of them. -/
def rdat (c : Dev nD) : RDat τ (Elt F) Unit ℕ (Pipeline.UD sig nD τ) ℕ cfg0 c where
  A w := Gen.V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => OutRel m .dqt c t Y X
    | ⟨6, _⟩ => fun Y X => OutRel m .dk c t Y X
    | ⟨7, _⟩ => fun Y X => OutRel m .dv c t Y X
    | ⟨8, _⟩ => fun Y X => OutRel m .dck c t Y X
    | ⟨9, _⟩ => fun Y X => OutRel m .dcq c t Y X
  Φ n := Inv m c n.val
  q _ := fullShare
  owed _ := 0

theorem A_eq (c : Dev nD) (w : Fin cfg0.W) : (rdat m c).A w = Gen.V m c (Pipeline.arrRef spec0 w) := rfl

theorem finds_in0 (c : Dev nD) (t : Fin cfg0.N) (Y) (h : (rdat m c).Finds 0 t Y) : Y = Gen.iblk m c 0 t := by
  obtain ⟨d, e⟩ := (rdat m c).finds_in_eq_fetched 0 rfl (fun _ _ _ => rfl) (fun _ _ _ h => h) t Y h
  exact e

theorem finds_in1 (c : Dev nD) (t : Fin cfg0.N) (Y) (h : (rdat m c).Finds 1 t Y) : Y = Gen.iblk m c 1 t := by
  obtain ⟨d, e⟩ := (rdat m c).finds_in_eq_fetched 1 rfl (fun _ _ _ => rfl) (fun _ _ _ h => h) t Y h
  exact e

theorem finds_in2 (c : Dev nD) (t : Fin cfg0.N) (Y) (h : (rdat m c).Finds 2 t Y) : Y = Gen.iblk m c 2 t := by
  obtain ⟨d, e⟩ := (rdat m c).finds_in_eq_fetched 2 rfl (fun _ _ _ => rfl) (fun _ _ _ h => h) t Y h
  exact e

theorem finds_in3 (c : Dev nD) (t : Fin cfg0.N) (Y) (h : (rdat m c).Finds 3 t Y) : Y = Gen.iblk m c 3 t := by
  obtain ⟨d, e⟩ := (rdat m c).finds_in_eq_fetched 3 rfl (fun _ _ _ => rfl) (fun _ _ _ h => h) t Y h
  exact e

theorem finds_in4 (c : Dev nD) (t : Fin cfg0.N) (Y) (h : (rdat m c).Finds 4 t Y) : Y = Gen.iblk m c 4 t := by
  obtain ⟨d, e⟩ := (rdat m c).finds_in_eq_fetched 4 rfl (fun _ _ _ => rfl) (fun _ _ _ h => h) t Y h
  exact e

/-! ## The body -/

theorem defs₀_row (t : Fin cfg0.N) :
    defs₀ (F := F) .tc cfg0.body (cfg0.bodyArgs t (cfg0.slots t)) = point (refsAt t) (grid0.coords t) := by
  refine Eq.trans ?_ (cc0_eq (refsAt t) (grid0.coords t))
  unfold defs₀; rw [Defs.onTc_tc]

/-- The state's buffers one by one. -/
theorem holds_eq (c : Dev nD) (R : Refs) (σ : St F) :
    (holds c R σ : sProp 𝕄) = iprop(owns (c : Thread nD τ) R.dout fullShare (σ .dout) ∗ owns (c : Thread nD τ) R.k fullShare (σ .k)
      ∗ owns (c : Thread nD τ) R.v fullShare (σ .v) ∗ owns (c : Thread nD τ) R.lse fullShare (σ .lse)
      ∗ owns (c : Thread nD τ) R.delta fullShare (σ .delta) ∗ owns (c : Thread nD τ) R.dqt fullShare (σ .dqt)
      ∗ owns (c : Thread nD τ) R.dk fullShare (σ .dk) ∗ owns (c : Thread nD τ) R.dv fullShare (σ .dv)
      ∗ owns (c : Thread nD τ) R.dck fullShare (σ .dck) ∗ owns (c : Thread nD τ) R.dcq fullShare (σ .dcq)
      ∗ owns (c : Thread nD τ) R.qv fullShare (σ .qv) ∗ owns (c : Thread nD τ) R.st fullShare (σ .st)
      ∗ owns (c : Thread nD τ) R.dp fullShare (σ .dp) ∗ owns (c : Thread nD τ) R.pt fullShare (σ .pt)
      ∗ owns (c : Thread nD τ) R.ds fullShare (σ .ds) ∗ owns (c : Thread nD τ) R.dka fullShare (σ .dka)
      ∗ owns (c : Thread nD τ) R.dva fullShare (σ .dva) ∗ owns (c : Thread nD τ) R.vh fullShare (σ .vh)
      ∗ owns (c : Thread nD τ) R.kx fullShare (σ .kx)) :=
  BI.bigSep_univ_eq_bigSepL ([.dout, .k, .v, .lse, .delta, .dqt, .dk, .dv, .dck, .dcq, .qv, .st, .dp, .pt, .ds, .dka, .dva, .vh, .kx] : List B)
    (by decide) (by decide) (fun b => owns (c : Thread nD τ) (R.ref b) fullShare (σ b))

/-- The state of a point: its windows' contents `Y` with the scratch buffers of `σ`. -/
def stOf (Y : (w : Fin cfg0.W) → (cfg0.win w).block.Idx → Elt F (cfg0.win w).elt) (σ : St F) : St F
  | .dout => Y 0 | .k => Y 1 | .v => Y 2 | .lse => Y 3 | .delta => Y 4 | .dqt => Y 5 | .dk => Y 6 | .dv => Y 7 | .dck => Y 8 | .dcq => Y 9
  | .qv => σ .qv | .st => σ .st | .dp => σ .dp | .pt => σ .pt | .ds => σ .ds | .dka => σ .dka | .dva => σ .dva | .vh => σ .vh | .kx => σ .kx

theorem qAt_succ (c : Dev nD) (t t' : Fin cfg0.N) (h : t'.val = t.val + 1) (h' : (t.val + 1) % 32 ≠ 0) : qAt m c t' = qAt m c t := by
  have e : t'.val / 32 = t.val / 32 := by omega
  unfold qAt part
  funext j
  congr 1
  exact emb_unit_congr (by rw [e]) j

theorem body_obligation (c : Dev nD) : (rdat (F := F) m c).BodyObligation (defs₀ (F := F)) Variants.none () Set.univ := fun t Y hY => by
  have hi : ∀ σ : St F, (t.val % 32 ≠ 0 → σ .qv = qAt m c t) → Inp m c t (stOf Y σ) := fun σ hσ =>
    ⟨finds_in0 m c t _ (hY 0), finds_in1 m c t _ (hY 1), finds_in2 m c t _ (hY 2),
      finds_in3 m c t _ (hY 3), finds_in4 m c t _ (hY 4), hσ⟩
  rw [Gen.bigSep_W0, Gen.bigSep_W0, defs₀_row]
  rw [show (rdat m c).Φ t.castSucc = Inv m c t.val from rfl, show (rdat m c).Φ t.succ = Inv m c (t.val + 1) from rfl]
  unfold RDat.owesAt Pipeline.owesWithin
  rw [show (rdat m c).owed t.castSucc = 0 from rfl, show (rdat m c).owed t.succ = 0 from rfl]
  unfold Inv scratch
  iintro ⟨⟨⟨%σ, %hσ, S0, S1, S2, S3, S4, S5, S6, S7, S8⟩, Hg, Hs, Hq⟩, ⟨%W, -, HW⟩, ⟨W0, W1, W2, W3, W4, W5, W6, W7, W8, W9⟩⟩
  have hI := hi σ fun h => hσ t rfl h
  iapply (wp_wand_r frame (wpE (defs₀ (F := F)) Variants.none (c : Thread nD τ) none) Set.univ
    (Q := fun _ => iprop(holds c (refsAt t) (pointS (grid0.coords t) (Gen.V m c main_v77) (stOf Y σ)) ∗ others c (Gen.V m c main_v77))))
  isplitr [Hg]
  · iapply (wp_point c t (grid0.coords t) (Gen.V m c main_v77) (stOf Y σ))
    rw [holds_eq]
    unfold others
    isplitr [Hs Hq HW]
    · isplitl [W0]; · iexact W0
      isplitl [W1]; · iexact W1
      isplitl [W2]; · iexact W2
      isplitl [W3]; · iexact W3
      isplitl [W4]; · iexact W4
      isplitl [W5]; · iexact W5
      isplitl [W6]; · iexact W6
      isplitl [W7]; · iexact W7
      isplitl [W8]; · iexact W8
      isplitl [W9]; · iexact W9
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    · isplitl [Hs]; · iexact Hs
      isplitl [Hq]; · iexact Hq
      iexists W; iexact HW
  iintro %_
  rw [holds_eq]
  unfold others
  iintro ⟨⟨W0, W1, W2, W3, W4, W5, W6, W7, W8, W9, S0, S1, S2, S3, S4, S5, S6, S7, S8⟩, Hs, Hq, ⟨%W', HW⟩⟩
  isplitl [S0 S1 S2 S3 S4 S5 S6 S7 S8 Hg Hs Hq]
  · isplitl [S0 S1 S2 S3 S4 S5 S6 S7 S8]
    · iexists (pointS (grid0.coords t) (Gen.V m c main_v77) (stOf Y σ))
      isplitr
      · ipureintro
        exact fun t' ht h => (pointS_qv m c t _ hI).trans (qAt_succ m c t t' ht h).symm
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [Hg]; · iexact Hg
    isplitl [Hs]; · iexact Hs
    iexact Hq
  isplitl [HW]
  · iexists W'; isplitr
    · ipureintro; exact fun _ _ => Or.inl trivial
    · iexact HW
  isplitl [W0]
  · iexists _; isplitr
    swap; · iexact W0
    ipureintro; exact pointS_keep _ _ _ (b := .dout) rfl (by decide)
  isplitl [W1]
  · iexists _; isplitr
    swap; · iexact W1
    ipureintro; exact pointS_keep _ _ _ (b := .k) rfl (by decide)
  isplitl [W2]
  · iexists _; isplitr
    swap; · iexact W2
    ipureintro; exact pointS_keep _ _ _ (b := .v) rfl (by decide)
  isplitl [W3]
  · iexists _; isplitr
    swap; · iexact W3
    ipureintro; exact pointS_keep _ _ _ (b := .lse) rfl (by decide)
  isplitl [W4]
  · iexists _; isplitr
    swap; · iexact W4
    ipureintro; exact pointS_keep _ _ _ (b := .delta) rfl (by decide)
  isplitl [W5]
  · iexists _; isplitr
    swap; · iexact W5
    ipureintro; exact ⟨_, hI, rfl, rfl⟩
  isplitl [W6]
  · iexists _; isplitr
    swap; · iexact W6
    ipureintro; exact ⟨_, hI, rfl, rfl⟩
  isplitl [W7]
  · iexists _; isplitr
    swap; · iexact W7
    ipureintro; exact ⟨_, hI, rfl, rfl⟩
  isplitl [W8]
  · iexists _; isplitr
    swap; · iexact W8
    ipureintro; exact ⟨_, hI, rfl, rfl⟩
  iexists _; isplitr
  swap; · iexact W9
  ipureintro; exact ⟨_, hI, rfl, rfl⟩

/-! ## The run -/

theorem Inv_intro (c : Dev nD) : Pipeline.ΦD osem0 spec0 H0 (Gen.V m) c ⊢ Inv m c 0 := by
  rw [Pipeline.ΦD_eq, Gen.scopedRest0_eq, ownSems00_eq, hbmPts0_eq]
  unfold Inv scratch
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩⟩, Hg, Hs, Hq⟩
  isplitl [S0 S1 S2 S3 S4 S5 S6 S7 S8]
  · iexists (scrOf f0 f1 f2 f3 f4 f5 f6 f7 f8)
    isplitr
    · ipureintro; exact fun _ _ h => absurd rfl h
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [Hg]; · iexact Hg
  isplitl [Hs]; · iexact Hs
  iexact Hq

theorem Inv_elim (c : Dev nD) (n : ℕ) : Inv m c n ⊢ Pipeline.ΦD osem0 spec0 H0 (Gen.V m) c := by
  rw [Pipeline.ΦD_eq, Gen.scopedRest0_eq, ownSems00_eq, hbmPts0_eq]
  unfold Inv scratch
  simp only [owns_whole]
  iintro ⟨⟨%σ, -, S0, S1, S2, S3, S4, S5, S6, S7, S8⟩, Hg, Hs, Hq⟩
  isplitl [S0 S1 S2 S3 S4 S5 S6 S7 S8]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexists _; iexact S8
  isplitl [Hg]; · iexact Hg
  isplitl [Hs]; · iexact Hs
  iexact Hq

set_option maxHeartbeats 800000 in
/-- The host operations before the region, then the region. -/
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21] (by simp only [List.Forall]; exact ⟨Gen.hostOps0_sub, Gen.hostOps0_1_sub, Gen.hostOps0_2_sub, Gen.hostOps0_3_sub, Gen.hostOps0_4_sub, Gen.hostOps0_5_sub, Gen.hostOps0_6_sub, Gen.hostOps0_7_sub, Gen.hostOps0_8_sub, Gen.hostOps0_9_sub, Gen.hostOps0_10_sub, Gen.hostOps0_11_sub, Gen.hostOps0_12_sub, Gen.hostOps0_13_sub, Gen.hostOps0_14_sub, Gen.hostOps0_15_sub, Gen.hostOps0_16_sub, Gen.hostOps0_17_sub, Gen.hostOps0_18_sub, Gen.hostOps0_19_sub, Gen.hostOps0_20_sub, Gen.hostOps0_21_sub⟩)
    (by simp only [List.Forall]; exact ⟨Gen.hostOps0_fresh, Gen.hostOps0_1_fresh, Gen.hostOps0_2_fresh, Gen.hostOps0_3_fresh, Gen.hostOps0_4_fresh, Gen.hostOps0_5_fresh, Gen.hostOps0_6_fresh, Gen.hostOps0_7_fresh, Gen.hostOps0_8_fresh, Gen.hostOps0_9_fresh, Gen.hostOps0_10_fresh, Gen.hostOps0_11_fresh, Gen.hostOps0_12_fresh, Gen.hostOps0_13_fresh, Gen.hostOps0_14_fresh, Gen.hostOps0_15_fresh, Gen.hostOps0_16_fresh, Gen.hostOps0_17_fresh, Gen.hostOps0_18_fresh, Gen.hostOps0_19_fresh, Gen.hostOps0_20_fresh, Gen.hostOps0_21_fresh⟩) Gen.main_chain

/-- Every run of the program ends with its arrays in the relation the windows' data give, the other buffers as
    the region found them, every counter at zero. -/
def Post (r : PUnit × MemSt nD τ sig (Elt F)) : Prop := RDat.FramePost cfg0 (rdat m) (Gen.V m) r ∧ r.2.sem = fun _ => 0

set_option backward.isDefEq.respectTransparency.types false in
theorem run_main : θ_run defs (onTc (τ := τ) (main (F := F))) ⟨m, fun _ => 0, ρ⟩ (Post m) :=
  Pipeline.RDat.θ_run_frame_dma (Q' := Post m) (hQ' := fun _ h => h) cfgs (0 : Fin 1) Gen.launch0 osem0 defs₀ Variants.none (rdat m) ownSemFacts0 H0 H0_sub m ρ main
    (hbody := fun c => body_obligation m c) (hshare := fun c => (rdat m c).share_full fun _ => rfl)
    (howed := fun _ _ => rfl) (V := Gen.V m) (hmain := hmain m Variants.none) (hA := A_eq m)
    (hin := fun c => Inv_intro m c) (hout := fun c => Inv_elim m c _)

/-- THE FRAME, from the run, at any reading of the floats. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).2 main_arg0 (Pipeline.mem_restRefs_of main_arg0 (by decide) (by decide))).trans (Gen.V_main_arg0 m c),
      ((h.1 c).2 main_arg1 (Pipeline.mem_restRefs_of main_arg1 (by decide) (by decide))).trans (Gen.V_main_arg1 m c),
      ((h.1 c).2 main_arg2 (Pipeline.mem_restRefs_of main_arg2 (by decide) (by decide))).trans (Gen.V_main_arg2 m c),
      ((h.1 c).2 main_arg3 (Pipeline.mem_restRefs_of main_arg3 (by decide) (by decide))).trans (Gen.V_main_arg3 m c),
      ((h.1 c).2 main_arg4 (Pipeline.mem_restRefs_of main_arg4 (by decide) (by decide))).trans (Gen.V_main_arg4 m c)⟩, h.2⟩) (run_main m ρ)

end Cert.KernelIdeal.Body
-- ==== Proof.Bits.Same.lean ====
module
public import proofs.«01_k».proof.Proof.Bits.Body

public section

namespace Cert.Kernel.Body
open Idealize.ShloMosaic Idealize.SL.Sem
open Facts₀ Facts
variable {F : FTy → Type} [FloatOps F]

set_option maxRecDepth 100000 in
set_option maxHeartbeats 4000000 in
/-- The printed body is the program of this module. -/
theorem cc0_eq (R : Refs) (i : grid0.Coords) :
    (cc0_attn_bwd i R.q R.hq R.dout R.hdout R.k R.hk R.v R.hv R.lse R.hlse R.delta R.hdelta R.dqt R.hdqt R.dk R.hdk R.dv R.hdv
      R.dck R.hdck R.dcq R.hdcq R.qv R.hqv R.st R.hst R.dp R.hdp R.pt R.hpt R.ds R.hds R.dka R.hdka R.dva R.hdva R.vh R.hvh R.kx R.hkx R.sem
      : P F PUnit) = point R i := by
  unfold cc0_attn_bwd point
  by_cases h : k0_cond1 i = 1#1
  · refine (congrArg (fun x => x >>= _) (dif_pos h)).trans (Eq.trans ?_ (congrArg (fun x => x >>= _) (dif_pos h)).symm)
    rfl
  · refine (congrArg (fun x => x >>= _) (dif_neg h)).trans (Eq.trans ?_ (congrArg (fun x => x >>= _) (dif_neg h)).symm)
    rfl
end Cert.Kernel.Body
-- ==== Proof.Val.Saved.lean ====
module

public import proofs.«01_k».proof.Proof.Gen.KernelIdeal.Launch
public import proofs.«01_k».proof.Proof.Gen.KernelIdeal.Frame
public import Idealize.ShloMosaic.Lib.StableHlo.ReadAt

/-!
The arrays the forward attention leaves for the backward call, as terms over whole arrays: the masked
scores, their row maxima, the exponentials, the row sums, the log-sum in units of log 2, and the row sums
of the output against its gradient. `V_lse` and `V_delta` say that the host prepares exactly these.
-/

@[expose] public section

set_option maxRecDepth 8192

noncomputable section

namespace Cert.KernelIdeal.Body

open Idealize.ShloMosaic Cert.KernelIdeal Cert.KernelIdeal.Facts₀

local notation "W" => S16384x512.Idx → EReal

/-- One over the logarithm of two, as the host computes it. -/
def lam : FVec Ideal S_ .f32 := Host.divf (constant S_ .f32 0x3F800000#32) (Host.log (constant S_ .f32 0x40000000#32))

/-- The scores of every head, −∞ where the key is later than the query. -/
def scoreT (q k : FVec Ideal S16384x512 .f32) (c : FVec Ideal S16384x8 .f32) : FVec Ideal S8x16384x16384 .f32 :=
  select (broadcastInDim S8x16384x16384 ![0, 1, 2] bcast_S1x16384x16384_S8x16384x16384_0_1_2
      (broadcastInDim S1x16384x16384 ![1, 2] bcast_S16384x16384_S1x16384x16384_1_2
        (cmpi .sle (iotaInDim S16384x16384 32 1) (iotaInDim S16384x16384 32 0))))
    (subf (addf (mulf (Host.dotGeneral dot_S16384x8x64_S16384x8x64_S8x16384x16384_2_2_0_0_1_1 none
            (shapeCast _ q shapeCasts_S16384x512_S16384x8x64) (shapeCast _ k shapeCasts_S16384x512_S16384x8x64))
          (broadcastInDim S8x16384x16384 ![] bcast_S_S8x16384x16384 (constant S_ .f32 0x3E000000#32)))
        (broadcastInDim S8x16384x16384 ![0, 1, 2] bcast_S8x16384x1_S8x16384x16384_0_1_2
          (broadcastInDim S8x16384x1 ![0, 1] bcast_S8x16384_S8x16384x1_0_1
            (transpose S8x16384 [1, 0] c transposes_S16384x8_S8x16384_1_0))))
      (broadcastInDim S8x16384x16384 ![0, 1, 2] bcast_S8x1x16384_S8x16384x16384_0_1_2
        (broadcastInDim S8x1x16384 ![0, 2] bcast_S8x16384_S8x1x16384_0_2
          (transpose S8x16384 [1, 0] c transposes_S16384x8_S8x16384_1_0))))
    (broadcastInDim S8x16384x16384 ![] bcast_S_S8x16384x16384 (id (constant S_ .f32 0xFF800000#32)))

/-- The row maxima of the scores. -/
def maxT (s : FVec Ideal S8x16384x16384 .f32) : FVec Ideal S8x16384 .f32 :=
  Host.reduce FloatOps.maximumf s (constant S_ .f32 0xFF800000#32) reducesTo_S8x16384x16384_S8x16384_d2 h_S_

/-- The exponentials of the scores, each less a number of its row. -/
def expT (s : FVec Ideal S8x16384x16384 .f32) (mx : FVec Ideal S8x16384 .f32) : FVec Ideal S8x16384x16384 .f32 :=
  Host.exp (subf s (broadcastInDim S8x16384x16384 ![0, 1, 2] bcast_S8x16384x1_S8x16384x16384_0_1_2
    (broadcastInDim S8x16384x1 ![0, 1] bcast_S8x16384_S8x16384x1_0_1 mx)))

/-- The row sums. -/
def sumT (e : FVec Ideal S8x16384x16384 .f32) : FVec Ideal S8x16384 .f32 :=
  Host.reduceAdd e (constant S_ .f32 0x00000000#32) reducesTo_S8x16384x16384_S8x16384_d2 h_S_

/-- The log-sums, in units of log 2. -/
def lseT (mx l : FVec Ideal S8x16384 .f32) : FVec Ideal S4x2x16384 .f32 :=
  shapeCast _ (mulf (addf mx (Host.log l)) (broadcastInDim S8x16384 ![] bcast_S_S8x16384 lam)) shapeCasts_S8x16384_S4x2x16384

/-- The row sums of the output's gradient times the output. -/
def deltaT (e : FVec Ideal S8x16384x16384 .f32) (l : FVec Ideal S8x16384 .f32) (v o : FVec Ideal S16384x512 .f32) :
    FVec Ideal S4x2x16384 .f32 :=
  shapeCast _ (transpose S8x16384 [1, 0] (Host.reduceAdd (mulf (shapeCast _ o shapeCasts_S16384x512_S16384x8x64)
    (transpose S16384x8x64 [2, 0, 1] (Host.dotGeneral dot_S16384x8x64_S8x16384x16384_S8x64x16384_0_2_2_1_1_0 none
      (shapeCast _ v shapeCasts_S16384x512_S16384x8x64)
      (Host.divf e (broadcastInDim S8x16384x16384 ![0, 1, 2] bcast_S8x16384x1_S8x16384x16384_0_1_2
        (broadcastInDim S8x16384x1 ![0, 1] bcast_S8x16384_S8x16384x1_0_1 l))))
      transposes_S8x64x16384_S16384x8x64_2_0_1)) (constant S_ .f32 0x00000000#32)
      reducesTo_S16384x8x64_S16384x8_d2 h_S_) transposes_S16384x8_S8x16384_1_0) shapeCasts_S8x16384_S4x2x16384

variable (m : (ℓ : Loc nD τ sig) → Buf (Elt Ideal) ℓ) (c : Dev nD)

/-- An argument of the call, on one device. -/
def argQ : W := m (c.tc.loc main_arg0)
def argK : W := m (c.tc.loc main_arg1)
def argV : W := m (c.tc.loc main_arg2)
def argC : S16384x8.Idx → EReal := m (c.tc.loc main_arg3)
def argO : W := m (c.tc.loc main_arg4)

/-- The scores of the arguments. -/
def scores : FVec Ideal S8x16384x16384 .f32 := scoreT (argQ m c) (argK m c) (argC m c)
/-- Their exponentials less the row maxima. -/
def exps : FVec Ideal S8x16384x16384 .f32 := expT (scores m c) (maxT (scores m c))

theorem V_lse : Gen.V m c main_v132 = lseT (maxT (scores m c)) (sumT (exps m c)) := by
  unfold Gen.V
  after_reads_simp
  rfl

theorem V_delta : Gen.V m c main_v133 = deltaT (exps m c) (sumT (exps m c)) (argV m c) (argO m c) := by
  unfold Gen.V
  after_reads_simp
  rfl

theorem V_do : Gen.V m c main_v134 = argO m c := by
  unfold Gen.V
  after_reads_simp
  rfl

end Cert.KernelIdeal.Body

end
-- ==== Proof.Val.Real.lean ====
/-
Causal softmax attention with a bias and its gradient over the real numbers, and the coercions from the real
numbers that the two programs' values are read through.
-/
module

public import Idealize.ShloMosaic.PureOps.Ideal
public import Mathlib.Tactic.FieldSimp
public import Mathlib.Tactic.Ring
public import Mathlib.Tactic.Linarith

@[expose] public section

noncomputable section

namespace Cert.Attention

open Idealize.ShloMosaic

/-- Coordinate `d` of head `g`. -/
abbrev dcol (g : Fin 8) (d : Fin 64) : Fin 512 := ⟨g.val * 64 + d.val, by omega⟩

/-- Queries, keys, values and the output's gradient by row and column; the bias by row and head. -/
structure Data where
  q : Fin 16384 → Fin 512 → ℝ
  k : Fin 16384 → Fin 512 → ℝ
  v : Fin 16384 → Fin 512 → ℝ
  o : Fin 16384 → Fin 512 → ℝ
  c : Fin 16384 → Fin 8 → ℝ

namespace Data

variable (A : Data) (g : Fin 8) (x y : Fin 16384)

/-- The score of key `y` for query `x`. -/
def S : ℝ := (∑ d, A.q x (dcol g d) * (1/8) * A.k y (dcol g d)) + A.c x g - A.c y g
/-- The largest score of a query over the keys up to it. -/
def M : ℝ := (Finset.univ.filter fun y : Fin 16384 => y.val ≤ x.val).sup' ⟨x, by simp⟩ (A.S g x)
/-- The exponential of a score less the largest; zero for a later key. -/
def E : ℝ := if y.val ≤ x.val then Real.exp (A.S g x y - A.M g x) else 0
/-- The sum of a query's exponentials. -/
def Z : ℝ := ∑ y, A.E g x y
/-- The probability. -/
def P : ℝ := A.E g x y / A.Z g x
/-- The probability's gradient. -/
def G : ℝ := ∑ d, A.o x (dcol g d) * A.v y (dcol g d)
/-- The probabilities' gradients weighed by the probabilities. -/
def N : ℝ := ∑ y, A.P g x y * A.G g x y
/-- The score's gradient. -/
def dS : ℝ := A.P g x y * (A.G g x y - A.N g x)

theorem E_nonneg : 0 ≤ A.E g x y := by
  unfold E; split
  · exact (Real.exp_pos _).le
  · exact le_rfl

theorem Z_pos : 0 < A.Z g x := by
  refine lt_of_lt_of_le ?_ (Finset.single_le_sum (f := fun y => A.E g x y) (fun y _ => A.E_nonneg g x y) (Finset.mem_univ x))
  show 0 < A.E g x x
  unfold E; rw [if_pos le_rfl]; exact Real.exp_pos _

theorem Z_ne : A.Z g x ≠ 0 := (A.Z_pos g x).ne'

/-- The score's gradient, the division distributed. -/
theorem dS_split : (A.G g x y / A.Z g x - ∑ y', A.G g x y' * (1 / (A.Z g x * A.Z g x)) * A.E g x y') * A.E g x y = A.dS g x y := by
  have h : ∑ y', A.G g x y' * (1 / (A.Z g x * A.Z g x)) * A.E g x y' = A.N g x / A.Z g x := by
    unfold N P
    rw [Finset.sum_div]
    refine Finset.sum_congr rfl fun y' _ => ?_
    have := A.Z_ne g x
    field_simp
  rw [h]; unfold dS P
  have := A.Z_ne g x
  field_simp

end Data

/-! ## Coercions -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_div (a b : ℝ) (h : b ≠ 0) : Ideal.div (a : EReal) (b : EReal) = ((a / b : ℝ) : EReal) := by
  rw [Ideal.div_coe h, ← EReal.coe_mul]; congr 1; ring

theorem coe_log {a : ℝ} (h : 0 < a) : Ideal.log (a : EReal) = ((Real.log a : ℝ) : EReal) := by
  rw [Ideal.log_coe, if_neg (not_le.mpr h)]

/-- The maximum of scores, −∞ where masked. -/
theorem fold_max {f : Fin 16384 → ℝ} (x : Fin 16384) :
    (Finset.univ : Finset (Fin 16384)).fold max (⊥ : EReal) (fun y => if y.val ≤ x.val then (f y : EReal) else ⊥)
      = (((Finset.univ.filter fun y : Fin 16384 => y.val ≤ x.val).sup' ⟨x, by simp⟩ f : ℝ) : EReal) := by
  change Finset.univ.sup (fun y : Fin 16384 => if y.val ≤ x.val then (f y : EReal) else ⊥) = _
  refine le_antisymm (Finset.sup_le fun y _ => ?_) ?_
  · split
    · next h => exact EReal.coe_le_coe_iff.mpr (Finset.le_sup' f (by simpa using h))
    · exact bot_le
  · obtain ⟨y, hy, e⟩ := Finset.exists_mem_eq_sup' (s := Finset.univ.filter fun y : Fin 16384 => y.val ≤ x.val) ⟨x, by simp⟩ f
    rw [e]
    have hy' : y.val ≤ x.val := by simpa using hy
    refine le_trans (le_of_eq ?_) (Finset.le_sup (Finset.mem_univ y))
    rw [if_pos hy']

end Cert.Attention

end
-- ==== Proof.Val.Pay.lean ====
/-
The values the body stores, read at an index over the extended reals.
-/
module

public import proofs.«01_k».proof.Proof.Sem
public import Idealize.ShloMosaic.Lib.Pointwise
public import Idealize.ShloMosaic.Lib.WordCmp
public import Idealize.ShloMosaic.Lib.Pipeline.ValueKit.Geometry

@[expose] public section

namespace Cert.KernelIdeal.Body

open Idealize.ShloMosaic
open Facts₀ Facts

/-! ## Rectangles -/

/-- A store read inside the rectangle stored. -/
theorem overlay_at {s : Shape} {α : Type} (r : Rect s) (old : s.Idx → α) (new : r.shape.Idx → α) (j : r.shape.Idx) {i : s.Idx}
    (h : r.emb j = i) : r.overlay old new i = new j := by subst h; exact Rect.overlay_emb ..

/-- A store read outside the rectangle stored, along axis `a`. -/
theorem overlay_off {s : Shape} {α : Type} {off size : Fin s.rank → Nat} {inb : ∀ a, off a + size a ≤ s.size a} (old : s.Idx → α)
    (new : (Rect.unit (s := s) off size inb).shape.Idx → α) {i : s.Idx} (a : Fin s.rank) (h : (i a).val < off a ∨ off a + size a ≤ (i a).val) :
    (Rect.unit (s := s) off size inb).overlay old new i = old i := by
  refine Rect.overlay_of_not_mem _ _ _ fun hm => ?_
  have := (Rect.mem_set_unit.1 hm) a
  omega

theorem neg_inf : Ideal.ofBits .f32 0xFF800000#32 = ⊥ := by
  rw [show Ideal.ofBits .f32 0xFF800000#32 = Ideal.ieee 8 23 0xFF800000#32 from rfl]
  unfold Ideal.ieee
  simp

/-! ## Stored values -/

theorem pVal_at (f : Fin 16 → FVec Ideal S32x512 .f32 → FVec Ideal S32x512 .f32) (lse : FVec Ideal S1x512 .f32) (r : Fin 16)
    (st : Vec Ideal S1x1x32x512 .f32) (a : Fin 32) (i : Fin 512) :
    pVal f lse r st (ix2 a i) = Ideal.exp2 (f r (shapeCast S32x512 st shapeCasts_S1x1x32x512_S32x512) (ix2 a i) - lse (ix2 0 i)) := by
  pointwise [pVal]
  rfl

theorem dVal_at (p : FVec Ideal S32x512 .f32) (dl : FVec Ideal S1x512 .f32) (dp : Vec Ideal S1x1x32x512 .f32) (a : Fin 32) (i : Fin 512) :
    dVal p dl dp (ix2 a i) = p (ix2 a i) * (dp (ix4 0 0 a i) - dl (ix2 0 i)) := by
  pointwise [dVal]

theorem chunkOut_at (x : FVec Ideal S32x512 .f32) (a : Fin 32) (i : Fin 512) : chunkOut x (ix4 0 0 a i) = x (ix2 a i) := by
  pointwise [chunkOut]

theorem maskChunk_at (r : Fin 16) (x : FVec Ideal S32x512 .f32) (a : Fin 32) (i : Fin 512) :
    maskChunk r x (ix2 a i) = if 32 * r.val + a.val ≤ i.val then x (ix2 a i) else ⊥ := by
  pointwise [maskChunk]
  have e : IntOp.addi (BitVec.ofNat 32 a.val) (BitVec.ofNat 32 (32 * r.val)) = BitVec.ofNat 32 (32 * r.val + a.val) := by
    rw [Nat.add_comm]; exact (BitVec.ofNat_add _ _).symm
  rw [e, WordCmp.cmpi_sle_ofNat (by omega) (by omega), neg_inf]
  by_cases h : 32 * r.val + a.val ≤ i.val
  · rw [if_pos h, decide_eq_true h]; rfl
  · rw [if_neg h, decide_eq_false h]; rfl

theorem logits_at (k : Vec Ideal S1x512x128 .bf16) (vq : FVec Ideal S512x128 .bf16) (j i : Fin 512) :
    logits k vq (ix4 0 0 j i) = ∑ l : Fin 128, k (ix3 0 j l) * vq (ix2 i l) := by
  pointwise [logits]

theorem accVal_at (a : Vec Ideal S1x512x128 .f32) (x : Vec Ideal S1x1x512x512 .bf16) (y : FVec Ideal S512x128 .bf16) (j : Fin 512) (l : Fin 128) :
    accVal a x y (ix3 0 j l) = a (ix3 0 j l) + ∑ i : Fin 512, x (ix4 0 0 j i) * y (ix2 i l) := by
  pointwise [accVal]

theorem kxVal_at (kx : Vec Ideal S1x144x512 .bf16) (ds : Vec Ideal S1x1x512x512 .bf16) (l : Fin 144) (i : Fin 512) :
    kxVal kx ds (ix2 l i) = ∑ j : Fin 512, kx (ix3 0 l j) * ds (ix4 0 0 j i) := by
  pointwise [kxVal]

theorem dcqVal_at (a : Vec Ideal S1x1x512 .f32) (m : FVec Ideal S144x512 .f32) (i : Fin 512) :
    dcqVal a m (ix3 0 0 i) = a (ix3 0 0 i) + m (ix2 128 i) := by
  pointwise [dcqVal]

theorem dqtVal_at (a : Vec Ideal S1x128x512 .f32) (b : FVec Ideal S128x512 .f32) (l : Fin 128) (i : Fin 512) :
    dqtVal a b (ix3 0 l i) = a (ix3 0 l i) + b (ix2 l i) := by
  pointwise [dqtVal]

theorem lanes0_at (j : Fin 512) (l : Fin 128) : lanes0 (ix2 j l) = BitVec.ofBool (decide (l.val < 64)) := by
  pointwise [lanes0]
  exact WordCmp.cmpi_slt_ofNat (w := 32) (b := 64) (by omega) (by omega)

theorem lanes1_at (j : Fin 512) (l : Fin 128) : lanes1 (ix2 j l) = BitVec.ofBool (decide (64 ≤ l.val)) := by
  pointwise [lanes1]
  exact WordCmp.cmpi_sge_ofNat (w := 32) (b := 64) (by omega) (by omega)

theorem vhVal_at (lanes : IVec S512x128 1) (v : Vec Ideal S1x512x128 .bf16) (j : Fin 512) (l : Fin 128) :
    vhVal lanes v (ix3 0 j l) = if lanes (ix2 j l) = 1#1 then v (ix3 0 j l) else 0 := by
  pointwise [vhVal]
  rfl

theorem kxTVal_at (lanes : IVec S512x128 1) (k : Vec Ideal S1x512x128 .bf16) (l : Fin 128) (j : Fin 512) :
    kxTVal lanes k (ix3 0 l j) = if lanes (ix2 j l) = 1#1 then k (ix3 0 j l) else 0 := by
  pointwise [kxTVal]
  rfl

theorem onesVal_at (l : Fin 16) (j : Fin 512) : onesVal (F := Ideal) (ix3 0 l j) = 1 := by
  pointwise [onesVal]

theorem dckVal_at (at' : Fin 128) (hs : S128x512.Slices ![at'.val, 0] S1x512) (a : Vec Ideal S1x512x128 .f32) (j : Fin 512) :
    dckVal ![at'.val, 0] hs a (ix3 0 0 j) = 0 - a (ix3 0 j at') := by
  pointwise [dckVal]

theorem dkVal_at (a0 a1 : Vec Ideal S1x512x128 .f32) (j : Fin 512) (l : Fin 128) :
    dkVal a0 a1 (ix2 j l) = (if l.val < 64 then a0 (ix3 0 j l) else a1 (ix3 0 j l)) * ((Real.log 2 : ℝ) : EReal) := by
  pointwise [dkVal]
  rw [lanes0_at, IdealRules.named_const.ideal_named_scalar κ "ln2" _ _ rfl]
  by_cases h : l.val < 64
  · rw [if_pos h, decide_eq_true h]; rfl
  · rw [if_neg h, decide_eq_false h]; rfl

theorem dvVal_at (a0 a1 : Vec Ideal S1x512x128 .f32) (j : Fin 512) (l : Fin 128) :
    dvVal a0 a1 (ix2 j l) = if l.val < 64 then a0 (ix3 0 j l) else a1 (ix3 0 j l) := by
  pointwise [dvVal]
  rw [lanes0_at]
  by_cases h : l.val < 64
  · rw [if_pos h, decide_eq_true h]; rfl
  · rw [if_neg h, decide_eq_false h]; rfl

end Cert.KernelIdeal.Body
-- ==== Proof.Val.Step.lean ====
/-
One step over the extended reals: what the block of 512 queries `b` adds, for the block of 512 keys `n`, to the sums
of the gradients of values, keys, queries and of the query's cumulative sums.
-/
module

public import proofs.«01_k».proof.Proof.Val.Pay
public import proofs.«01_k».proof.Proof.Keep

@[expose] public section

namespace Cert.KernelIdeal.Body

open Idealize.ShloMosaic
open Facts₀ Facts

/-- Query `i` of block `b`. -/
abbrev qpos (b : Fin 32) (i : Fin 512) : Fin 16384 := ⟨512 * b.val + i.val, by omega⟩
/-- Row `a` of chunk `r`. -/
abbrev row (r : Fin 16) (a : Fin 32) : Fin 512 := ⟨32 * r.val + a.val, by omega⟩

/-! ## Places -/

theorem emb_unit_eq {s : Shape} {off size : Fin s.rank → Nat} {inb : ∀ a, off a + size a ≤ s.size a}
    (j : (Rect.unit (s := s) off size inb).shape.Idx) {i : s.Idx} (h : ∀ a, (i a).val = off a + (j a).val) :
    (Rect.unit (s := s) off size inb).emb j = i :=
  funext fun a => Fin.ext ((ValueKit.rect_emb_unit_val off size inb j a).trans (h a).symm)

theorem rChunk_emb (s h : Fin 2) (r : Fin 16) (a : Fin 32) (i : Fin 512) :
    (rChunk s h r).emb (ix4 0 0 a i) = ix4 s h (row r a) i := by
  refine emb_unit_eq _ fun b => ?_
  fin_cases b <;> simp

theorem rSquare_emb (s h : Fin 2) (j i : Fin 512) : (rSquare s h).emb (ix4 0 0 j i) = ix4 s h j i := by
  refine emb_unit_eq _ fun b => ?_
  fin_cases b <;> simp

theorem rHead_emb (h : Fin 2) (j : Fin 512) (l : Fin 128) : (rHead h).emb (ix3 0 j l) = ix3 h j l := by
  refine emb_unit_eq _ fun b => ?_
  fin_cases b <;> simp

theorem rKx_emb (h : Fin 2) (l : Fin 144) (j : Fin 512) : (rKx h).emb (ix3 0 l j) = ix3 h l j := by
  refine emb_unit_eq _ fun b => ?_
  fin_cases b <;> simp

theorem rDo_emb {off : Fin 2 → Nat} (i) (b : Fin 32) (h : off = ![512 * b.val, 0]) (x : Fin 512) (l : Fin 128) :
    (rDo off i).emb (ix2 x l) = ix2 (qpos b x) l := by
  subst h
  refine emb_unit_eq _ fun b => ?_
  fin_cases b <;> simp

theorem rQ_emb {off : Fin 3 → Nat} (i) (h : Fin 2) (b : Fin 32) (e : off = ![h.val, 512 * b.val, 0]) (x : Fin 512) (l : Fin 128) :
    (rQ off i).emb (ix3 0 x l) = ix3 h (qpos b x) l := by
  subst e
  refine emb_unit_eq _ fun b => ?_
  fin_cases b <;> simp

theorem rRow_emb {off : Fin 3 → Nat} (i) (h : Fin 2) (b : Fin 32) (e : off = ![0, h.val, 512 * b.val]) (x : Fin 512) :
    (rRow off i).emb (ix3 0 0 x) = ix3 0 h (qpos b x) := by
  subst e
  refine emb_unit_eq _ fun b => ?_
  fin_cases b <;> simp

theorem rDqt_emb {off : Fin 3 → Nat} (i) (b : Fin 32) (e : off = ![0, 0, 512 * b.val]) (l : Fin 128) (x : Fin 512) :
    (rDqt off i).emb (ix3 0 l x) = ix3 0 l (qpos b x) := by
  subst e
  refine emb_unit_eq _ fun b => ?_
  fin_cases b <;> simp

/-- The places of a step are those of block `b`. -/
structure At (o : Offs) (b : Fin 32) : Prop where
  e2 : o.o2 = ![512 * b.val, 0]
  e3 : o.o3 = ![0, 512 * b.val, 0]
  e4 : o.o4 = ![1, 512 * b.val, 0]
  e5 : o.o5 = ![0, 0, 512 * b.val]
  e6 : o.o6 = ![0, 1, 512 * b.val]
  e7 : o.o7 = ![0, 0, 512 * b.val]

/-! ## Chunks -/

section chunks

variable {f : Fin 16 → FVec Ideal S32x512 .f32 → FVec Ideal S32x512 .f32} {g : Fin 512 → Fin 512 → EReal → EReal}

/-- A chunk's function acts on each entry alone. -/
def Acts (f : Fin 16 → FVec Ideal S32x512 .f32 → FVec Ideal S32x512 .f32) (g : Fin 512 → Fin 512 → EReal → EReal) : Prop :=
  ∀ (r : Fin 16) (x : FVec Ideal S32x512 .f32) (a : Fin 32) (i : Fin 512), f r x (ix2 a i) = g (row r a) i (x (ix2 a i))

/-- A probability from its logit. -/
noncomputable def prob (g : Fin 512 → Fin 512 → EReal → EReal) (lse : FVec Ideal S1x512 .f32) (j i : Fin 512) (st : EReal) : EReal :=
  Ideal.exp2 (g j i st - lse (ix2 0 i))

theorem pVal_part (hf : Acts f g) (lse : FVec Ideal S1x512 .f32) (s h : Fin 2) (r : Fin 16) (X : S2x2x512x512.Idx → EReal) (a : Fin 32) (i : Fin 512) :
    pVal (F := Ideal) f lse r (part (rChunk s h r) X) (ix2 a i) = prob g lse (row r a) i (X (ix4 s h (row r a) i)) := by
  rw [pVal_at, hf]
  unfold prob
  congr 3
  rw [← rChunk_emb s h r a i]
  pointwise

theorem chunkS_same (hf : Acts f g) (s h : Fin 2) (lse dl : FVec Ideal S1x512 .f32) (r : Fin 16) (σ : St Ideal) (a : Fin 32) (i : Fin 512) :
    (chunkS s h f lse dl r σ .pt (ix4 s h (row r a) i) : EReal) = prob g lse (row r a) i (σ .st (ix4 s h (row r a) i))
    ∧ (chunkS s h f lse dl r σ .ds (ix4 s h (row r a) i) : EReal) = prob g lse (row r a) i (σ .st (ix4 s h (row r a) i))
        * ((σ .dp (ix4 s h (row r a) i) : EReal) - dl (ix2 0 i)) := by
  unfold chunkS
  rw [St.set_ne _ _ (by decide), St.set_self, St.set_self, overlay_at _ _ _ (ix4 0 0 a i) (rChunk_emb s h r a i),
    overlay_at _ _ _ (ix4 0 0 a i) (rChunk_emb s h r a i), chunkOut_at, chunkOut_at, dVal_at, pVal_part hf]
  refine ⟨rfl, ?_⟩
  rw [← rChunk_emb s h r a i]

theorem chunkS_other (s h : Fin 2) (lse dl : FVec Ideal S1x512 .f32) (r : Fin 16) (σ : St Ideal) {s' h' : Fin 2} {j i : Fin 512}
    (hne : s' ≠ s ∨ h' ≠ h ∨ (j.val < 32 * r.val ∨ 32 * r.val + 32 ≤ j.val)) :
    chunkS s h f lse dl r σ .pt (ix4 s' h' j i) = σ .pt (ix4 s' h' j i)
    ∧ chunkS s h f lse dl r σ .ds (ix4 s' h' j i) = σ .ds (ix4 s' h' j i) := by
  unfold chunkS
  rw [St.set_ne _ _ (by decide), St.set_self, St.set_self]
  rcases hne with hne | hne | hne
  · have : s'.val ≠ s.val := fun e => hne (Fin.ext e)
    constructor <;> exact overlay_off _ _ 0 (by simp; omega)
  · have : h'.val ≠ h.val := fun e => hne (Fin.ext e)
    constructor <;> exact overlay_off _ _ 1 (by simp; omega)
  · constructor <;> exact overlay_off _ _ 2 (by simp; omega)

theorem chunkS_keep (s h : Fin 2) (lse dl : FVec Ideal S1x512 .f32) (r : Fin 16) (σ : St Ideal) {b : B} (hp : b ≠ .pt) (hd : b ≠ .ds) :
    chunkS s h f lse dl r σ b = σ b := by
  unfold chunkS
  rw [St.set_ne _ _ hd, St.set_ne _ _ hp]

theorem chunksS_keep (s h : Fin 2) (lse dl : FVec Ideal S1x512 .f32) {b : B} (hp : b ≠ .pt) (hd : b ≠ .ds) :
    ∀ (rs : List (Fin 16)) (σ : St Ideal), chunksS s h f lse dl rs σ b = σ b
  | [], _ => rfl
  | r :: rs, σ => (chunksS_keep s h lse dl hp hd rs _).trans (chunkS_keep s h lse dl r σ hp hd)

theorem chunksS_other (s h : Fin 2) (lse dl : FVec Ideal S1x512 .f32) {s' h' : Fin 2} {j i : Fin 512} (hne : s' ≠ s ∨ h' ≠ h) :
    ∀ (rs : List (Fin 16)) (σ : St Ideal), chunksS s h f lse dl rs σ .pt (ix4 s' h' j i) = σ .pt (ix4 s' h' j i)
      ∧ chunksS s h f lse dl rs σ .ds (ix4 s' h' j i) = σ .ds (ix4 s' h' j i)
  | [], _ => ⟨rfl, rfl⟩
  | r :: rs, σ => by
    have h1 := chunksS_other s h lse dl (j := j) (i := i) hne rs (chunkS s h f lse dl r σ)
    have h2 := chunkS_other (f := f) s h lse dl r σ (j := j) (i := i) (hne.elim .inl fun h => .inr (.inl h))
    exact ⟨h1.1.trans h2.1, h1.2.trans h2.2⟩

theorem row_apart {r r' : Fin 16} (he : r ≠ r') (a : Fin 32) : (row r a).val < 32 * r'.val ∨ 32 * r'.val + 32 ≤ (row r a).val := by
  have hv : r.val ≠ r'.val := fun e => he (Fin.ext e)
  show 32 * r.val + a.val < _ ∨ _ ≤ 32 * r.val + a.val
  omega

theorem chunksS_at (hf : Acts f g) (s h : Fin 2) (lse dl : FVec Ideal S1x512 .f32) (r : Fin 16) (a : Fin 32) (i : Fin 512) :
    ∀ (rs : List (Fin 16)) (σ : St Ideal),
      (chunksS s h f lse dl rs σ .pt (ix4 s h (row r a) i) : EReal)
        = (if r ∈ rs then prob g lse (row r a) i (σ .st (ix4 s h (row r a) i)) else σ .pt (ix4 s h (row r a) i))
      ∧ (chunksS s h f lse dl rs σ .ds (ix4 s h (row r a) i) : EReal)
        = if r ∈ rs then prob g lse (row r a) i (σ .st (ix4 s h (row r a) i)) * ((σ .dp (ix4 s h (row r a) i) : EReal) - dl (ix2 0 i))
          else σ .ds (ix4 s h (row r a) i)
  | [], _ => ⟨rfl, rfl⟩
  | r' :: rs, σ => by
    have h1 := chunksS_at hf s h lse dl r a i rs (chunkS s h f lse dl r' σ)
    rw [chunkS_keep s h lse dl r' σ (b := .st) (by decide) (by decide), chunkS_keep s h lse dl r' σ (b := .dp) (by decide) (by decide)] at h1
    by_cases hm : r ∈ rs
    · rw [if_pos hm, if_pos hm] at h1
      rw [if_pos (List.mem_cons_of_mem _ hm), if_pos (List.mem_cons_of_mem _ hm)]
      exact h1
    · rw [if_neg hm, if_neg hm] at h1
      by_cases he : r = r'
      · subst he
        have h2 := chunkS_same hf s h lse dl r σ a i
        rw [if_pos List.mem_cons_self, if_pos List.mem_cons_self]
        exact ⟨h1.1.trans h2.1, h1.2.trans h2.2⟩
      · have h2 := chunkS_other (f := f) s h lse dl r' σ (s' := s) (h' := h) (j := row r a) (i := i) (.inr (.inr (row_apart he a)))
        have hn : r ∉ r' :: rs := fun hm' => (List.mem_cons.1 hm').elim he hm
        rw [if_neg hn, if_neg hn]
        exact ⟨h1.1.trans h2.1, h1.2.trans h2.2⟩

theorem mem_allChunks (r : Fin 16) : r ∈ allChunks := by revert r; decide

/-- Every entry of the square of head `h` after its chunks. -/
theorem allChunks_at (hf : Acts f g) (s h : Fin 2) (lse dl : FVec Ideal S1x512 .f32) (σ : St Ideal) (j i : Fin 512) :
    (chunksS s h f lse dl allChunks σ .pt (ix4 s h j i) : EReal) = prob g lse j i (σ .st (ix4 s h j i))
    ∧ (chunksS s h f lse dl allChunks σ .ds (ix4 s h j i) : EReal)
        = prob g lse j i (σ .st (ix4 s h j i)) * ((σ .dp (ix4 s h j i) : EReal) - dl (ix2 0 i)) := by
  obtain ⟨r, a, rfl⟩ : ∃ (r : Fin 16) (a : Fin 32), j = row r a :=
    ⟨⟨j.val / 32, by omega⟩, ⟨j.val % 32, by omega⟩, Fin.ext (by simp only [row]; omega)⟩
  have := chunksS_at hf s h lse dl r a i allChunks σ
  rwa [if_pos (mem_allChunks r), if_pos (mem_allChunks r)] at this

end chunks

end Cert.KernelIdeal.Body
-- ==== Proof.Val.Adds.lean ====
/-
A step as an addition: after it the two sums of the key block, the row of query sums and the transposed gradient of
the queries have grown by the block's contributions, and what they are computed from is as it was.
-/
module

public import proofs.«01_k».proof.Proof.Val.Step

@[expose] public section

namespace Cert.KernelIdeal.Body

open Idealize.ShloMosaic
open Facts₀ Facts

/-! ## Products -/

theorem productsS_keep (s h : Fin 2) (vdo vq : FVec Ideal S512x128 .bf16) (σ : St Ideal) {b : B} (hs : b ≠ .st) (hd : b ≠ .dp) :
    productsS s h vdo vq σ b = σ b := by
  unfold productsS
  rw [St.set_ne _ _ hd, St.set_ne _ _ hs]

theorem productsS_same (s h : Fin 2) (vdo vq : FVec Ideal S512x128 .bf16) (σ : St Ideal) (j i : Fin 512) :
    (productsS s h vdo vq σ .st (ix4 s h j i) : EReal) = ∑ l : Fin 128, (σ .k (ix3 h j l) : EReal) * vq (ix2 i l)
    ∧ (productsS s h vdo vq σ .dp (ix4 s h j i) : EReal) = ∑ l : Fin 128, (σ .vh (ix3 h j l) : EReal) * vdo (ix2 i l) := by
  unfold productsS
  rw [St.set_ne _ _ (by decide), St.set_self, St.set_self, overlay_at _ _ _ (ix4 0 0 j i) (rSquare_emb s h j i),
    overlay_at _ _ _ (ix4 0 0 j i) (rSquare_emb s h j i), logits_at, logits_at]
  constructor <;> refine Finset.sum_congr rfl fun l _ => ?_ <;> rw [← rHead_emb h j l]

theorem productsS_other (s h : Fin 2) (vdo vq : FVec Ideal S512x128 .bf16) (σ : St Ideal) {h' : Fin 2} (hne : h' ≠ h) (j i : Fin 512) :
    productsS s h vdo vq σ .st (ix4 s h' j i) = σ .st (ix4 s h' j i)
    ∧ productsS s h vdo vq σ .dp (ix4 s h' j i) = σ .dp (ix4 s h' j i) := by
  unfold productsS
  rw [St.set_ne _ _ (by decide), St.set_self, St.set_self]
  have : h'.val ≠ h.val := fun e => hne (Fin.ext e)
  constructor <;> exact overlay_off _ _ 1 (by simp; omega)

/-! ## What a block contributes -/

/-- The causal choice between a logit of key `512 n + j` and query `512 b + i` and minus infinity. -/
noncomputable def causal (n b : Fin 32) (j i : Fin 512) (x : EReal) : EReal := if 512 * n.val + j.val ≤ 512 * b.val + i.val then x else ⊥

theorem acts_mask (n : Fin 32) : Acts maskChunk (causal n n) := fun r x a i => by
  rw [maskChunk_at]
  unfold causal
  congr 1
  simp only [row, eq_iff_iff]
  omega

theorem acts_noMask {n b : Fin 32} (h : n.val < b.val) : Acts noMask (causal n b) := fun r x a i => by
  unfold causal
  rw [if_pos (by simp only [row]; omega)]

/-- The probability of key `512 n + j` for query `512 b + i`, from the state's operands. -/
noncomputable def pA (n : Fin 32) (d : St Ideal) (b : Fin 32) (h : Fin 2) (j i : Fin 512) : EReal :=
  Ideal.exp2 (causal n b j i (∑ l : Fin 128, (d .k (ix3 h j l) : EReal) * d .qv (ix3 h (qpos b i) l)) - d .lse (ix3 0 h (qpos b i)))

/-- The gradient of that logit. -/
noncomputable def dA (n : Fin 32) (d : St Ideal) (b : Fin 32) (h : Fin 2) (j i : Fin 512) : EReal :=
  pA n d b h j i * ((∑ l : Fin 128, (d .vh (ix3 h j l) : EReal) * d .dout (ix2 (qpos b i) l)) - d .delta (ix3 0 h (qpos b i)))

/-- The buffers a step only reads. -/
def B.still : B → Bool
  | .vh | .kx => true
  | b => b.inp

/-- Two states agree on what a step only reads. -/
def Same (d σ : St Ideal) : Prop := ∀ b : B, b.still = true → σ b = d b

theorem Same.pA {d σ : St Ideal} (h : Same d σ) (n b : Fin 32) (hd : Fin 2) (j i : Fin 512) :
    Body.pA n σ b hd j i = Body.pA n d b hd j i := by
  unfold Body.pA
  rw [h .k rfl, h .qv rfl, h .lse rfl]

theorem Same.dA {d σ : St Ideal} (h : Same d σ) (n b : Fin 32) (hd : Fin 2) (j i : Fin 512) :
    Body.dA n σ b hd j i = Body.dA n d b hd j i := by
  unfold Body.dA
  rw [h.pA, h .vh rfl, h .dout rfl, h .delta rfl]

/-! ## One step's squares -/

section step

variable {f : Fin 16 → FVec Ideal S32x512 .f32 → FVec Ideal S32x512 .f32} {n b : Fin 32} {o : Offs}

theorem cast2_at (Y : S512x128.Idx → EReal) (i : Fin 512) (l : Fin 128) :
    shapeCast S512x128 Y shapeCasts_S512x128_S512x128 (ix2 i l) = Y (ix2 i l) := by pointwise

theorem cast3_at (Y : S1x512x128.Idx → EReal) (i : Fin 512) (l : Fin 128) :
    shapeCast S512x128 Y shapeCasts_S1x512x128_S512x128 (ix2 i l) = Y (ix3 0 i l) := by pointwise

theorem doOf_at (ho : At o b) (σ : St Ideal) (i : Fin 512) (l : Fin 128) : (doOf o σ (ix2 i l) : EReal) = σ .dout (ix2 (qpos b i) l) :=
  (cast2_at _ i l).trans (congrArg (σ .dout) (rDo_emb o.i2 b ho.e2 i l))

theorem q0Of_at (ho : At o b) (σ : St Ideal) (i : Fin 512) (l : Fin 128) : (q0Of o σ (ix2 i l) : EReal) = σ .qv (ix3 h0 (qpos b i) l) :=
  (cast3_at _ i l).trans (congrArg (σ .qv) (rQ_emb o.i3 h0 b ho.e3 i l))

theorem q1Of_at (ho : At o b) (σ : St Ideal) (i : Fin 512) (l : Fin 128) : (q1Of o σ (ix2 i l) : EReal) = σ .qv (ix3 h1 (qpos b i) l) :=
  (cast3_at _ i l).trans (congrArg (σ .qv) (rQ_emb o.i4 h1 b ho.e4 i l))

theorem rowOf_at {off : Fin 3 → Nat} {i} (h : Fin 2) (e : off = ![0, h.val, 512 * b.val]) (X : S1x2x16384.Idx → EReal) (x : Fin 512) :
    (rowOf (F := Ideal) (part (rRow off i) X) (ix2 0 x) : EReal) = X (ix3 0 h (qpos b x)) := by
  rw [← rRow_emb i h b e]
  pointwise

theorem headChunksS_keep (s h : Fin 2) (off : Fin 3 → Nat) (i) (σ : St Ideal) {c : B} (hp : c ≠ .pt) (hd : c ≠ .ds) :
    headChunksS s h f off i σ c = σ c := by
  unfold headChunksS
  exact chunksS_keep _ _ _ _ hp hd _ _

theorem headChunksS_same (hf : Acts f (causal n b)) (s h : Fin 2) {off : Fin 3 → Nat} (i) (e : off = ![0, h.val, 512 * b.val]) (σ : St Ideal) (j x : Fin 512) :
    (headChunksS s h f off i σ .pt (ix4 s h j x) : EReal) = Ideal.exp2 (causal n b j x (σ .st (ix4 s h j x)) - σ .lse (ix3 0 h (qpos b x)))
    ∧ (headChunksS s h f off i σ .ds (ix4 s h j x) : EReal)
      = Ideal.exp2 (causal n b j x (σ .st (ix4 s h j x)) - σ .lse (ix3 0 h (qpos b x))) * ((σ .dp (ix4 s h j x) : EReal) - σ .delta (ix3 0 h (qpos b x))) := by
  have := allChunks_at hf s h (rowOf (part (rRow off i) (σ .lse))) (rowOf (part (rRow off i) (σ .delta))) σ j x
  unfold prob at this
  rw [rowOf_at h e, rowOf_at h e] at this
  exact this

theorem headChunksS_other (s h : Fin 2) {h' : Fin 2} (hne : h' ≠ h) (off : Fin 3 → Nat) (i) (σ : St Ideal) (j x : Fin 512) :
    headChunksS s h f off i σ .pt (ix4 s h' j x) = σ .pt (ix4 s h' j x)
    ∧ headChunksS s h f off i σ .ds (ix4 s h' j x) = σ .ds (ix4 s h' j x) := by
  unfold headChunksS
  exact chunksS_other _ _ _ _ (.inr hne) _ _

theorem squaresS_keep (s : Fin 2) (o : Offs) (σ : St Ideal) {c : B} (hp : c ≠ .pt) (hd : c ≠ .ds) (hs : c ≠ .st) (hdp : c ≠ .dp) :
    squaresS s f o σ c = σ c := by
  unfold squaresS
  rw [headChunksS_keep _ _ _ _ _ hp hd, headChunksS_keep _ _ _ _ _ hp hd, productsS_keep _ _ _ _ _ hs hdp, productsS_keep _ _ _ _ _ hs hdp]

theorem h0_ne_h1 : h0 ≠ h1 := by decide

theorem squaresS_h0 (hf : Acts f (causal n b)) (ho : At o b) (s : Fin 2) (σ : St Ideal) (j i : Fin 512) :
    (squaresS s f o σ .pt (ix4 s h0 j i) : EReal) = pA n σ b h0 j i ∧ (squaresS s f o σ .ds (ix4 s h0 j i) : EReal) = dA n σ b h0 j i := by
  unfold squaresS
  rw [(headChunksS_other s h1 h0_ne_h1 _ _ _ j i).1, (headChunksS_other s h1 h0_ne_h1 _ _ _ j i).2]
  have := headChunksS_same hf s h0 o.i5 ho.e5 (productsS s h1 (doOf o σ) (q1Of o σ) (productsS s h0 (doOf o σ) (q0Of o σ) σ)) j i
  rw [(productsS_other s h1 _ _ _ h0_ne_h1 j i).1, (productsS_other s h1 _ _ _ h0_ne_h1 j i).2,
    (productsS_same s h0 _ _ _ j i).1, (productsS_same s h0 _ _ _ j i).2,
    productsS_keep _ _ _ _ _ (b := .lse) (by decide) (by decide), productsS_keep _ _ _ _ _ (b := .lse) (by decide) (by decide),
    productsS_keep _ _ _ _ _ (b := .delta) (by decide) (by decide), productsS_keep _ _ _ _ _ (b := .delta) (by decide) (by decide)] at this
  simp only [doOf_at ho, q0Of_at ho] at this
  exact this

theorem squaresS_h1 (hf : Acts f (causal n b)) (ho : At o b) (s : Fin 2) (σ : St Ideal) (j i : Fin 512) :
    (squaresS s f o σ .pt (ix4 s h1 j i) : EReal) = pA n σ b h1 j i ∧ (squaresS s f o σ .ds (ix4 s h1 j i) : EReal) = dA n σ b h1 j i := by
  unfold squaresS
  have := headChunksS_same hf s h1 o.i6 ho.e6 (headChunksS s h0 f o.o5 o.i5 (productsS s h1 (doOf o σ) (q1Of o σ) (productsS s h0 (doOf o σ) (q0Of o σ) σ))) j i
  rw [headChunksS_keep _ _ _ _ _ (c := .st) (by decide) (by decide), headChunksS_keep _ _ _ _ _ (c := .dp) (by decide) (by decide),
    headChunksS_keep _ _ _ _ _ (c := .lse) (by decide) (by decide), headChunksS_keep _ _ _ _ _ (c := .delta) (by decide) (by decide),
    (productsS_same s h1 _ _ _ j i).1, (productsS_same s h1 _ _ _ j i).2,
    productsS_keep _ _ _ _ _ (b := .k) (by decide) (by decide), productsS_keep _ _ _ _ _ (b := .vh) (by decide) (by decide),
    productsS_keep _ _ _ _ _ (b := .lse) (by decide) (by decide), productsS_keep _ _ _ _ _ (b := .lse) (by decide) (by decide),
    productsS_keep _ _ _ _ _ (b := .delta) (by decide) (by decide), productsS_keep _ _ _ _ _ (b := .delta) (by decide) (by decide)] at this
  simp only [doOf_at ho, q1Of_at ho] at this
  exact this

end step

/-! ## One head's sums -/

section accum

variable {n b : Fin 32}

theorem accumS_keep (s h : Fin 2) (off : Fin 3 → Nat) (i) (vdo vq : FVec Ideal S512x128 .bf16) (σ : St Ideal) {c : B}
    (hv : c ≠ .dva) (hk : c ≠ .dka) (hq : c ≠ .dcq) : accumS s h off i vdo vq σ c = σ c := by
  unfold accumS
  rw [St.set_ne _ _ hq, St.set_ne _ _ hk, St.set_ne _ _ hv]

theorem accumS_dva (s h : Fin 2) (off : Fin 3 → Nat) (i) (vdo vq : FVec Ideal S512x128 .bf16) (σ : St Ideal) (j : Fin 512) (l : Fin 128) :
    (accumS s h off i vdo vq σ .dva (ix3 h j l) : EReal)
      = (σ .dva (ix3 h j l) : EReal) + ∑ x : Fin 512, (σ .pt (ix4 s h j x) : EReal) * vdo (ix2 x l) := by
  unfold accumS
  rw [St.set_ne _ _ (by decide), St.set_ne _ _ (by decide), St.set_self, overlay_at _ _ _ (ix3 0 j l) (rHead_emb h j l), accVal_at]
  simp only [part, rHead_emb, rSquare_emb]

theorem accumS_dka (s h : Fin 2) (off : Fin 3 → Nat) (i) (vdo vq : FVec Ideal S512x128 .bf16) (σ : St Ideal) (j : Fin 512) (l : Fin 128) :
    (accumS s h off i vdo vq σ .dka (ix3 h j l) : EReal)
      = (σ .dka (ix3 h j l) : EReal) + ∑ x : Fin 512, (σ .ds (ix4 s h j x) : EReal) * vq (ix2 x l) := by
  unfold accumS
  rw [St.set_ne _ _ (by decide), St.set_self, overlay_at _ _ _ (ix3 0 j l) (rHead_emb h j l), accVal_at]
  simp only [part, rHead_emb, rSquare_emb]

theorem accumS_sums_other (s h : Fin 2) {h' : Fin 2} (hne : h' ≠ h) (off : Fin 3 → Nat) (i) (vdo vq : FVec Ideal S512x128 .bf16) (σ : St Ideal) (j : Fin 512) (l : Fin 128) :
    accumS s h off i vdo vq σ .dva (ix3 h' j l) = σ .dva (ix3 h' j l) ∧ accumS s h off i vdo vq σ .dka (ix3 h' j l) = σ .dka (ix3 h' j l) := by
  unfold accumS
  rw [St.set_ne _ _ (by decide), St.set_ne _ _ (by decide), St.set_self, St.set_ne _ _ (by decide), St.set_self]
  have : h'.val ≠ h.val := fun e => hne (Fin.ext e)
  constructor <;> exact overlay_off _ _ 0 (by simp; omega)

/-- The place of a query in its block. -/
abbrev inBlk (x : Fin 16384) : Fin 512 := ⟨x.val % 512, by omega⟩

theorem qpos_inBlk {x : Fin 16384} (h : x.val / 512 = b.val) : qpos b (inBlk x) = x := Fin.ext (by simp only [qpos]; omega)

theorem accumS_dcq (s h : Fin 2) {off : Fin 3 → Nat} (i) (e : off = ![0, h.val, 512 * b.val]) (vdo vq : FVec Ideal S512x128 .bf16) (σ : St Ideal) (x : Fin 16384) :
    (accumS s h off i vdo vq σ .dcq (ix3 0 h x) : EReal)
      = (σ .dcq (ix3 0 h x) : EReal) + if x.val / 512 = b.val then ∑ j : Fin 512, (σ .kx (ix3 h 128 j) : EReal) * σ .ds (ix4 s h j (inBlk x)) else 0 := by
  unfold accumS
  rw [St.set_self]
  by_cases hx : x.val / 512 = b.val
  · rw [if_pos hx, overlay_at _ _ _ (ix3 0 0 (inBlk x)) ((rRow_emb i h b e (inBlk x)).trans (by rw [qpos_inBlk hx])), dcqVal_at, kxVal_at]
    simp only [part, rRow_emb i h b e, rKx_emb, rSquare_emb, qpos_inBlk hx]
  · rw [if_neg hx, add_zero, overlay_off _ _ 2 (by subst e; simp; omega)]

theorem accumS_dcq_other (s h : Fin 2) {h' : Fin 2} (hne : h' ≠ h) {off : Fin 3 → Nat} (i) (e : off = ![0, h.val, 512 * b.val]) (vdo vq : FVec Ideal S512x128 .bf16) (σ : St Ideal) (x : Fin 16384) :
    accumS s h off i vdo vq σ .dcq (ix3 0 h' x) = σ .dcq (ix3 0 h' x) := by
  unfold accumS
  have : h'.val ≠ h.val := fun e => hne (Fin.ext e)
  rw [St.set_self, overlay_off _ _ 1 (by subst e; simp; omega)]

theorem accumV_at (s h : Fin 2) (dq : FVec Ideal S128x512 .f32) (σ : St Ideal) (l : Fin 128) (i : Fin 512) :
    (accumV s h dq σ (ix2 l i) : EReal) = dq (ix2 l i) + ∑ j : Fin 512, (σ .kx (ix3 h ⟨l.val, by omega⟩ j) : EReal) * σ .ds (ix4 s h j i) := by
  unfold accumV
  have := kxVal_at (part (rKx h) (σ .kx)) (part (rSquare s h) (σ .ds)) ⟨l.val, by omega⟩ i
  simp only [part, rKx_emb, rSquare_emb] at this
  rw [← this]
  pointwise

end accum

/-! ## The step -/

/-- What block `b` adds to the gradient of the values. -/
noncomputable def cV (n : Fin 32) (d : St Ideal) (h : Fin 2) (j : Fin 512) (l : Fin 128) (b : Fin 32) : EReal :=
  ∑ x : Fin 512, pA n d b h j x * d .dout (ix2 (qpos b x) l)
/-- What block `b` adds to the gradient of the keys. -/
noncomputable def cK (n : Fin 32) (d : St Ideal) (h : Fin 2) (j : Fin 512) (l : Fin 128) (b : Fin 32) : EReal :=
  ∑ x : Fin 512, dA n d b h j x * d .qv (ix3 h (qpos b x) l)
/-- What block `b` adds to the query sums at query `x`. -/
noncomputable def cS (n : Fin 32) (d : St Ideal) (h : Fin 2) (x : Fin 16384) (b : Fin 32) : EReal :=
  if x.val / 512 = b.val then ∑ j : Fin 512, (d .kx (ix3 h 128 j) : EReal) * dA n d b h j (inBlk x) else 0
/-- What block `b` adds to the transposed gradient of the queries. -/
noncomputable def cQ (n : Fin 32) (d : St Ideal) (l : Fin 128) (x : Fin 16384) (b : Fin 32) : EReal :=
  if x.val / 512 = b.val then (∑ j : Fin 512, (d .kx (ix3 h0 ⟨l.val, by omega⟩ j) : EReal) * dA n d b h0 j (inBlk x))
    + ∑ j : Fin 512, (d .kx (ix3 h1 ⟨l.val, by omega⟩ j) : EReal) * dA n d b h1 j (inBlk x) else 0

/-- `F` adds the contributions of the blocks of `L` and leaves what they are computed from. -/
structure Adds (n : Fin 32) (d : St Ideal) (L : List (Fin 32)) (σ τ : St Ideal) : Prop where
  same : Same d τ
  dva : ∀ h j l, (τ .dva (ix3 h j l) : EReal) = (σ .dva (ix3 h j l) : EReal) + (L.map (cV n d h j l)).sum
  dka : ∀ h j l, (τ .dka (ix3 h j l) : EReal) = (σ .dka (ix3 h j l) : EReal) + (L.map (cK n d h j l)).sum
  dcq : ∀ h x, (τ .dcq (ix3 0 h x) : EReal) = (σ .dcq (ix3 0 h x) : EReal) + (L.map (cS n d h x)).sum
  dqt : ∀ l x, (τ .dqt (ix3 0 l x) : EReal) = (σ .dqt (ix3 0 l x) : EReal) + (L.map (cQ n d l x)).sum
  dck : τ .dck = σ .dck

theorem Adds.refl {n : Fin 32} {d σ : St Ideal} (h : Same d σ) : Adds n d [] σ σ :=
  ⟨h, fun _ _ _ => by simp, fun _ _ _ => by simp, fun _ _ => by simp, fun _ _ => by simp, rfl⟩

theorem Adds.trans {n : Fin 32} {d σ τ υ : St Ideal} {L L' : List (Fin 32)} (h : Adds n d L σ τ) (h' : Adds n d L' τ υ) :
    Adds n d (L ++ L') σ υ :=
  ⟨h'.same, fun _ _ _ => by rw [h'.dva, h.dva, List.map_append, List.sum_append, add_assoc],
    fun _ _ _ => by rw [h'.dka, h.dka, List.map_append, List.sum_append, add_assoc],
    fun _ _ => by rw [h'.dcq, h.dcq, List.map_append, List.sum_append, add_assoc],
    fun _ _ => by rw [h'.dqt, h.dqt, List.map_append, List.sum_append, add_assoc], h'.dck.trans h.dck⟩

theorem fin2_cases {P : Fin 2 → Prop} (a : P h0) (b : P h1) (h : Fin 2) : P h := by
  fin_cases h
  · exact a
  · exact b

theorem still_stepS {d σ : St Ideal} (hs : Same d σ) (s : Fin 2) (f) (o : Offs) : Same d (stepS s f o σ) := by
  intro b hb
  rw [← hs b hb]
  unfold stepS
  have : b ≠ .dqt ∧ b ≠ .dva ∧ b ≠ .dka ∧ b ≠ .dcq ∧ b ≠ .pt ∧ b ≠ .ds ∧ b ≠ .st ∧ b ≠ .dp := by revert hb; revert b; decide
  obtain ⟨a1, a2, a3, a4, a5, a6, a7, a8⟩ := this
  rw [St.set_ne _ _ a1, accumS_keep _ _ _ _ _ _ _ a2 a3 a4, accumS_keep _ _ _ _ _ _ _ a2 a3 a4, squaresS_keep _ _ _ a5 a6 a7 a8]

/-- A step adds its block's contributions. -/
theorem stepS_adds {f : Fin 16 → FVec Ideal S32x512 .f32 → FVec Ideal S32x512 .f32} {n b : Fin 32} {o : Offs} {d σ : St Ideal}
    (hf : Acts f (causal n b)) (ho : At o b) (hs : Same d σ) (s : Fin 2) : Adds n d [b] σ (stepS s f o σ) := by
  have S : ∀ (c : B), c ≠ .pt → c ≠ .ds → c ≠ .st → c ≠ .dp → squaresS s f o σ c = σ c := fun c a1 a2 a3 a4 => squaresS_keep s o σ a1 a2 a3 a4
  have P0 : ∀ j i, (squaresS s f o σ .pt (ix4 s h0 j i) : EReal) = pA n d b h0 j i := fun j i => ((squaresS_h0 hf ho s σ j i).1).trans (hs.pA ..)
  have P1 : ∀ j i, (squaresS s f o σ .pt (ix4 s h1 j i) : EReal) = pA n d b h1 j i := fun j i => ((squaresS_h1 hf ho s σ j i).1).trans (hs.pA ..)
  have D0 : ∀ j i, (squaresS s f o σ .ds (ix4 s h0 j i) : EReal) = dA n d b h0 j i := fun j i => ((squaresS_h0 hf ho s σ j i).2).trans (hs.dA ..)
  have D1 : ∀ j i, (squaresS s f o σ .ds (ix4 s h1 j i) : EReal) = dA n d b h1 j i := fun j i => ((squaresS_h1 hf ho s σ j i).2).trans (hs.dA ..)
  have hdo : ∀ i l, (doOf o σ (ix2 i l) : EReal) = d .dout (ix2 (qpos b i) l) := fun i l => by rw [doOf_at ho, hs .dout rfl]
  have hq0 : ∀ i l, (q0Of o σ (ix2 i l) : EReal) = d .qv (ix3 h0 (qpos b i) l) := fun i l => by rw [q0Of_at ho, hs .qv rfl]
  have hq1 : ∀ i l, (q1Of o σ (ix2 i l) : EReal) = d .qv (ix3 h1 (qpos b i) l) := fun i l => by rw [q1Of_at ho, hs .qv rfl]
  refine ⟨still_stepS hs s f o, ?_, ?_, ?_, ?_, ?_⟩
  · intro h j l
    rw [List.map_singleton, List.sum_singleton]
    unfold stepS cV
    rw [St.set_ne _ _ (by decide)]
    revert h
    refine fin2_cases ?_ ?_
    · rw [(accumS_sums_other s h1 h0_ne_h1 _ _ _ _ _ j l).1, accumS_dva, S .dva (by decide) (by decide) (by decide) (by decide)]
      simp only [P0, hdo]
    · rw [accumS_dva, (accumS_sums_other s h0 h0_ne_h1.symm _ _ _ _ _ j l).1, S .dva (by decide) (by decide) (by decide) (by decide),
        accumS_keep _ _ _ _ _ _ _ (c := .pt) (by decide) (by decide) (by decide)]
      simp only [P1, hdo]
  · intro h j l
    rw [List.map_singleton, List.sum_singleton]
    unfold stepS cK
    rw [St.set_ne _ _ (by decide)]
    revert h
    refine fin2_cases ?_ ?_
    · rw [(accumS_sums_other s h1 h0_ne_h1 _ _ _ _ _ j l).2, accumS_dka, S .dka (by decide) (by decide) (by decide) (by decide)]
      simp only [D0, hq0]
    · rw [accumS_dka, (accumS_sums_other s h0 h0_ne_h1.symm _ _ _ _ _ j l).2, S .dka (by decide) (by decide) (by decide) (by decide),
        accumS_keep _ _ _ _ _ _ _ (c := .ds) (by decide) (by decide) (by decide)]
      simp only [D1, hq1]
  · intro h x
    rw [List.map_singleton, List.sum_singleton]
    unfold stepS cS
    rw [St.set_ne _ _ (by decide)]
    revert h
    refine fin2_cases ?_ ?_
    · rw [accumS_dcq_other s h1 h0_ne_h1 _ ho.e6, accumS_dcq (b := b) s h0 _ ho.e5, S .dcq (by decide) (by decide) (by decide) (by decide),
        S .kx (by decide) (by decide) (by decide) (by decide), hs .kx rfl]
      simp only [D0]
    · rw [accumS_dcq (b := b) s h1 _ ho.e6, accumS_dcq_other s h0 h0_ne_h1.symm _ ho.e5, S .dcq (by decide) (by decide) (by decide) (by decide),
        accumS_keep _ _ _ _ _ _ _ (c := .ds) (by decide) (by decide) (by decide), accumS_keep _ _ _ _ _ _ _ (c := .kx) (by decide) (by decide) (by decide),
        S .kx (by decide) (by decide) (by decide) (by decide), hs .kx rfl]
      simp only [D1]
  · intro l x
    rw [List.map_singleton, List.sum_singleton]
    unfold stepS cQ
    rw [St.set_self]
    by_cases hx : x.val / 512 = b.val
    · rw [if_pos hx, overlay_at _ _ _ (ix3 0 l (inBlk x)) ((rDqt_emb _ b ho.e7 l (inBlk x)).trans (by rw [qpos_inBlk hx])), dqtVal_at, accumV_at, accumV_at,
        accumS_keep _ _ _ _ _ _ _ (c := .dqt) (by decide) (by decide) (by decide), accumS_keep _ _ _ _ _ _ _ (c := .dqt) (by decide) (by decide) (by decide),
        accumS_keep _ _ _ _ _ _ _ (c := .ds) (by decide) (by decide) (by decide), accumS_keep _ _ _ _ _ _ _ (c := .kx) (by decide) (by decide) (by decide),
        S .kx (by decide) (by decide) (by decide) (by decide), hs .kx rfl, S .dqt (by decide) (by decide) (by decide) (by decide)]
      simp only [part, rDqt_emb _ b ho.e7, qpos_inBlk hx, D0, D1]
      rw [show (dqZero (F := Ideal) (ix2 l (inBlk x)) : EReal) = 0 by pointwise [dqZero], zero_add]
    · rw [if_neg hx, add_zero, overlay_off _ _ 2 (by rw [ho.e7]; simp; omega),
        accumS_keep _ _ _ _ _ _ _ (c := .dqt) (by decide) (by decide) (by decide), accumS_keep _ _ _ _ _ _ _ (c := .dqt) (by decide) (by decide) (by decide),
        S .dqt (by decide) (by decide) (by decide) (by decide)]
  · unfold stepS
    rw [St.set_ne _ _ (by decide), accumS_keep _ _ _ _ _ _ _ (by decide) (by decide) (by decide), accumS_keep _ _ _ _ _ _ _ (by decide) (by decide) (by decide),
      S .dck (by decide) (by decide) (by decide) (by decide)]

end Cert.KernelIdeal.Body
-- ==== Proof.Val.Point.lean ====
/-
A whole grid point over the extended reals: the block of keys `n` against the blocks of queries from `n` on.
-/
module

public import proofs.«01_k».proof.Proof.Val.Adds
public import proofs.«01_k».proof.Proof.First

@[expose] public section

namespace Cert.KernelIdeal.Body

open Idealize.ShloMosaic
open Facts₀ Facts

/-! ## The blocks of queries a point meets -/

/-- The block of keys of point `t`. -/
abbrev kb (t : Fin grid0.N) : Fin 32 := ⟨t.val % 32, by omega⟩

/-- A block of queries from its number. -/
abbrev nb (k : Nat) : Fin 32 := Fin.ofNat 32 k

/-- The blocks of a trip of the first loop. -/
abbrev blkA (t : Fin grid0.N) (k : Nat) (r : Nat) : Fin 32 := nb (t.val % 32 + 1 + 4 * k + r)

theorem at_D (t : Fin grid0.N) : At (offD (grid0.coords t)) (kb t) := by
  have h : k0_off2 (grid0.coords t) = ![512 * (kb t).val, 0] ∧ k0_off3 (grid0.coords t) = ![0, 512 * (kb t).val, 0]
      ∧ k0_off4 (grid0.coords t) = ![1, 512 * (kb t).val, 0] ∧ k0_off5 (grid0.coords t) = ![0, 0, 512 * (kb t).val]
      ∧ k0_off6 (grid0.coords t) = ![0, 1, 512 * (kb t).val] ∧ k0_off7 (grid0.coords t) = ![0, 0, 512 * (kb t).val] := by
    revert t; decide +kernel
  exact ⟨h.1, h.2.1, h.2.2.1, h.2.2.2.1, h.2.2.2.2.1, h.2.2.2.2.2⟩

theorem at_A (t : Fin grid0.N) (k : Fin (k0_t1_loop (grid0.coords t)).trips) : At (offA (grid0.coords t) k) (blkA t k.val 0) := by
  have h : k0_off8 (grid0.coords t) k = ![512 * (blkA t k.val 0).val, 0] ∧ k0_off9 (grid0.coords t) k = ![0, 512 * (blkA t k.val 0).val, 0]
      ∧ k0_off10 (grid0.coords t) k = ![1, 512 * (blkA t k.val 0).val, 0] ∧ k0_off11 (grid0.coords t) k = ![0, 0, 512 * (blkA t k.val 0).val]
      ∧ k0_off12 (grid0.coords t) k = ![0, 1, 512 * (blkA t k.val 0).val] ∧ k0_off13 (grid0.coords t) k = ![0, 0, 512 * (blkA t k.val 0).val] := by
    revert t; decide +kernel
  exact ⟨h.1, h.2.1, h.2.2.1, h.2.2.2.1, h.2.2.2.2.1, h.2.2.2.2.2⟩

theorem at_A' (t : Fin grid0.N) (k : Fin (k0_t1_loop (grid0.coords t)).trips) (r : Fin 3) :
    At (offA' (grid0.coords t) k r) (blkA t k.val (1 + r.val)) := by
  have h : k0_off14 (grid0.coords t) k (BitVec.ofNat 32 (1 + r.val)) = ![512 * (blkA t k.val (1 + r.val)).val, 0]
      ∧ k0_off15 (grid0.coords t) k (BitVec.ofNat 32 (1 + r.val)) = ![0, 512 * (blkA t k.val (1 + r.val)).val, 0]
      ∧ k0_off16 (grid0.coords t) k (BitVec.ofNat 32 (1 + r.val)) = ![1, 512 * (blkA t k.val (1 + r.val)).val, 0]
      ∧ k0_off17 (grid0.coords t) k (BitVec.ofNat 32 (1 + r.val)) = ![0, 0, 512 * (blkA t k.val (1 + r.val)).val]
      ∧ k0_off18 (grid0.coords t) k (BitVec.ofNat 32 (1 + r.val)) = ![0, 1, 512 * (blkA t k.val (1 + r.val)).val]
      ∧ k0_off19 (grid0.coords t) k (BitVec.ofNat 32 (1 + r.val)) = ![0, 0, 512 * (blkA t k.val (1 + r.val)).val] := by
    revert r; revert k; revert t; decide +kernel
  exact ⟨h.1, h.2.1, h.2.2.1, h.2.2.2.1, h.2.2.2.2.1, h.2.2.2.2.2⟩

/-- The number of the first block left over by the first loop. -/
abbrev blkC (t : Fin grid0.N) (r : Nat) : Fin 32 := blkA t (k0_t1_loop (grid0.coords t)).trips r

theorem at_C (t : Fin grid0.N) (h : k0_cond2 (grid0.coords t) = 1#1) (r : Fin 2) : At (offC (grid0.coords t) h r) (blkC t r.val) := by
  have h : k0_off32 (grid0.coords t) (BitVec.ofNat 32 (1 + r.val)) = ![512 * (blkC t r.val).val, 0]
      ∧ k0_off33 (grid0.coords t) (BitVec.ofNat 32 (1 + r.val)) = ![0, 512 * (blkC t r.val).val, 0]
      ∧ k0_off34 (grid0.coords t) (BitVec.ofNat 32 (1 + r.val)) = ![1, 512 * (blkC t r.val).val, 0]
      ∧ k0_off35 (grid0.coords t) (BitVec.ofNat 32 (1 + r.val)) = ![0, 0, 512 * (blkC t r.val).val]
      ∧ k0_off36 (grid0.coords t) (BitVec.ofNat 32 (1 + r.val)) = ![0, 1, 512 * (blkC t r.val).val]
      ∧ k0_off37 (grid0.coords t) (BitVec.ofNat 32 (1 + r.val)) = ![0, 0, 512 * (blkC t r.val).val] := by
    revert h; revert r; revert t; decide +kernel
  exact ⟨h.1, h.2.1, h.2.2.1, h.2.2.2.1, h.2.2.2.2.1, h.2.2.2.2.2⟩

theorem at_L : At offL (nb 31) := ⟨by decide, by decide, by decide, by decide, by decide, by decide⟩

theorem lt_A (t : Fin grid0.N) (k : Fin (k0_t1_loop (grid0.coords t)).trips) (r : Fin 4) : (kb t).val < (blkA t k.val r.val).val := by
  revert r; revert k; revert t; decide +kernel

theorem lt_C (t : Fin grid0.N) (h : k0_cond2 (grid0.coords t) = 1#1) (r : Fin 2) : (kb t).val < (blkC t r.val).val := by
  revert r; revert h; revert t; decide +kernel

theorem lt_L (t : Fin grid0.N) (h : k0_cond3 (grid0.coords t) = 1#1) : (kb t).val < (nb 31).val := by
  revert h; revert t; decide +kernel

theorem trips2 (t : Fin grid0.N) : (k0_t2_loop (grid0.coords t)).trips = 0 := by
  revert t; decide +kernel

/-- The blocks of the four steps of a trip. -/
abbrev listA (t : Fin grid0.N) (k : Nat) : List (Fin 32) := [blkA t k 0] ++ [blkA t k 1] ++ [blkA t k 2] ++ [blkA t k 3]
/-- The blocks left over by the first loop, but the last. -/
abbrev listC (t : Fin grid0.N) : List (Fin 32) := if k0_cond2 (grid0.coords t) = 1#1 then [blkC t 0] ++ [blkC t 1] else []
/-- The last block, where one is left. -/
abbrev listL (t : Fin grid0.N) : List (Fin 32) := if k0_cond3 (grid0.coords t) = 1#1 then [nb 31] else []

/-- A point meets every block from its own on, each once. -/
theorem blocks_eq (t : Fin grid0.N) :
    [kb t] ++ ((List.finRange (k0_t1_loop (grid0.coords t)).trips).flatMap (fun k => listA t k.val) ++ listC t ++ listL t)
      = (List.finRange 32).filter fun b => (kb t).val ≤ b.val := by
  revert t; decide +kernel

end Cert.KernelIdeal.Body
-- ==== Proof.Val.Sweep.lean ====
/-
The blocks of a point's sweep: together they add the contributions of every block from the point's own on.
-/
module

public import proofs.«01_k».proof.Proof.Val.Point

@[expose] public section

namespace Cert.KernelIdeal.Body

open Idealize.ShloMosaic
open Facts₀ Facts

/-! ## The blocks' additions -/

section adds

variable {t : Fin grid0.N} {d σ : St Ideal}

theorem fourS_adds (hs : Same d σ) (k : Fin (k0_t1_loop (grid0.coords t)).trips) : Adds (kb t) d (listA t k.val) σ (tripA (grid0.coords t) k σ) := by
  have a0 := stepS_adds (acts_noMask (lt_A t k 0)) (at_A t k) hs h0
  have a1 := stepS_adds (acts_noMask (lt_A t k 1)) (at_A' t k 0) a0.same h1
  have a2 := stepS_adds (acts_noMask (lt_A t k 2)) (at_A' t k 1) a1.same h0
  have a3 := stepS_adds (acts_noMask (lt_A t k 3)) (at_A' t k 2) a2.same h1
  exact ((a0.trans a1).trans a2).trans a3

theorem foldA_adds : ∀ (ks : List (Fin (k0_t1_loop (grid0.coords t)).trips)) (σ : St Ideal), Same d σ →
    Adds (kb t) d (ks.flatMap fun k => listA t k.val) σ (ks.foldl (fun σ k => tripA (grid0.coords t) k σ) σ)
  | [], σ, h => .refl h
  | k :: ks, σ, h => by
    have a := fourS_adds h k
    have b := foldA_adds ks _ a.same
    rw [List.flatMap_cons]
    exact a.trans b

theorem foldB_eq (σ : St Ideal) : (List.finRange (k0_t2_loop (grid0.coords t)).trips).foldl (fun σ k => tripB (grid0.coords t) k σ) σ = σ := by
  have h : List.finRange (k0_t2_loop (grid0.coords t)).trips = [] := by
    rw [← List.length_eq_zero_iff, List.length_finRange]
    exact trips2 t
  rw [h]
  rfl

theorem blocksS_adds (hs : Same d σ) :
    Adds (kb t) d ((List.finRange (k0_t1_loop (grid0.coords t)).trips).flatMap (fun k => listA t k.val) ++ listC t ++ listL t) σ
      (blocksS (grid0.coords t) σ) := by
  unfold blocksS
  dsimp only
  have a := foldA_adds (List.finRange (k0_t1_loop (grid0.coords t)).trips) σ hs
  rw [foldB_eq]
  revert a
  generalize (List.finRange (k0_t1_loop (grid0.coords t)).trips).foldl (fun σ k => tripA (grid0.coords t) k σ) σ = σ₁
  intro a
  have c : Adds (kb t) d (listC t) σ₁ (if h : k0_cond2 (grid0.coords t) = 1#1 then
      stepS h1 noMask (offC (grid0.coords t) h 1) (stepS h0 noMask (offC (grid0.coords t) h 0) σ₁) else σ₁) := by
    unfold listC
    split
    next h =>
      have c0 := stepS_adds (acts_noMask (lt_C t h 0)) (at_C t h 0) a.same h0
      exact c0.trans (stepS_adds (acts_noMask (lt_C t h 1)) (at_C t h 1) c0.same h1)
    next h => exact .refl a.same
  refine (a.trans c).trans ?_
  have hc := c.same
  revert hc
  generalize (if h : k0_cond2 (grid0.coords t) = 1#1 then
      stepS h1 noMask (offC (grid0.coords t) h 1) (stepS h0 noMask (offC (grid0.coords t) h 0) σ₁) else σ₁) = σ₂
  intro hc
  unfold listL
  split
  next h => exact stepS_adds (acts_noMask (lt_L t h)) at_L hc h0
  next h => exact .refl hc

/-- The blocks from `n` on. -/
abbrev from' (n : Fin 32) : List (Fin 32) := (List.finRange 32).filter fun b => n.val ≤ b.val

/-- A point adds the contributions of every block from its own on. -/
theorem sweep_adds (hs : Same d σ) : Adds (kb t) d (from' (kb t)) σ (blocksS (grid0.coords t) (stepS h0 maskChunk (offD (grid0.coords t)) σ)) := by
  have a := stepS_adds (acts_mask (kb t)) (at_D t) hs h0
  have b := a.trans (blocksS_adds a.same)
  rw [blocks_eq] at b
  exact b

end adds
end Cert.KernelIdeal.Body
-- ==== Proof.Val.Ready.lean ====
/-
The operands a point sets up before its sweep.
-/
module

public import proofs.«01_k».proof.Proof.Val.Adds

@[expose] public section

namespace Cert.KernelIdeal.Body

open Idealize.ShloMosaic
open Facts₀ Facts

/-! ## Before the blocks -/

/-- The state the blocks start from: the two sums at zero and the operands set up. -/
noncomputable def ready (σ : St Ideal) : St Ideal :=
  operandsS h1 lanes1 (operandsS h0 lanes0 ((σ.set .dka (rAll.overlay (σ .dka) (accZero (F := Ideal)))).set .dva (rAll.overlay (σ .dva) (accZero (F := Ideal)))))

theorem operandsS_ne (h : Fin 2) (lanes : IVec S512x128 1) (σ : St Ideal) {b : B} (hv : b ≠ .vh) (hk : b ≠ .kx) : operandsS h lanes σ b = σ b := by
  unfold operandsS
  rw [St.set_ne _ _ hk, St.set_ne _ _ hk, St.set_ne _ _ hv]

theorem operandsS_vh (h : Fin 2) (lanes : IVec S512x128 1) (σ : St Ideal) (j : Fin 512) (l : Fin 128) :
    (operandsS h lanes σ .vh (ix3 h j l) : EReal) = if lanes (ix2 j l) = 1#1 then (σ .v (ix3 h j l) : EReal) else 0 := by
  unfold operandsS
  rw [St.set_ne _ _ (by decide), St.set_ne _ _ (by decide), St.set_self, overlay_at _ _ _ (ix3 0 j l) (rHead_emb h j l), vhVal_at]
  simp only [part, rHead_emb]

theorem operandsS_vh_other (h : Fin 2) (lanes : IVec S512x128 1) (σ : St Ideal) {h' : Fin 2} (hne : h' ≠ h) (j : Fin 512) (l : Fin 128) :
    operandsS h lanes σ .vh (ix3 h' j l) = σ .vh (ix3 h' j l) := by
  unfold operandsS
  have : h'.val ≠ h.val := fun e => hne (Fin.ext e)
  rw [St.set_ne _ _ (by decide), St.set_ne _ _ (by decide), St.set_self, overlay_off _ _ 0 (by simp; omega)]

theorem rKxT_emb (h : Fin 2) (l : Fin 128) (j : Fin 512) : (rKxT h).emb (ix3 0 l j) = ix3 h ⟨l.val, by omega⟩ j := by
  refine emb_unit_eq _ fun b => ?_
  fin_cases b <;> simp

theorem rKxO_emb (h : Fin 2) (j : Fin 512) : (rKxO h).emb (ix3 0 0 j) = ix3 h 128 j := by
  refine emb_unit_eq _ fun b => ?_
  fin_cases b <;> simp

theorem operandsS_kx (h : Fin 2) (lanes : IVec S512x128 1) (σ : St Ideal) (l : Fin 128) (j : Fin 512) :
    (operandsS h lanes σ .kx (ix3 h ⟨l.val, by omega⟩ j) : EReal) = if lanes (ix2 j l) = 1#1 then (σ .k (ix3 h j l) : EReal) else 0 := by
  unfold operandsS
  rw [St.set_self, overlay_off _ _ 1 (by simp), St.set_self, overlay_at _ _ _ (ix3 0 l j) (rKxT_emb h l j), kxTVal_at]
  simp only [part, rHead_emb]

theorem operandsS_kx_ones (h : Fin 2) (lanes : IVec S512x128 1) (σ : St Ideal) (j : Fin 512) :
    (operandsS h lanes σ .kx (ix3 h 128 j) : EReal) = 1 := by
  unfold operandsS
  rw [St.set_self, overlay_at _ _ _ (ix3 0 0 j) (rKxO_emb h j), onesVal_at]

theorem operandsS_kx_other (h : Fin 2) (lanes : IVec S512x128 1) (σ : St Ideal) {h' : Fin 2} (hne : h' ≠ h) (l : Fin 144) (j : Fin 512) :
    operandsS h lanes σ .kx (ix3 h' l j) = σ .kx (ix3 h' l j) := by
  unfold operandsS
  have : h'.val ≠ h.val := fun e => hne (Fin.ext e)
  rw [St.set_self, overlay_off _ _ 0 (by simp; omega), St.set_self, overlay_off _ _ 0 (by simp; omega)]

/-- Lane `l` belongs to head `h` of the pair. -/
abbrev mine (h : Fin 2) (l : Fin 128) : Prop := l.val / 64 = h.val

theorem lanes0_one (j : Fin 512) (l : Fin 128) : lanes0 (ix2 j l) = 1#1 ↔ mine h0 l := by
  rw [lanes0_at]
  have : mine h0 l ↔ l.val < 64 := by show l.val / 64 = 0 ↔ _; omega
  rw [this]
  by_cases h : l.val < 64 <;> simp [h]

theorem lanes1_one (j : Fin 512) (l : Fin 128) : lanes1 (ix2 j l) = 1#1 ↔ mine h1 l := by
  rw [lanes1_at]
  have : mine h1 l ↔ 64 ≤ l.val := by show l.val / 64 = 1 ↔ _; omega
  rw [this]
  by_cases h : 64 ≤ l.val <;> simp [h]

theorem ready_ne (σ : St Ideal) {b : B} (hv : b ≠ .vh) (hk : b ≠ .kx) (ha : b ≠ .dka) (hb : b ≠ .dva) : ready σ b = σ b := by
  unfold ready
  rw [operandsS_ne _ _ _ hv hk, operandsS_ne _ _ _ hv hk, St.set_ne _ _ hb, St.set_ne _ _ ha]

theorem ready_vh (σ : St Ideal) (h : Fin 2) (j : Fin 512) (l : Fin 128) :
    (ready σ .vh (ix3 h j l) : EReal) = if mine h l then (σ .v (ix3 h j l) : EReal) else 0 := by
  unfold ready
  revert h
  refine fin2_cases ?_ ?_
  · rw [operandsS_vh_other _ _ _ h0_ne_h1, operandsS_vh, St.set_ne _ _ (by decide), St.set_ne _ _ (by decide)]
    simp only [lanes0_one]
  · rw [operandsS_vh, operandsS_ne _ _ _ (b := .v) (by decide) (by decide), St.set_ne _ _ (by decide), St.set_ne _ _ (by decide)]
    simp only [lanes1_one]

theorem ready_kx (σ : St Ideal) (h : Fin 2) (l : Fin 128) (j : Fin 512) :
    (ready σ .kx (ix3 h ⟨l.val, by omega⟩ j) : EReal) = if mine h l then (σ .k (ix3 h j l) : EReal) else 0 := by
  unfold ready
  revert h
  refine fin2_cases ?_ ?_
  · rw [operandsS_kx_other _ _ _ h0_ne_h1, operandsS_kx, St.set_ne _ _ (by decide), St.set_ne _ _ (by decide)]
    simp only [lanes0_one]
  · rw [operandsS_kx, operandsS_ne _ _ _ (b := .k) (by decide) (by decide), St.set_ne _ _ (by decide), St.set_ne _ _ (by decide)]
    simp only [lanes1_one]

theorem ready_ones (σ : St Ideal) (h : Fin 2) (j : Fin 512) : (ready σ .kx (ix3 h 128 j) : EReal) = 1 := by
  unfold ready
  revert h
  refine fin2_cases ?_ ?_
  · rw [operandsS_kx_other _ _ _ h0_ne_h1, operandsS_kx_ones]
  · rw [operandsS_kx_ones]

theorem rAll_emb (h : Fin 2) (j : Fin 512) (l : Fin 128) : rAll.emb (ix3 h j l) = ix3 h j l := by
  refine emb_unit_eq _ fun b => ?_
  fin_cases b <;> simp

theorem accZero_at (h : Fin 2) (j : Fin 512) (l : Fin 128) : (accZero (F := Ideal) (ix3 h j l) : EReal) = 0 := by
  pointwise [accZero]

theorem ready_dva (σ : St Ideal) (h : Fin 2) (j : Fin 512) (l : Fin 128) : (ready σ .dva (ix3 h j l) : EReal) = 0 := by
  unfold ready
  rw [operandsS_ne _ _ _ (b := .dva) (by decide) (by decide), operandsS_ne _ _ _ (b := .dva) (by decide) (by decide), St.set_self,
    overlay_at _ _ _ (ix3 h j l) (rAll_emb h j l), accZero_at]

theorem ready_dka (σ : St Ideal) (h : Fin 2) (j : Fin 512) (l : Fin 128) : (ready σ .dka (ix3 h j l) : EReal) = 0 := by
  unfold ready
  rw [operandsS_ne _ _ _ (b := .dka) (by decide) (by decide), operandsS_ne _ _ _ (b := .dka) (by decide) (by decide), St.set_ne _ _ (by decide), St.set_self,
    overlay_at _ _ _ (ix3 h j l) (rAll_emb h j l), accZero_at]
end Cert.KernelIdeal.Body
-- ==== Proof.Val.Finish.lean ====
/-
What a point writes after its sweep.
-/
module

public import proofs.«01_k».proof.Proof.Val.Point

@[expose] public section

namespace Cert.KernelIdeal.Body

open Idealize.ShloMosaic
open Facts₀ Facts

/-! ## After the blocks -/

theorem rOut_emb (j : Fin 512) (l : Fin 128) : rOut.emb (ix2 j l) = ix2 j l := by
  refine emb_unit_eq _ fun b => ?_
  fin_cases b <;> simp

/-- The lane of a head's keys' sum that holds the sum of the logits' gradient. -/
abbrev sumLane (h : Fin 2) : Fin 128 := if h = h0 then 67 else 3

theorem finishS_dk (i : grid0.Coords) (σ : St Ideal) (j : Fin 512) (l : Fin 128) :
    (finishS i σ .dk (ix2 j l) : EReal) = (if l.val < 64 then (σ .dka (ix3 h0 j l) : EReal) else σ .dka (ix3 h1 j l)) * ((Real.log 2 : ℝ) : EReal) := by
  unfold finishS finishRowS
  rw [St.set_ne _ _ (by decide), St.set_ne _ _ (by decide), St.set_ne _ _ (by decide), St.set_self, overlay_at _ _ _ (ix2 j l) (rOut_emb j l), dkVal_at]
  simp only [part, rHead_emb]

theorem finishS_dv (i : grid0.Coords) (σ : St Ideal) (j : Fin 512) (l : Fin 128) :
    (finishS i σ .dv (ix2 j l) : EReal) = if l.val < 64 then (σ .dva (ix3 h0 j l) : EReal) else σ .dva (ix3 h1 j l) := by
  unfold finishS finishRowS
  rw [St.set_ne _ _ (by decide), St.set_ne _ _ (by decide), St.set_self, overlay_at _ _ _ (ix2 j l) (rOut_emb j l), dvVal_at]
  simp only [part, rHead_emb]

theorem finishS_ne (i : grid0.Coords) (σ : St Ideal) {b : B} (h1 : b ≠ .dk) (h2 : b ≠ .dv) (h3 : b ≠ .dck) : finishS i σ b = σ b := by
  unfold finishS finishRowS
  rw [St.set_ne _ _ h3, St.set_ne _ _ h3, St.set_ne _ _ h2, St.set_ne _ _ h1]

theorem finishRowS_same (h : Fin 2) {off : Fin 2 → Nat} (hs) {o : Fin 3 → Nat} (io) (n : Fin 32) (at' : Fin 128) (e : off = ![at'.val, 0])
    (eo : o = ![0, h.val, 512 * n.val]) (σ : St Ideal) (x : Fin 16384) :
    (finishRowS h off hs o io σ .dck (ix3 0 h x) : EReal) = if x.val / 512 = n.val then 0 - (σ .dka (ix3 h (inBlk x) at') : EReal) else σ .dck (ix3 0 h x) := by
  unfold finishRowS
  rw [St.set_self]
  by_cases hx : x.val / 512 = n.val
  · subst e
    rw [if_pos hx, overlay_at _ _ _ (ix3 0 0 (inBlk x)) ((rRow_emb io h n eo (inBlk x)).trans (by rw [qpos_inBlk hx])), dckVal_at]
    simp only [part, rHead_emb]
  · rw [if_neg hx, overlay_off _ _ 2 (by subst eo; simp; omega)]

theorem finishRowS_other (h : Fin 2) {off : Fin 2 → Nat} (hs) {o : Fin 3 → Nat} (io) (n : Fin 32)
    (eo : o = ![0, h.val, 512 * n.val]) (σ : St Ideal) {h' : Fin 2} (hne : h' ≠ h) (x : Fin 16384) :
    finishRowS h off hs o io σ .dck (ix3 0 h' x) = σ .dck (ix3 0 h' x) := by
  unfold finishRowS
  have : h'.val ≠ h.val := fun e => hne (Fin.ext e)
  rw [St.set_self, overlay_off _ _ 1 (by subst eo; simp; omega)]

theorem finishRowS_ne (h : Fin 2) (off : Fin 2 → Nat) (hs) (o : Fin 3 → Nat) (io) (σ : St Ideal) {b : B} (hb : b ≠ .dck) :
    finishRowS h off hs o io σ b = σ b := by
  unfold finishRowS
  rw [St.set_ne _ _ hb]

theorem finishS_dck (t : Fin grid0.N) (σ : St Ideal) (h : Fin 2) (x : Fin 16384) :
    (finishS (grid0.coords t) σ .dck (ix3 0 h x) : EReal)
      = if x.val / 512 = t.val % 32 then 0 - (σ .dka (ix3 h (inBlk x) (sumLane h)) : EReal) else σ .dck (ix3 0 h x) := by
  unfold finishS
  revert h
  refine fin2_cases ?_ ?_
  · rw [finishRowS_other h1 _ _ (kb t) (at_D t).e6 _ h0_ne_h1, finishRowS_same h0 (off := ![67, 0]) _ _ (kb t) 67 rfl (at_D t).e5,
      St.set_ne _ _ (by decide), St.set_ne _ _ (by decide), St.set_ne _ _ (by decide), St.set_ne _ _ (by decide)]
    rfl
  · rw [finishRowS_same h1 (off := ![3, 0]) _ _ (kb t) 3 rfl (at_D t).e6, finishRowS_other h0 _ _ (kb t) (at_D t).e5 _ h0_ne_h1.symm,
      finishRowS_ne _ _ _ _ _ _ (by decide),
      St.set_ne _ _ (by decide), St.set_ne _ _ (by decide), St.set_ne _ _ (by decide), St.set_ne _ _ (by decide)]
    rfl
end Cert.KernelIdeal.Body
-- ==== Proof.Val.Whole.lean ====
/-
What a whole point leaves in each buffer.
-/
module

public import proofs.«01_k».proof.Proof.Val.Sweep
public import proofs.«01_k».proof.Proof.Val.Ready
public import proofs.«01_k».proof.Proof.Val.Finish

@[expose] public section

namespace Cert.KernelIdeal.Body

open Idealize.ShloMosaic
open Facts₀ Facts

/-! ## The point -/

/-- Head of a pair from a lane. -/
abbrev hd (l : Fin 128) : Fin 2 := ⟨l.val / 64, by omega⟩

theorem restS_eq (i : grid0.Coords) (σ : St Ideal) : restS i σ = finishS i (blocksS i (stepS h0 maskChunk (offD i) (ready σ))) := rfl

section point

variable (t : Fin grid0.N) (σ : St Ideal)

theorem restS_dk (j : Fin 512) (l : Fin 128) :
    (restS (grid0.coords t) σ .dk (ix2 j l) : EReal)
      = ((from' (kb t)).map (cK (kb t) (ready σ) (hd l) j l)).sum * ((Real.log 2 : ℝ) : EReal) := by
  have a := sweep_adds (t := t) (d := ready σ) (σ := ready σ) fun _ _ => rfl
  rw [restS_eq, finishS_dk, a.dka, a.dka, ready_dka, ready_dka, zero_add, zero_add]
  by_cases h : l.val < 64
  · rw [if_pos h, show hd l = h0 from Fin.ext (by show l.val / 64 = 0; omega)]
  · rw [if_neg h, show hd l = h1 from Fin.ext (by show l.val / 64 = 1; omega)]

theorem restS_dv (j : Fin 512) (l : Fin 128) :
    (restS (grid0.coords t) σ .dv (ix2 j l) : EReal) = ((from' (kb t)).map (cV (kb t) (ready σ) (hd l) j l)).sum := by
  have a := sweep_adds (t := t) (d := ready σ) (σ := ready σ) fun _ _ => rfl
  rw [restS_eq, finishS_dv, a.dva, a.dva, ready_dva, ready_dva, zero_add, zero_add]
  by_cases h : l.val < 64
  · rw [if_pos h, show hd l = h0 from Fin.ext (by show l.val / 64 = 0; omega)]
  · rw [if_neg h, show hd l = h1 from Fin.ext (by show l.val / 64 = 1; omega)]

theorem restS_dck (h : Fin 2) (x : Fin 16384) :
    (restS (grid0.coords t) σ .dck (ix3 0 h x) : EReal)
      = if x.val / 512 = t.val % 32 then 0 - ((from' (kb t)).map (cK (kb t) (ready σ) h (inBlk x) (sumLane h))).sum else σ .dck (ix3 0 h x) := by
  have a := sweep_adds (t := t) (d := ready σ) (σ := ready σ) fun _ _ => rfl
  rw [restS_eq, finishS_dck, a.dka, ready_dka, zero_add, a.dck, ready_ne _ (by decide) (by decide) (by decide) (by decide)]

theorem restS_dcq (h : Fin 2) (x : Fin 16384) :
    (restS (grid0.coords t) σ .dcq (ix3 0 h x) : EReal) = (σ .dcq (ix3 0 h x) : EReal) + ((from' (kb t)).map (cS (kb t) (ready σ) h x)).sum := by
  have a := sweep_adds (t := t) (d := ready σ) (σ := ready σ) fun _ _ => rfl
  rw [restS_eq, finishS_ne _ _ (by decide) (by decide) (by decide), a.dcq, ready_ne _ (by decide) (by decide) (by decide) (by decide)]

theorem restS_dqt (l : Fin 128) (x : Fin 16384) :
    (restS (grid0.coords t) σ .dqt (ix3 0 l x) : EReal) = (σ .dqt (ix3 0 l x) : EReal) + ((from' (kb t)).map (cQ (kb t) (ready σ) l x)).sum := by
  have a := sweep_adds (t := t) (d := ready σ) (σ := ready σ) fun _ _ => rfl
  rw [restS_eq, finishS_ne _ _ (by decide) (by decide) (by decide), a.dqt, ready_ne _ (by decide) (by decide) (by decide) (by decide)]

end point
end Cert.KernelIdeal.Body
-- ==== Proof.Val.Global.lean ====
/-
The sums of a point over all queries and keys: with the arrays a point's operands are blocks of, the blocks from the
point's own on give sums over every query, because the probability of a masked query is zero.
-/
module

public import proofs.«01_k».proof.Proof.Val.Whole
public import Idealize.ShloMosaic.Lib.Pipeline.ValueKit.Acc

@[expose] public section

namespace Cert.KernelIdeal.Body

open Idealize.ShloMosaic

/-- Head `h` of pair `p`. -/
abbrev gh (p : Fin 4) (h : Fin 2) : Fin 8 := ⟨2 * p.val + h.val, by omega⟩
/-- Column of lane `l` of pair `p`. -/
abbrev col (p : Fin 4) (l : Fin 128) : Fin 512 := ⟨128 * p.val + l.val, by omega⟩

/-- The arrays the call takes: queries, keys and values by head, row and lane; the output's gradient; the rows' log-sums
    and the products of output and gradient, by pair, head of the pair and row. -/
structure Arr where
  Q : Fin 8 → Fin 16384 → Fin 128 → EReal
  K : Fin 8 → Fin 16384 → Fin 128 → EReal
  V : Fin 8 → Fin 16384 → Fin 128 → EReal
  O : Fin 16384 → Fin 512 → EReal
  L : Fin 4 → Fin 2 → Fin 16384 → EReal
  D : Fin 4 → Fin 2 → Fin 16384 → EReal

variable (A : Arr) (p : Fin 4)

/-- The probability of key `y` for query `x`. -/
noncomputable def PP (h : Fin 2) (y x : Fin 16384) : EReal :=
  Ideal.exp2 ((if y.val ≤ x.val then ∑ l : Fin 128, A.K (gh p h) y l * A.Q (gh p h) x l else ⊥) - A.L p h x)

/-- The gradient of the logit of key `y` and query `x`. -/
noncomputable def DD (h : Fin 2) (y x : Fin 16384) : EReal :=
  PP A p h y x * ((∑ l : Fin 128, (if mine h l then A.V (gh p h) y l else 0) * A.O x (col p l)) - A.D p h x)

theorem PP_masked {h : Fin 2} {y x : Fin 16384} (hx : ¬ y.val ≤ x.val) : PP A p h y x = 0 := by
  unfold PP
  rw [if_neg hx, EReal.bot_sub]
  rfl

theorem DD_masked {h : Fin 2} {y x : Fin 16384} (hx : ¬ y.val ≤ x.val) : DD A p h y x = 0 := by
  unfold DD
  rw [PP_masked A p hx, zero_mul]

/-- The operands of point `n` of pair `p` are blocks of the arrays. -/
structure Op (n : Fin 32) (d : St Ideal) : Prop where
  k : ∀ h j l, (d .k (ix3 h j l) : EReal) = A.K (gh p h) (qpos n j) l
  qv : ∀ h x l, (d .qv (ix3 h x l) : EReal) = A.Q (gh p h) x l
  vh : ∀ (h : Fin 2) (j : Fin 512) (l : Fin 128), (d .vh (ix3 h j l) : EReal) = if mine h l then A.V (gh p h) (qpos n j) l else 0
  kx : ∀ (h : Fin 2) (j : Fin 512) (l : Fin 128), (d .kx (ix3 h ⟨l.val, by omega⟩ j) : EReal) = if mine h l then A.K (gh p h) (qpos n j) l else 0
  ones : ∀ (h : Fin 2) (j : Fin 512), (d .kx (ix3 h 128 j) : EReal) = 1
  dout : ∀ x l, (d .dout (ix2 x l) : EReal) = A.O x (col p l)
  lse : ∀ (h : Fin 2) x, (d .lse (ix3 0 h x) : EReal) = A.L p h x
  delta : ∀ (h : Fin 2) x, (d .delta (ix3 0 h x) : EReal) = A.D p h x

variable {A p} {n : Fin 32} {d : St Ideal} (op : Op A p n d)

include op

theorem Op.pA (b : Fin 32) (h : Fin 2) (j i : Fin 512) : Body.pA n d b h j i = PP A p h (qpos n j) (qpos b i) := by
  unfold Body.pA PP causal
  rw [op.lse]
  simp only [op.k, op.qv]

theorem Op.dA (b : Fin 32) (h : Fin 2) (j i : Fin 512) : Body.dA n d b h j i = DD A p h (qpos n j) (qpos b i) := by
  unfold Body.dA DD
  rw [op.pA, op.delta]
  simp only [op.vh, op.dout]

omit op in
/-- The blocks before the point's own add nothing. -/
theorem sum_from (f : Fin 32 → EReal) (hf : ∀ b : Fin 32, ¬ n.val ≤ b.val → f b = 0) : ((from' n).map f).sum = ∑ b, f b := by
  rw [← List.sum_toFinset _ ((List.nodup_finRange 32).filter _)]
  refine Finset.sum_subset (Finset.subset_univ _) fun b _ hb => hf b fun h => hb ?_
  simpa using h

omit op in
theorem sum_blocks (f : Fin 16384 → EReal) : ∑ b : Fin 32, ∑ x : Fin 512, f (qpos b x) = ∑ x, f x := by
  rw [← Finset.sum_product']
  refine Finset.sum_bij' (fun q _ => qpos q.1 q.2) (fun x _ => ((⟨x.val / 512, by omega⟩ : Fin 32), inBlk x)) ?_ ?_ ?_ ?_ ?_
  · exact fun _ _ => Finset.mem_univ _
  · exact fun _ _ => Finset.mem_univ _
  · exact fun q _ => Prod.ext (Fin.ext (by simp only [qpos]; omega)) (Fin.ext (by simp only [qpos]; omega))
  · exact fun x _ => Fin.ext (by simp only [qpos]; omega)
  · exact fun _ _ => rfl

theorem Op.sumV (h : Fin 2) (j : Fin 512) (l : Fin 128) :
    ((from' n).map (cV n d h j l)).sum = ∑ x, PP A p h (qpos n j) x * A.O x (col p l) := by
  have e : ∀ b, cV n d h j l b = ∑ x : Fin 512, PP A p h (qpos n j) (qpos b x) * A.O (qpos b x) (col p l) := fun b => by
    unfold cV
    simp only [op.pA, op.dout]
  rw [sum_from _ fun b hb => ?_, Finset.sum_congr rfl fun b _ => e b, sum_blocks fun x => PP A p h (qpos n j) x * A.O x (col p l)]
  rw [e]
  refine Finset.sum_eq_zero fun x _ => ?_
  rw [PP_masked A p (by simp only [qpos]; omega), zero_mul]

theorem Op.sumK (h : Fin 2) (j : Fin 512) (l : Fin 128) :
    ((from' n).map (cK n d h j l)).sum = ∑ x, DD A p h (qpos n j) x * A.Q (gh p h) x l := by
  have e : ∀ b, cK n d h j l b = ∑ x : Fin 512, DD A p h (qpos n j) (qpos b x) * A.Q (gh p h) (qpos b x) l := fun b => by
    unfold cK
    simp only [op.dA, op.qv]
  rw [sum_from _ fun b hb => ?_, Finset.sum_congr rfl fun b _ => e b, sum_blocks fun x => DD A p h (qpos n j) x * A.Q (gh p h) x l]
  rw [e]
  refine Finset.sum_eq_zero fun x _ => ?_
  rw [DD_masked A p (by simp only [qpos]; omega), zero_mul]

omit op in
/-- Only the query's own block counts. -/
theorem sum_own (x : Fin 16384) (F : EReal) (hF : ¬ n.val ≤ x.val / 512 → F = 0) :
    ((from' n).map fun b : Fin 32 => if x.val / 512 = b.val then F else 0).sum = F := by
  rw [sum_from _ fun b hb => ?_]
  · rw [Finset.sum_eq_single (⟨x.val / 512, by omega⟩ : Fin 32)]
    · simp
    · exact fun b _ hb => if_neg fun e => hb (Fin.ext e.symm)
    · exact fun h => absurd (Finset.mem_univ _) h
  · split
    next h => exact hF (by omega)
    next => rfl

theorem Op.sumS (h : Fin 2) (x : Fin 16384) :
    ((from' n).map (cS n d h x)).sum = ∑ j : Fin 512, DD A p h (qpos n j) x := by
  have e : cS n d h x = fun b : Fin 32 => if x.val / 512 = b.val then ∑ j : Fin 512, DD A p h (qpos n j) x else 0 := by
    funext b
    unfold cS
    simp only [op.ones, op.dA, one_mul]
    split
    next hx => rw [qpos_inBlk hx]
    next => rfl
  rw [e, sum_own x _ fun hx => ?_]
  exact Finset.sum_eq_zero fun j _ => DD_masked A p (by simp only [qpos]; omega)

/-- The gradient of the query of row `x` from the keys of point `n`, at lane `l`. -/
theorem Op.sumQ (l : Fin 128) (x : Fin 16384) :
    ((from' n).map (cQ n d l x)).sum
      = (∑ j : Fin 512, (if mine h0 l then A.K (gh p h0) (qpos n j) l else 0) * DD A p h0 (qpos n j) x)
        + ∑ j : Fin 512, (if mine h1 l then A.K (gh p h1) (qpos n j) l else 0) * DD A p h1 (qpos n j) x := by
  have e : cQ n d l x = fun b : Fin 32 => if x.val / 512 = b.val then
      (∑ j : Fin 512, (if mine h0 l then A.K (gh p h0) (qpos n j) l else 0) * DD A p h0 (qpos n j) x)
        + ∑ j : Fin 512, (if mine h1 l then A.K (gh p h1) (qpos n j) l else 0) * DD A p h1 (qpos n j) x else 0 := by
    funext b
    unfold cQ
    simp only [op.kx, op.dA]
    split
    next hx => rw [qpos_inBlk hx]
    next => rfl
  rw [e, sum_own x _ fun hx => ?_]
  have z : ∀ (h : Fin 2) (j : Fin 512), DD A p h (qpos n j) x = 0 := fun h j => DD_masked A p (by simp only [qpos]; omega)
  simp only [z, mul_zero, Finset.sum_const_zero, add_zero]

omit op in
/-- A state whose inputs are the arrays' blocks is ready as a point's operands. -/
theorem Op.of_ready {σ : St Ideal} (hk : ∀ h j l, (σ .k (ix3 h j l) : EReal) = A.K (gh p h) (qpos n j) l)
    (hq : ∀ h x l, (σ .qv (ix3 h x l) : EReal) = A.Q (gh p h) x l)
    (hv : ∀ h j l, (σ .v (ix3 h j l) : EReal) = A.V (gh p h) (qpos n j) l)
    (ho : ∀ x l, (σ .dout (ix2 x l) : EReal) = A.O x (col p l))
    (hl : ∀ (h : Fin 2) x, (σ .lse (ix3 0 h x) : EReal) = A.L p h x)
    (hd : ∀ (h : Fin 2) x, (σ .delta (ix3 0 h x) : EReal) = A.D p h x) : Op A p n (ready σ) where
  k h j l := by rw [ready_ne σ (by decide) (by decide) (by decide) (by decide), hk]
  qv h x l := by rw [ready_ne σ (by decide) (by decide) (by decide) (by decide), hq]
  vh h j l := by rw [ready_vh, hv]
  kx h j l := by rw [ready_kx, hk]
  ones h j := ready_ones σ h j
  dout x l := by rw [ready_ne σ (by decide) (by decide) (by decide) (by decide), ho]
  lse h x := by rw [ready_ne σ (by decide) (by decide) (by decide) (by decide), hl]
  delta h x := by rw [ready_ne σ (by decide) (by decide) (by decide) (by decide), hd]

end Cert.KernelIdeal.Body
-- ==== Proof.Val.Scores.lean ====
/-
The saved arrays at an index, for real arguments.
-/
module

public import proofs.«01_k».proof.Proof.Val.Saved
public import proofs.«01_k».proof.Proof.Val.Real
public import proofs.«01_k».proof.Proof.Val.Global
public import Idealize.ShloMosaic.Lib.Pointwise.Reduce
public import Idealize.ShloMosaic.Lib.Pointwise.Contract
public import Idealize.ShloMosaic.Lib.Pointwise.Tactic
public import Idealize.ShloMosaic.Lib.WordCmp

@[expose] public section

set_option maxRecDepth 8192

namespace Cert.KernelIdeal.Body

open Idealize.ShloMosaic Cert.KernelIdeal Cert.KernelIdeal.Facts₀ Cert.Attention

theorem word_eighth : Ideal.ofBits .f32 0x3E000000#32 = ((1/8 : ℝ) : EReal) := by
  rw [show Ideal.ofBits .f32 0x3E000000#32 = Ideal.ieee 8 23 0x3E000000#32 from rfl]
  unfold Ideal.ieee
  norm_num [Nat.shiftRight_eq_div_pow]
  decide
theorem word_one : Ideal.ofBits .f32 0x3F800000#32 = ((1 : ℝ) : EReal) := by
  rw [show Ideal.ofBits .f32 0x3F800000#32 = Ideal.ieee 8 23 0x3F800000#32 from rfl]
  unfold Ideal.ieee
  norm_num [Nat.shiftRight_eq_div_pow]
  decide
theorem word_two : Ideal.ofBits .f32 0x40000000#32 = ((2 : ℝ) : EReal) := by
  rw [show Ideal.ofBits .f32 0x40000000#32 = Ideal.ieee 8 23 0x40000000#32 from rfl]
  unfold Ideal.ieee
  norm_num [Nat.shiftRight_eq_div_pow]
  decide
theorem word_bot : Ideal.ofBits .f32 0xFF800000#32 = (⊥ : EReal) := by
  rw [show Ideal.ofBits .f32 0xFF800000#32 = Ideal.ieee 8 23 0xFF800000#32 from rfl]
  unfold Ideal.ieee
  simp

/-- One over the logarithm of two. -/
noncomputable abbrev lm : ℝ := 1 / Real.log 2

/-- The arguments are the real data's. -/
structure Reals (A : Data) (q k v o : S16384x512.Idx → EReal) (c : S16384x8.Idx → EReal) : Prop where
  q : ∀ x l, q (ix2 x l) = (A.q x l : EReal)
  k : ∀ x l, k (ix2 x l) = (A.k x l : EReal)
  v : ∀ x l, v (ix2 x l) = (A.v x l : EReal)
  o : ∀ x l, o (ix2 x l) = (A.o x l : EReal)
  c : ∀ x l, c (ix2 x l) = (A.c x l : EReal)

variable {A : Data} {q k v o : S16384x512.Idx → EReal} {c : S16384x8.Idx → EReal}

theorem select_le (x y : Fin 16384) (a b : EReal) :
    Scalar.select (BitVec.ofBool (decide (y.val ≤ x.val))) a b = if y.val ≤ x.val then a else b := by
  by_cases h : y.val ≤ x.val <;> simp [h, Scalar.select]

theorem scoreT_at (h : Reals A q k v o c) (g : Fin 8) (x y : Fin 16384) :
    (scoreT q k c (ix3 g x y) : EReal) = if y.val ≤ x.val then (A.S g x y : EReal) else ⊥ := by
  unfold scoreT
  pointwise
  rw [WordCmp.cmpi_sle_ofNat (w := 32) (by omega) (by omega), select_le]
  simp only [id]
  pointwise
  rw [word_bot, word_eighth, h.c, h.c]
  simp only [h.q, h.k, ← EReal.coe_mul, coe_sum, ← EReal.coe_add, ← EReal.coe_sub]
  congr 2
  unfold Data.S
  rw [Finset.sum_mul]
  congr 2
  exact Finset.sum_congr rfl fun d _ => by ring

theorem maxT_at {s : FVec Ideal S8x16384x16384 .f32} (g : Fin 8) (x : Fin 16384)
    (hs : ∀ y, (s (ix3 g x y) : EReal) = if y.val ≤ x.val then (A.S g x y : EReal) else ⊥) :
    (maxT s (ix2 g x) : EReal) = (A.M g x : EReal) := by
  unfold maxT
  pointwise
  rw [word_bot]
  simp only [hs]
  exact fold_max x

theorem expT_at {s : FVec Ideal S8x16384x16384 .f32} {mx : FVec Ideal S8x16384 .f32} (g : Fin 8) (x y : Fin 16384)
    (hs : (s (ix3 g x y) : EReal) = if y.val ≤ x.val then (A.S g x y : EReal) else ⊥) (hm : (mx (ix2 g x) : EReal) = (A.M g x : EReal)) :
    (expT s mx (ix3 g x y) : EReal) = (A.E g x y : EReal) := by
  unfold expT
  pointwise
  rw [hs, hm]
  unfold Data.E
  split
  · rw [← EReal.coe_sub, Ideal.exp_coe]
  · rw [EReal.bot_sub]; rfl

theorem sumT_at {e : FVec Ideal S8x16384x16384 .f32} (g : Fin 8) (x : Fin 16384)
    (he : ∀ y, (e (ix3 g x y) : EReal) = (A.E g x y : EReal)) : (sumT e (ix2 g x) : EReal) = (A.Z g x : EReal) := by
  unfold sumT
  pointwise
  simp only [he, coe_sum]
  rfl

/-- One over the logarithm of two, as the host computes it. -/
theorem lam_eq : Ideal.div 1 (Ideal.log (Ideal.ofBits .f32 0x40000000#32)) = (lm : EReal) := by
  rw [word_two, coe_log (by norm_num), ← EReal.coe_one, coe_div _ _ (Real.log_pos (by norm_num)).ne']

theorem lseT_at {mx l : FVec Ideal S8x16384 .f32} (p : Fin 4) (h : Fin 2) (x : Fin 16384)
    (hm : (mx (ix2 (gh p h) x) : EReal) = (A.M (gh p h) x : EReal)) (hl : (l (ix2 (gh p h) x) : EReal) = (A.Z (gh p h) x : EReal)) :
    (lseT mx l (ix3 p h x) : EReal) = (((A.M (gh p h) x + Real.log (A.Z (gh p h) x)) * lm : ℝ) : EReal) := by
  unfold lseT
  pointwise [lam]
  simp only [Nat.mul_comm p.val 2]
  rw [hm, hl, lam_eq, coe_log (A.Z_pos _ _), ← EReal.coe_add, ← EReal.coe_mul]

theorem deltaT_at {e : FVec Ideal S8x16384x16384 .f32} {l : FVec Ideal S8x16384 .f32} (hr : Reals A q k v o c) (p : Fin 4) (h : Fin 2) (x : Fin 16384)
    (hl : (l (ix2 (gh p h) x) : EReal) = (A.Z (gh p h) x : EReal))
    (he : ∀ y, (e (ix3 (gh p h) x y) : EReal) = (A.E (gh p h) x y : EReal)) :
    (deltaT e l v o (ix3 p h x) : EReal) = (A.N (gh p h) x : EReal) := by
  unfold deltaT
  pointwise
  simp only [Nat.mul_comm p.val 2]
  have hin (a : Fin 512) : ∑ y, v (ix2 y a) * Ideal.div (e (ix3 (gh p h) x y)) (l (ix2 (gh p h) x))
      = ((∑ y, A.v y a * (A.E (gh p h) x y / A.Z (gh p h) x) : ℝ) : EReal) := by
    rw [← coe_sum]
    refine Finset.sum_congr rfl fun y _ => ?_
    rw [hl, he, hr.v, coe_div _ _ (A.Z_ne (gh p h) x), ← EReal.coe_mul]
  refine (Finset.sum_congr rfl fun d _ => congrArg₂ (· * ·) (hr.o x (dcol (gh p h) d)) (hin (dcol (gh p h) d))).trans ?_
  simp only [← EReal.coe_mul]
  rw [coe_sum, EReal.coe_eq_coe_iff]
  unfold Data.N Data.G Data.P
  simp only [Finset.mul_sum]
  rw [Finset.sum_comm]
  exact Finset.sum_congr rfl fun y _ => Finset.sum_congr rfl fun d _ => by ring

/-! ## The host's arrays -/

variable (m : (ℓ : Loc nD τ sig) → Buf (Elt Ideal) ℓ) (c' : Dev nD)

variable (hr : Reals A (argQ m c') (argK m c') (argV m c') (argO m c') (argC m c'))
include hr

theorem max_at (g : Fin 8) (x : Fin 16384) : (maxT (scores m c') (ix2 g x) : EReal) = (A.M g x : EReal) :=
  maxT_at g x fun y => scoreT_at hr g x y

theorem exps_at (g : Fin 8) (x y : Fin 16384) : (exps m c' (ix3 g x y) : EReal) = (A.E g x y : EReal) :=
  expT_at g x y (scoreT_at hr g x y) (max_at m c' hr g x)

theorem sums_at (g : Fin 8) (x : Fin 16384) : (sumT (exps m c') (ix2 g x) : EReal) = (A.Z g x : EReal) :=
  sumT_at g x fun y => exps_at m c' hr g x y

/-- The log-sums the region takes. -/
theorem lse_at (p : Fin 4) (h : Fin 2) (x : Fin 16384) :
    (Gen.V m c' main_v132 (ix3 p h x) : EReal) = (((A.M (gh p h) x + Real.log (A.Z (gh p h) x)) * lm : ℝ) : EReal) :=
  (congrFun (V_lse m c') _).trans (lseT_at p h x (max_at m c' hr _ x) (sums_at m c' hr _ x))

/-- The products of output and gradient the region takes. -/
theorem delta_at (p : Fin 4) (h : Fin 2) (x : Fin 16384) :
    (Gen.V m c' main_v133 (ix3 p h x) : EReal) = (A.N (gh p h) x : EReal) :=
  (congrFun (V_delta m c') _).trans (deltaT_at hr p h x (sums_at m c' hr _ x) (exps_at m c' hr _ x))

/-- The output's gradient the region takes. -/
theorem do_at (x : Fin 16384) (l : Fin 512) : (Gen.V m c' main_v134 (ix2 x l) : EReal) = (A.o x l : EReal) :=
  (congrFun (V_do m c') _).trans (hr.o x l)

end Cert.KernelIdeal.Body
-- ==== Proof.Val.Finite.lean ====
/-
The precondition read: every entry of every argument is a real number.
-/
module

public import proofs.«01_k».proof.Defs
public import proofs.«01_k».proof.Proof.Val.Scores
public import Idealize.ShloMosaic.Lib.ReduceAll
public import Idealize.ShloMosaic.Lib.Affine

@[expose] public section

namespace Cert.Pre_finite

open Idealize.ShloMosaic Cert.Attention
open Cert.KernelIdeal.Body (Reals word_bot)

theorem word_top : Ideal.ofBits .f32 0x7F800000#32 = (⊤ : EReal) := by
  rw [show Ideal.ofBits .f32 0x7F800000#32 = Ideal.ieee 8 23 0x7F800000#32 from rfl]
  unfold Ideal.ieee
  simp

/-- The test of one array, as it prints. -/
noncomputable def test {n : Fin 2 → Nat} (hb : S_.BroadcastsInDim ⟨2, n⟩ (![] : Fin 0 → Fin 2)) (hr : Shape.ReducesTo ⟨2, n⟩ [0, 1] S_) (hu : 0 < S_.numel)
    (x : FVec Ideal ⟨2, n⟩ .f32) : IVec S_ 1 :=
  Host.reduce IntOp.andi (andi (cmpf .olt x (broadcastInDim ⟨2, n⟩ ![] hb (constant (F := Ideal) S_ .f32 0x7F800000#32)))
    (cmpf .ogt x (broadcastInDim ⟨2, n⟩ ![] hb (constant (F := Ideal) S_ .f32 0xFF800000#32)))) (constantI S_ 1 1#1) hr hu

/-- An entry between the two infinities is real. -/
theorem real_of_cmp {x : EReal} (h1 : Ideal.cmp .olt x ⊤ = 1#1) (h2 : Ideal.cmp .ogt x ⊥ = 1#1) : ∃ r : ℝ, x = (r : EReal) := by
  have a : x < ⊤ := by
    by_contra h
    simp [Ideal.cmp, h] at h1
  have b : ⊥ < x := by
    by_contra h
    simp [Ideal.cmp, h] at h2
  exact ⟨x.toReal, (EReal.coe_toReal a.ne b.ne').symm⟩

/-- Where the test of an array is one, every entry is real. -/
theorem real_of_test {n : Fin 2 → Nat} {hb : S_.BroadcastsInDim ⟨2, n⟩ (![] : Fin 0 → Fin 2)} {hr : Shape.ReducesTo ⟨2, n⟩ [0, 1] S_} {hu : 0 < S_.numel}
    {x : FVec Ideal ⟨2, n⟩ .f32} {j : S_.Idx} (h : test hb hr hu x j = 1#1) (i : Shape.Idx ⟨2, n⟩) : ∃ r : ℝ, (x i : EReal) = (r : EReal) := by
  have e := IntOp.andi_eq_one.1 (Host.reduce_andi_all _ _ hr hu j h i)
  refine real_of_cmp (e.1 ▸ ?_) (e.2 ▸ ?_)
  · rw [← word_top]; rfl
  · rw [← word_bot]; rfl

/-- Where all five tests are one together, each is. -/
theorem split {a b c d e : IVec S_ 1} (j : S_.Idx)
    (h : andi (andi (andi (andi (andi (constantI S_ 1 1#1) a) b) c) d) e j = 1#1) :
    a j = 1#1 ∧ b j = 1#1 ∧ c j = 1#1 ∧ d j = 1#1 ∧ e j = 1#1 := by
  obtain ⟨h, he⟩ := IntOp.andi_eq_one.1 h
  obtain ⟨h, hd⟩ := IntOp.andi_eq_one.1 h
  obtain ⟨h, hc⟩ := IntOp.andi_eq_one.1 h
  obtain ⟨h, hb⟩ := IntOp.andi_eq_one.1 h
  exact ⟨(IntOp.andi_eq_one.1 h).2, hb, hc, hd, he⟩

/-- Arguments that meet the precondition hold real data. -/
theorem reals [hF : Facts] {q k v o : FVec Ideal S16384x512 .f32} {c : FVec Ideal S16384x8 .f32}
    (h : fn (F := Ideal) q k v c o = fun _ => 1#1) : ∃ A : Data, Reals A q k v o c := by
  have h0 : fn (F := Ideal) q k v c o ValueIdx.ix0 = 1#1 := congrFun h _
  obtain ⟨hq, hk, hv, hc, ho⟩ := split
    (a := test hF.bcast_S_S16384x512 hF.reducesTo_S16384x512_S_d0_1 hF.h_S_ q)
    (b := test hF.bcast_S_S16384x512 hF.reducesTo_S16384x512_S_d0_1 hF.h_S_ k)
    (c := test hF.bcast_S_S16384x512 hF.reducesTo_S16384x512_S_d0_1 hF.h_S_ v)
    (d := test hF.bcast_S_S16384x8 hF.reducesTo_S16384x8_S_d0_1 hF.h_S_ c)
    (e := test hF.bcast_S_S16384x512 hF.reducesTo_S16384x512_S_d0_1 hF.h_S_ o) ValueIdx.ix0 h0
  have R {s : Shape} {x : FVec Ideal s .f32} (hx : ∀ i, ∃ r : ℝ, (x i : EReal) = (r : EReal)) (i : s.Idx) :
      (x i : EReal) = ((EReal.toReal (x i) : ℝ) : EReal) := by
    obtain ⟨r, hr⟩ := hx i
    rw [hr]; rfl
  exact ⟨⟨fun x l => EReal.toReal (q (ix2 x l)), fun x l => EReal.toReal (k (ix2 x l)), fun x l => EReal.toReal (v (ix2 x l)),
      fun x l => EReal.toReal (o (ix2 x l)), fun x l => EReal.toReal (c (ix2 x l))⟩,
    fun x l => R (real_of_test hq) _, fun x l => R (real_of_test hk) _, fun x l => R (real_of_test hv) _,
    fun x l => R (real_of_test ho) _, fun x l => R (real_of_test hc) _⟩

end Cert.Pre_finite
-- ==== Proof.Val.Ref.lean ====
/-
What the reference computes, as terms over whole arrays and at an index for real arguments: the gradients of the real
attention.
-/
module

public import proofs.«01_k».proof.Proof.Gen.ReferenceIdeal.Run
public import proofs.«01_k».proof.Proof.Val.Scores

@[expose] public section

set_option maxRecDepth 8192

namespace Cert.ReferenceIdeal.Grad

open Idealize.ShloMosaic Cert.ReferenceIdeal Cert.ReferenceIdeal.Facts₀ Cert.Attention
open Cert.KernelIdeal.Body (maxT expT sumT Reals gh word_eighth word_one word_bot select_le maxT_at expT_at sumT_at)

noncomputable section

/-! ## The terms -/

/-- Which keys a query sees. -/
def maskR : IVec S8x16384x16384 1 :=
  broadcastInDim S8x16384x16384 ![0, 1, 2] bcast_S1x16384x16384_S8x16384x16384_0_1_2
    (broadcastInDim S1x16384x16384 ![1, 2] bcast_S16384x16384_S1x16384x16384_1_2
      (cmpi .sle (iotaInDim S16384x16384 32 1) (iotaInDim S16384x16384 32 0)))

/-- The queries, scaled. -/
def scaledR (q : FVec Ideal S16384x512 .f32) : FVec Ideal S16384x8x64 .f32 :=
  shapeCast _ (mulf q (broadcastInDim S16384x512 ![] bcast_S_S16384x512 (constant S_ .f32 0x3E000000#32))) shapeCasts_S16384x512_S16384x8x64

/-- Rows by head. -/
def headsR (k : FVec Ideal S16384x512 .f32) : FVec Ideal S16384x8x64 .f32 := shapeCast _ k shapeCasts_S16384x512_S16384x8x64

/-- The masked scores. -/
def scoreR (q k : FVec Ideal S16384x512 .f32) (c : FVec Ideal S16384x8 .f32) : FVec Ideal S8x16384x16384 .f32 :=
  select maskR
    (subf (addf (Host.dotGeneral dot_S16384x8x64_S16384x8x64_S8x16384x16384_2_2_0_0_1_1 none (scaledR q) (headsR k))
        (broadcastInDim S8x16384x16384 ![0, 1, 2] bcast_S8x16384x1_S8x16384x16384_0_1_2
          (broadcastInDim S8x16384x1 ![0, 1] bcast_S8x16384_S8x16384x1_0_1
            (transpose S8x16384 [1, 0] c transposes_S16384x8_S8x16384_1_0))))
      (broadcastInDim S8x16384x16384 ![0, 1, 2] bcast_S8x1x16384_S8x16384x16384_0_1_2
        (broadcastInDim S8x1x16384 ![0, 2] bcast_S8x16384_S8x1x16384_0_2
          (transpose S8x16384 [1, 0] c transposes_S16384x8_S8x16384_1_0))))
    (broadcastInDim S8x16384x16384 ![] bcast_S_S8x16384x16384 (id (constant S_ .f32 0xFF800000#32)))

/-- The row maxima. -/
def topR (s : FVec Ideal S8x16384x16384 .f32) : FVec Ideal S8x16384 .f32 :=
  maximumf (broadcastInDim S8x16384 ![] bcast_S_S8x16384 (constant S_ .f32 0xFF800000#32)) (maxT s)

/-- A number of each row along its keys. -/
def alongR (l : FVec Ideal S8x16384 .f32) : FVec Ideal S8x16384x16384 .f32 :=
  broadcastInDim S8x16384x16384 ![0, 1, 2] bcast_S8x16384x1_S8x16384x16384_0_1_2
    (broadcastInDim S8x16384x1 ![0, 1] bcast_S8x16384_S8x16384x1_0_1 l)

/-- The output's gradient, by head and coordinate. -/
def turnedR (o : FVec Ideal S16384x512 .f32) : FVec Ideal S8x64x16384 .f32 :=
  transpose S8x64x16384 [1, 2, 0] (headsR o) transposes_S16384x8x64_S8x64x16384_1_2_0

/-- The probabilities' gradients. -/
def dpR (o v : FVec Ideal S16384x512 .f32) : FVec Ideal S8x16384x16384 .f32 :=
  Host.dotGeneral dot_S8x64x16384_S16384x8x64_S8x16384x16384_1_2_2_0_0_1 none (turnedR o) (headsR v)

/-- The row sums' gradients. -/
def negR (dp e : FVec Ideal S8x16384x16384 .f32) (l : FVec Ideal S8x16384 .f32) : FVec Ideal S8x16384 .f32 :=
  Host.reduceAdd (Host.negf (shapeCast S8x16384x1 (Host.reduceAdd (mulf (mulf dp
      (broadcastInDim S8x16384x16384 ![0, 1, 2] bcast_S8x16384x1_S8x16384x16384_0_1_2
        (Host.divf (broadcastInDim S8x16384x1 ![] bcast_S_S8x16384x1 (constant S_ .f32 0x3F800000#32))
          (mulf (broadcastInDim S8x16384x1 ![0, 1] bcast_S8x16384_S8x16384x1_0_1 l)
            (broadcastInDim S8x16384x1 ![0, 1] bcast_S8x16384_S8x16384x1_0_1 l))))) e)
      (constant S_ .f32 0x00000000#32) reducesTo_S8x16384x16384_S8x16384_d2 h_S_) shapeCasts_S8x16384_S8x16384x1))
    (constant S_ .f32 0x00000000#32) reducesTo_S8x16384x1_S8x16384_d2 h_S_

/-- The scores' gradients. -/
def dsR (dp e : FVec Ideal S8x16384x16384 .f32) (l n : FVec Ideal S8x16384 .f32) : FVec Ideal S8x16384x16384 .f32 :=
  select maskR (mulf (addf (Host.divf dp (alongR l)) (broadcastInDim S8x16384x16384 ![0, 1] bcast_S8x16384_S8x16384x16384_0_1 n)) e)
    (broadcastInDim S8x16384x16384 ![] bcast_S_S8x16384x16384 (constant S_ .f32 0x00000000#32))

/-- The gradient of the scaled queries. -/
def dqR (ds : FVec Ideal S8x16384x16384 .f32) (k : FVec Ideal S16384x512 .f32) : FVec Ideal S4x128x16384 .f32 :=
  transpose S4x128x16384 [1, 2, 0] (shapeCast _ (transpose S16384x8x64 [1, 0, 2]
    (Host.dotGeneral dot_S8x16384x16384_S16384x8x64_S8x16384x64_2_0_1_2_0_1 none ds (headsR k))
    transposes_S8x16384x64_S16384x8x64_1_0_2) shapeCasts_S16384x8x64_S16384x4x128) transposes_S16384x4x128_S4x128x16384_1_2_0

/-- The gradient of the keys. -/
def dkR (ds : FVec Ideal S8x16384x16384 .f32) (q : FVec Ideal S16384x512 .f32) : FVec Ideal S16384x512 .bf16 :=
  truncf .bf16 (shapeCast _ (transpose S16384x8x64 [1, 0, 2]
    (Host.dotGeneral dot_S8x16384x16384_S16384x8x64_S8x16384x64_1_0_2_2_0_1 none ds (scaledR q))
    transposes_S8x16384x64_S16384x8x64_1_0_2) shapeCasts_S16384x8x64_S16384x512) bitsLt_bf16_f32

/-- The gradient of the values. -/
def dvR (e : FVec Ideal S8x16384x16384 .f32) (l : FVec Ideal S8x16384 .f32) (o : FVec Ideal S16384x512 .f32) : FVec Ideal S16384x512 .bf16 :=
  truncf .bf16 (shapeCast _ (transpose S16384x8x64 [2, 0, 1]
    (Host.dotGeneral dot_S8x64x16384_S8x16384x16384_S8x64x16384_2_1_1_2_0_0 none (turnedR o) (Host.divf e (alongR l)))
    transposes_S8x64x16384_S16384x8x64_2_0_1) shapeCasts_S16384x8x64_S16384x512) bitsLt_bf16_f32

/-- The key bias's gradient. -/
def dckR (ds : FVec Ideal S8x16384x16384 .f32) : FVec Ideal S4x2x16384 .f32 :=
  shapeCast _ (Host.reduceAdd (shapeCast S8x1x16384 (Host.reduceAdd (Host.negf ds) (constant S_ .f32 0x00000000#32)
    reducesTo_S8x16384x16384_S8x16384_d1 h_S_) shapeCasts_S8x16384_S8x1x16384) (constant S_ .f32 0x00000000#32)
    reducesTo_S8x1x16384_S8x16384_d1 h_S_) shapeCasts_S8x16384_S4x2x16384

/-- The query bias's gradient. -/
def dcqR (ds : FVec Ideal S8x16384x16384 .f32) : FVec Ideal S4x2x16384 .f32 :=
  shapeCast _ (Host.reduceAdd (shapeCast S8x16384x1 (Host.reduceAdd ds (constant S_ .f32 0x00000000#32)
    reducesTo_S8x16384x16384_S8x16384_d2 h_S_) shapeCasts_S8x16384_S8x16384x1) (constant S_ .f32 0x00000000#32)
    reducesTo_S8x16384x1_S8x16384_d2 h_S_) shapeCasts_S8x16384_S4x2x16384

variable (m : (ℓ : Loc nD τ sig) → Buf (Elt Ideal) ℓ) (c : Dev nD)

/-- An argument of the reference, on one device. -/
def argQ : FVec Ideal S16384x512 .f32 := m (c.tc.loc main_arg0)
def argK : FVec Ideal S16384x512 .f32 := m (c.tc.loc main_arg1)
def argV : FVec Ideal S16384x512 .f32 := m (c.tc.loc main_arg2)
def argC : FVec Ideal S16384x8 .f32 := m (c.tc.loc main_arg3)
def argO : FVec Ideal S16384x512 .f32 := m (c.tc.loc main_arg4)

/-- The scores of the arguments. -/
def sc : FVec Ideal S8x16384x16384 .f32 := scoreR (argQ m c) (argK m c) (argC m c)
/-- Their exponentials less the row maxima. -/
def ex : FVec Ideal S8x16384x16384 .f32 := expT (sc m c) (topR (sc m c))
/-- The row sums. -/
def sm : FVec Ideal S8x16384 .f32 := sumT (ex m c)
/-- The probabilities' gradients. -/
def dp : FVec Ideal S8x16384x16384 .f32 := dpR (argO m c) (argV m c)
/-- The scores' gradients. -/
def ds : FVec Ideal S8x16384x16384 .f32 := dsR (dp m c) (ex m c) (sm m c) (negR (dp m c) (ex m c) (sm m c))

theorem v79_eq : Value.res_main_v79 m c = dqR (ds m c) (argK m c) := rfl
theorem v81_eq : Value.res_main_v81 m c = dkR (ds m c) (argQ m c) := rfl
theorem v83_eq : Value.res_main_v83 m c = dvR (ex m c) (sm m c) (argO m c) := rfl
theorem v84_eq : Value.res_main_v84 m c = dckR (ds m c) := rfl
theorem v85_eq : Value.res_main_v85 m c = dcqR (ds m c) := rfl

end

end Cert.ReferenceIdeal.Grad
-- ==== Proof.Val.RefAt.lean ====
/-
The reference's arrays at an index, for real arguments: the gradients of the real attention.
-/
module

public import proofs.«01_k».proof.Proof.Val.Ref
public import proofs.«01_k».proof.Proof.Val.Whole

@[expose] public section

set_option maxRecDepth 8192

namespace Cert.ReferenceIdeal.Grad

open Idealize.ShloMosaic Cert.ReferenceIdeal Cert.ReferenceIdeal.Facts₀ Cert.Attention
open Cert.KernelIdeal.Body (maxT expT sumT Reals gh col word_eighth word_one word_bot select_le maxT_at expT_at sumT_at)

variable {A : Data} {q k v o : FVec Ideal S16384x512 .f32} {c : FVec Ideal S16384x8 .f32}

theorem scoreR_at (h : Reals A q k v o c) (g : Fin 8) (x y : Fin 16384) :
    (scoreR q k c (ix3 g x y) : EReal) = if y.val ≤ x.val then (A.S g x y : EReal) else ⊥ := by
  pointwise [scoreR, maskR, scaledR, headsR]
  rw [WordCmp.cmpi_sle_ofNat (w := 32) (by omega) (by omega), select_le]
  simp only [id]
  pointwise
  rw [word_bot, word_eighth, h.c, h.c]
  simp only [h.q, h.k, ← EReal.coe_mul, coe_sum, ← EReal.coe_add, ← EReal.coe_sub]
  rfl

theorem floor_at (t : FVec Ideal S8x16384 .f32) (g : Fin 8) (x : Fin 16384) {r : ℝ} (h : (t (ix2 g x) : EReal) = (r : EReal)) :
    (maximumf (broadcastInDim S8x16384 ![] bcast_S_S8x16384 (constant S_ .f32 0xFF800000#32)) t (ix2 g x) : EReal) = (r : EReal) := by
  pointwise
  rw [h, word_bot]
  exact max_eq_right bot_le

theorem topR_at {s : FVec Ideal S8x16384x16384 .f32} (g : Fin 8) (x : Fin 16384) {r : ℝ} (h : (maxT s (ix2 g x) : EReal) = (r : EReal)) :
    (topR s (ix2 g x) : EReal) = (r : EReal) := floor_at (maxT s) g x h

theorem dpR_at (h : Reals A q k v o c) (g : Fin 8) (x y : Fin 16384) : (dpR o v (ix3 g x y) : EReal) = (A.G g x y : EReal) := by
  pointwise [dpR, turnedR, headsR]
  simp only [h.o, h.v, ← EReal.coe_mul, coe_sum]
  rfl

theorem alongR_at (l : FVec Ideal S8x16384 .f32) (g : Fin 8) (x y : Fin 16384) : (alongR l (ix3 g x y) : EReal) = l (ix2 g x) := by
  pointwise [alongR]

theorem negR_at {dp e : FVec Ideal S8x16384x16384 .f32} {l : FVec Ideal S8x16384 .f32} (g : Fin 8) (x : Fin 16384)
    (hd : ∀ y, (dp (ix3 g x y) : EReal) = (A.G g x y : EReal)) (he : ∀ y, (e (ix3 g x y) : EReal) = (A.E g x y : EReal))
    (hl : (l (ix2 g x) : EReal) = (A.Z g x : EReal)) :
    (negR dp e l (ix2 g x) : EReal) = ((- ∑ y, A.G g x y * (1 / (A.Z g x * A.Z g x)) * A.E g x y : ℝ) : EReal) := by
  pointwise [negR]
  rw [Fin.sum_univ_one, hl, ← EReal.coe_mul, ← EReal.coe_one, coe_div _ _ (mul_ne_zero (A.Z_ne g x) (A.Z_ne g x))]
  simp only [hd, he, ← EReal.coe_mul]
  rw [coe_sum, ← EReal.coe_neg]

theorem dsR_at {dp e : FVec Ideal S8x16384x16384 .f32} {l n : FVec Ideal S8x16384 .f32} (g : Fin 8) (x y : Fin 16384)
    (hd : (dp (ix3 g x y) : EReal) = (A.G g x y : EReal)) (he : (e (ix3 g x y) : EReal) = (A.E g x y : EReal))
    (hl : (l (ix2 g x) : EReal) = (A.Z g x : EReal))
    (hn : (n (ix2 g x) : EReal) = ((- ∑ y, A.G g x y * (1 / (A.Z g x * A.Z g x)) * A.E g x y : ℝ) : EReal)) :
    (dsR dp e l n (ix3 g x y) : EReal) = (A.dS g x y : EReal) := by
  pointwise [dsR, maskR, alongR]
  rw [WordCmp.cmpi_sle_ofNat (w := 32) (by omega) (by omega), select_le, hd, he, hl, hn, coe_div _ _ (A.Z_ne g x), ← EReal.coe_add,
    ← EReal.coe_mul, ← sub_eq_add_neg, A.dS_split]
  split
  · rfl
  · next h =>
    unfold Data.dS Data.P Data.E
    rw [if_neg h, zero_div, zero_mul, EReal.coe_zero]

section results

variable {ds : FVec Ideal S8x16384x16384 .f32} (hd : ∀ g x y, (ds (ix3 g x y) : EReal) = (A.dS g x y : EReal))
include hd

theorem dqR_at (h : Reals A q k v o c) (p : Fin 4) (l : Fin 128) (x : Fin 16384) :
    (dqR ds k (ix3 p l x) : EReal) = ((∑ y, A.dS (gh p (Cert.KernelIdeal.Body.hd l)) x y * A.k y (col p l) : ℝ) : EReal) := by
  pointwise [dqR, headsR]
  rw [← coe_sum]
  refine Finset.sum_congr rfl fun y _ => ?_
  rw [EReal.coe_mul]
  refine congrArg₂ (· * ·) ((hd _ x y).trans ?_) ((h.k y _).trans ?_)
  · exact congrArg (fun g => (A.dS g x y : EReal)) (Fin.ext (by show p.val * 2 + l.val / 64 = 2 * p.val + l.val / 64; omega))
  · exact congrArg (fun g => (A.k y g : EReal)) (Fin.ext (by show (p.val * 2 + l.val / 64) * 64 + l.val % 64 = 128 * p.val + l.val; omega))

/-- The head of a column. -/
abbrev cg (l : Fin 512) : Fin 8 := ⟨l.val / 64, by omega⟩

theorem dkR_at (h : Reals A q k v o c) (y : Fin 16384) (l : Fin 512) :
    (dkR ds q (ix2 y l) : EReal) = ((∑ x, A.dS (cg l) x y * (A.q x l * (1/8)) : ℝ) : EReal) := by
  pointwise [dkR, scaledR]
  rw [← coe_sum, word_eighth]
  refine Finset.sum_congr rfl fun x _ => ?_
  rw [h.q, EReal.coe_mul, EReal.coe_mul]
  exact congrArg (· * _) (hd (cg l) x y)

theorem dckR_at (p : Fin 4) (h : Fin 2) (y : Fin 16384) :
    (dckR ds (ix3 p h y) : EReal) = ((- ∑ x, A.dS (gh p h) x y : ℝ) : EReal) := by
  pointwise [dckR]
  rw [Fin.sum_univ_one, ← Finset.sum_neg_distrib, ← coe_sum]
  refine Finset.sum_congr rfl fun x _ => ?_
  rw [EReal.coe_neg]
  refine congrArg (- ·) ((hd _ x y).trans ?_)
  exact congrArg (fun g => (A.dS g x y : EReal)) (Fin.ext (by show p.val * 2 + h.val = 2 * p.val + h.val; omega))

theorem dcqR_at (p : Fin 4) (h : Fin 2) (x : Fin 16384) :
    (dcqR ds (ix3 p h x) : EReal) = ((∑ y, A.dS (gh p h) x y : ℝ) : EReal) := by
  pointwise [dcqR]
  rw [Fin.sum_univ_one, ← coe_sum]
  refine Finset.sum_congr rfl fun y _ => (hd _ x y).trans ?_
  exact congrArg (fun g => (A.dS g x y : EReal)) (Fin.ext (by show p.val * 2 + h.val = 2 * p.val + h.val; omega))

end results

theorem dvR_at {e : FVec Ideal S8x16384x16384 .f32} {s : FVec Ideal S8x16384 .f32} (h : Reals A q k v o c)
    (he : ∀ g x y, (e (ix3 g x y) : EReal) = (A.E g x y : EReal)) (hs : ∀ g x, (s (ix2 g x) : EReal) = (A.Z g x : EReal))
    (y : Fin 16384) (l : Fin 512) : (dvR e s o (ix2 y l) : EReal) = ((∑ x, A.P (cg l) x y * A.o x l : ℝ) : EReal) := by
  pointwise [dvR, turnedR, headsR, alongR]
  rw [← coe_sum]
  refine Finset.sum_congr rfl fun x _ => ?_
  have hp : Ideal.div (e (ix3 (cg l) x y)) (s (ix2 (cg l) x)) = (A.P (cg l) x y : EReal) := by
    rw [he, hs, coe_div _ _ (A.Z_ne _ _)]; rfl
  rw [h.o, EReal.coe_mul, mul_comm]
  exact congrArg (· * _) hp

/-! ## The arguments' -/

variable (m : (ℓ : Loc nD τ sig) → Buf (Elt Ideal) ℓ) (c' : Dev nD)
variable (hr : Reals A (argQ m c') (argK m c') (argV m c') (argO m c') (argC m c'))
include hr

theorem ex_at (g : Fin 8) (x y : Fin 16384) : (ex m c' (ix3 g x y) : EReal) = (A.E g x y : EReal) :=
  expT_at g x y (scoreR_at hr g x y) (topR_at g x (maxT_at g x fun y => scoreR_at hr g x y))

theorem sm_at (g : Fin 8) (x : Fin 16384) : (sm m c' (ix2 g x) : EReal) = (A.Z g x : EReal) :=
  sumT_at g x fun y => ex_at m c' hr g x y

theorem ds_at (g : Fin 8) (x y : Fin 16384) : (ds m c' (ix3 g x y) : EReal) = (A.dS g x y : EReal) :=
  dsR_at g x y (dpR_at hr g x y) (ex_at m c' hr g x y) (sm_at m c' hr g x)
    (negR_at g x (fun y => dpR_at hr g x y) (fun y => ex_at m c' hr g x y) (sm_at m c' hr g x))

end Cert.ReferenceIdeal.Grad
-- ==== Proof.Val.Blocks.lean ====
/-
The blocks of a point as parts of the arrays the region takes.
-/
module

public import proofs.«01_k».proof.Proof.Val.Global
public import proofs.«01_k».proof.Proof.Launch
public import Idealize.ShloMosaic.Lib.Pipeline.ValueKit.Geometry
public import Idealize.ShloMosaic.Lib.Pipeline.ValueKit.Point

@[expose] public section

namespace Cert.KernelIdeal.Body

open Idealize.ShloMosaic Idealize.ShloMosaic.TcCoe

variable (m : (ℓ : Loc nD τ sig) → Buf (Elt Ideal) ℓ) (c : Dev nD)

/-- The arrays the region takes. -/
noncomputable def arr : Arr where
  Q g x l := Gen.V m c main_v77 (ix3 g x l)
  K g x l := Gen.V m c main_v85 (ix3 g x l)
  V g x l := Gen.V m c main_v93 (ix3 g x l)
  O x l := Gen.V m c main_v134 (ix2 x l)
  L p h x := Gen.V m c main_v132 (ix3 p h x)
  D p h x := Gen.V m c main_v133 (ix3 p h x)

theorem idx_in : ∀ t : Fin cfg0.N, win0_0.index t = ![0, t.val / 32] ∧ win0_1.index t = ![t.val / 32, t.val % 32, 0]
    ∧ win0_2.index t = ![t.val / 32, t.val % 32, 0] ∧ win0_3.index t = ![t.val / 32, 0, 0] ∧ win0_4.index t = ![t.val / 32, 0, 0] :=
  (by decide +kernel : ∀ t : Fin grid0.N, _)

theorem idx_out : ∀ t : Fin cfg0.N, win0_5.index t = ![t.val / 32, 0, 0] ∧ win0_6.index t = ![t.val % 32, t.val / 32]
    ∧ win0_7.index t = ![t.val % 32, t.val / 32] ∧ win0_8.index t = ![t.val / 32, 0, 0] ∧ win0_9.index t = ![t.val / 32, 0, 0] :=
  (by decide +kernel : ∀ t : Fin grid0.N, _)

/-- The pair of heads of point `t`. -/
abbrev pr (t : Fin cfg0.N) : Fin 4 := ⟨t.val / 32, by have : t.val < 128 := t.isLt; omega⟩

variable (t : Fin cfg0.N)

section read

variable {t}

theorem read0 (X : S16384x512.Idx → EReal) (x : Fin 16384) (l : Fin 128) :
    ((cfg0.win 0).blk t).view.read (Elt Ideal) X (ix2 x l) = X (ix2 x (col (pr t) l)) := by
  blk_ext [idx_in t]

theorem read1 (X : S8x16384x128.Idx → EReal) (h : Fin 2) (j : Fin 512) (l : Fin 128) :
    ((cfg0.win 1).blk t).view.read (Elt Ideal) X (ix3 h j l) = X (ix3 (gh (pr t) h) (qpos (kb t) j) l) := by
  blk_ext [idx_in t]

theorem read2 (X : S8x16384x128.Idx → EReal) (h : Fin 2) (j : Fin 512) (l : Fin 128) :
    ((cfg0.win 2).blk t).view.read (Elt Ideal) X (ix3 h j l) = X (ix3 (gh (pr t) h) (qpos (kb t) j) l) := by
  blk_ext [idx_in t]

theorem read3 (X : S4x2x16384.Idx → EReal) (a : Fin 1) (h : Fin 2) (x : Fin 16384) :
    ((cfg0.win 3).blk t).view.read (Elt Ideal) X (ix3 a h x) = X (ix3 (pr t) h x) := by
  blk_ext [idx_in t]

theorem read4 (X : S4x2x16384.Idx → EReal) (a : Fin 1) (h : Fin 2) (x : Fin 16384) :
    ((cfg0.win 4).blk t).view.read (Elt Ideal) X (ix3 a h x) = X (ix3 (pr t) h x) := by
  blk_ext [idx_in t]

end read

theorem iblk0 (x : Fin 16384) (l : Fin 128) : Gen.iblk m c 0 t (ix2 x l) = (arr m c).O x (col (pr t) l) :=
  read0 (Gen.V m c main_v134) x l

theorem iblk1 (h : Fin 2) (j : Fin 512) (l : Fin 128) : Gen.iblk m c 1 t (ix3 h j l) = (arr m c).K (gh (pr t) h) (qpos (kb t) j) l :=
  read1 (Gen.V m c main_v85) h j l

theorem iblk2 (h : Fin 2) (j : Fin 512) (l : Fin 128) : Gen.iblk m c 2 t (ix3 h j l) = (arr m c).V (gh (pr t) h) (qpos (kb t) j) l :=
  read2 (Gen.V m c main_v93) h j l

theorem iblk3 (h : Fin 2) (x : Fin 16384) : Gen.iblk m c 3 t (ix3 0 h x) = (arr m c).L (pr t) h x :=
  read3 (Gen.V m c main_v132) 0 h x

theorem iblk4 (h : Fin 2) (x : Fin 16384) : Gen.iblk m c 4 t (ix3 0 h x) = (arr m c).D (pr t) h x :=
  read4 (Gen.V m c main_v133) 0 h x

theorem qAt_at (h : Fin 2) (x : Fin 16384) (l : Fin 128) : qAt m c t (ix3 h x l) = (arr m c).Q (gh (pr t) h) x l := by
  unfold qAt part arr
  congr 1
  refine emb_unit_eq _ fun b => ?_
  fin_cases b <;> simp

end Cert.KernelIdeal.Body
-- ==== Proof.Val.Lanes.lean ====
/-
The queries, keys and values the region takes, with the bias in the lanes the head leaves free: their values for real
arguments, and the product of a query's lanes with a key's, which is the score in units of log 2.
-/
module

public import proofs.«01_k».proof.Proof.Val.Scores
public import proofs.«01_k».proof.Proof.Val.Blocks

@[expose] public section

set_option maxRecDepth 8192

namespace Cert.KernelIdeal.Body

open Idealize.ShloMosaic Cert.KernelIdeal Cert.KernelIdeal.Facts₀ Cert.Attention

/-- The first lane of the half that head `g` leaves free. -/
abbrev bs (g : Fin 8) : ℕ := (1 - g.val % 2) * 64
/-- The column of a lane of head `g`. -/
abbrev gcol (g : Fin 8) (l : Fin 128) : Fin 512 := ⟨g.val / 2 * 128 + l.val, by omega⟩
/-- The first free lane, as the host's words compute it. -/
abbrev bw (g : Fin 8) : BitVec 32 := IntOp.muli (IntOp.subi (1#32) (IntOp.andi (BitVec.ofNat 32 g.val) 1#32)) 64#32

theorem word_in : ∀ (g : Fin 8) (l : Fin 128), IntOp.andi
    (IntOp.cmpi .sge (BitVec.ofNat 32 l.val) (IntOp.muli (IntOp.andi (BitVec.ofNat 32 g.val) 1#32) 64#32))
    (IntOp.cmpi .slt (BitVec.ofNat 32 l.val) (IntOp.muli (IntOp.addi (IntOp.andi (BitVec.ofNat 32 g.val) 1#32) 1#32) 64#32))
      = if l.val / 64 = g.val % 2 then 1#1 else 0#1 := by decide +kernel

theorem word_base : ∀ (g : Fin 8) (l : Fin 128), IntOp.cmpi .eq (BitVec.ofNat 32 l.val) (bw g) = if l.val = bs g then 1#1 else 0#1 := by
  decide +kernel

theorem word_three : ∀ (g : Fin 8) (l : Fin 128), IntOp.cmpi .eq (BitVec.ofNat 32 l.val) (IntOp.addi (bw g) 3#32) = if l.val = bs g + 3 then 1#1 else 0#1 := by
  decide +kernel

theorem word_low : ∀ (g : Fin 8) (l : Fin 128), IntOp.andi (IntOp.cmpi .sge (BitVec.ofNat 32 l.val) (bw g))
    (IntOp.cmpi .slt (BitVec.ofNat 32 l.val) (IntOp.addi (bw g) 3#32)) = if bs g ≤ l.val ∧ l.val < bs g + 3 then 1#1 else 0#1 := by
  decide +kernel

theorem word_high : ∀ (g : Fin 8) (l : Fin 128), IntOp.andi (IntOp.cmpi .sge (BitVec.ofNat 32 l.val) (IntOp.addi (bw g) 3#32))
    (IntOp.cmpi .slt (BitVec.ofNat 32 l.val) (IntOp.addi (bw g) 6#32)) = if bs g + 3 ≤ l.val ∧ l.val < bs g + 6 then 1#1 else 0#1 := by
  decide +kernel

theorem select_if (P : Prop) [Decidable P] (a b : EReal) : Scalar.select (if P then 1#1 else 0#1) a b = if P then a else b := by
  by_cases h : P <;> simp [h, Scalar.select]

/-- A choice between equal values. -/
theorem select_same (w : BitVec 1) (a b : EReal) (h : a = b) : Scalar.select w a b = b := by
  unfold Scalar.select; split <;> simp [h]

variable (A : Data)

/-- A query's lane. -/
noncomputable def laneQ (g : Fin 8) (x : Fin 16384) (l : Fin 128) : ℝ :=
  if l.val / 64 = g.val % 2 then A.q x (gcol g l) * (1/8 * lm)
  else (if l.val = bs g then A.c x g * lm else 0) + (if bs g + 3 ≤ l.val ∧ l.val < bs g + 6 then 1 else 0)
/-- A key's lane. -/
noncomputable def laneK (g : Fin 8) (x : Fin 16384) (l : Fin 128) : ℝ :=
  if l.val / 64 = g.val % 2 then A.k x (gcol g l)
  else (if bs g ≤ l.val ∧ l.val < bs g + 3 then 1 else 0) - (if l.val = bs g + 3 then A.c x g * lm else 0)

/-- A product of real numbers less itself. -/
theorem zero_split (a b : ℝ) : (a : EReal) * (b : EReal) - (a : EReal) * (b : EReal) = 0 := by
  rw [← EReal.coe_mul, ← EReal.coe_sub, sub_self, EReal.coe_zero]

theorem zero_sub_zero : (0 : EReal) - 0 = 0 := by
  rw [← EReal.coe_zero, ← EReal.coe_sub, sub_self]

variable {A} (m : (ℓ : Loc nD τ sig) → Buf (Elt Ideal) ℓ) (c : Dev nD)
variable (hr : Reals A (argQ m c) (argK m c) (argV m c) (argO m c) (argC m c))
include hr

theorem q_at (g : Fin 8) (x : Fin 16384) (l : Fin 128) : (Gen.V m c main_v77 (ix3 g x l) : EReal) = (laneQ A g x l : EReal) := by
  have hc : m (c, Proc.tc.devRef main_arg3) (ix2 x g) = (A.c x g : EReal) := hr.c x g
  have hq : m (c, Proc.tc.devRef main_arg0) (ix2 x (gcol g l)) = (A.q x (gcol g l) : EReal) := hr.q x (gcol g l)
  unfold Gen.V
  after_reads_at
  simp only [id]
  pointwise
  simp only [lam_eq, word_in, select_if, word_base, word_high, word_eighth, hq]
  simp only [hc, zero_split, zero_sub_zero]
  rw [select_same _ _ _ rfl, select_same _ _ _ rfl]
  unfold laneQ
  split
  · rw [← EReal.coe_mul, ← EReal.coe_mul]
  · split <;> split <;> first | (exfalso; omega) | simp [← EReal.coe_mul, ← EReal.coe_add]

theorem k_at (g : Fin 8) (x : Fin 16384) (l : Fin 128) : (Gen.V m c main_v85 (ix3 g x l) : EReal) = (laneK A g x l : EReal) := by
  have hc : m (c, Proc.tc.devRef main_arg3) (ix2 x g) = (A.c x g : EReal) := hr.c x g
  have hq : m (c, Proc.tc.devRef main_arg1) (ix2 x (gcol g l)) = (A.k x (gcol g l) : EReal) := hr.k x (gcol g l)
  unfold Gen.V
  after_reads_at
  simp only [id]
  pointwise
  simp only [lam_eq, word_in, select_if, word_three, word_low, hq]
  simp only [hc, zero_split, zero_sub_zero]
  rw [select_same _ _ _ rfl, select_same _ _ _ rfl]
  unfold laneK
  split
  · rfl
  · split <;> split <;> simp [← EReal.coe_mul, ← EReal.coe_sub, ← EReal.coe_one]

theorem v_at (g : Fin 8) (x : Fin 16384) (l : Fin 128) (hl : l.val / 64 = g.val % 2) :
    (Gen.V m c main_v93 (ix3 g x l) : EReal) = (A.v x (gcol g l) : EReal) := by
  have hq : m (c, Proc.tc.devRef main_arg2) (ix2 x (gcol g l)) = (A.v x (gcol g l) : EReal) := hr.v x (gcol g l)
  unfold Gen.V
  after_reads_at
  simp only [id]
  pointwise
  simp only [word_in, hl, if_true, hq]
  rfl

end Cert.KernelIdeal.Body
-- ==== Proof.Val.Chain.lean ====
/-
What each output's buffer holds after a point: the gradients of the keys and values of the point's block; the key sums of
the blocks so far; the query sums and the gradient of the queries from the keys so far.
-/
module

public import proofs.«01_k».proof.Proof.Val.Blocks

@[expose] public section

namespace Cert.KernelIdeal.Body

open Idealize.ShloMosaic Idealize.ShloMosaic.TcCoe

/-! ## What comes first -/

theorem rDqtAll_emb (l : Fin 128) (x : Fin 16384) : rDqtAll.emb (ix3 0 l x) = ix3 0 l x := by
  refine emb_unit_eq _ fun b => ?_
  fin_cases b <;> simp

theorem rRowAll_emb (h : Fin 2) (x : Fin 16384) : rRowAll.emb (ix3 0 h x) = ix3 0 h x := by
  refine emb_unit_eq _ fun b => ?_
  fin_cases b <;> simp

theorem zero_word : (Scalar.ofBits (F := Ideal) .f32 0x00000000#32 : EReal) = 0 := by
  pointwise

theorem zeroOutS_dqt (σ : St Ideal) (l : Fin 128) (x : Fin 16384) : (zeroOutS σ .dqt (ix3 0 l x) : EReal) = 0 := by
  unfold zeroOutS
  rw [St.set_ne _ _ (by decide), St.set_self, overlay_at _ _ _ (ix3 0 l x) (rDqtAll_emb l x)]
  exact zero_word

theorem zeroOutS_dcq (σ : St Ideal) (h : Fin 2) (x : Fin 16384) : (zeroOutS σ .dcq (ix3 0 h x) : EReal) = 0 := by
  unfold zeroOutS
  rw [St.set_self, overlay_at _ _ _ (ix3 0 h x) (rRowAll_emb h x)]
  exact zero_word

theorem zeroOutS_ne (σ : St Ideal) {b : B} (hq : b ≠ .dqt) (hc : b ≠ .dcq) : zeroOutS σ b = σ b := by
  unfold zeroOutS
  rw [St.set_ne _ _ hc, St.set_ne _ _ hq]

variable {m : (ℓ : Loc nD τ sig) → Buf (Elt Ideal) ℓ} {c : Dev nD}

/-- The state once what comes first is done. -/
noncomputable abbrev begun (m : (ℓ : Loc nD τ sig) → Buf (Elt Ideal) ℓ) (c : Dev nD) (t : Fin cfg0.N) (σ : St Ideal) : St Ideal :=
  firstS (grid0.coords t) (Gen.V m c main_v77) σ

section

variable {t : Fin cfg0.N} {σ : St Ideal}

theorem begun_ne {b : B} (hq : b ≠ .dqt) (hc : b ≠ .dcq) (hv : b ≠ .qv) : begun m c t σ b = σ b := by
  unfold begun firstS
  split
  · rw [zeroOutS_ne _ hq hc, St.set_ne _ _ hv]
  · rfl

theorem begun_qv (hi : Inp m c t σ) : begun m c t σ .qv = qAt m c t := by
  unfold begun firstS
  by_cases h1 : k0_cond1 (grid0.coords t) = 1#1
  · rw [dif_pos h1, zeroOutS_ne _ (by decide) (by decide), St.set_self, part_rQin]
  · rw [dif_neg h1, hi.qv fun e => h1 ((cond1_iff t).mpr e)]

theorem begun_dqt (l : Fin 128) (x : Fin 16384) : (begun m c t σ .dqt (ix3 0 l x) : EReal) = if t.val % 32 = 0 then 0 else σ .dqt (ix3 0 l x) := by
  unfold begun firstS
  by_cases h1 : k0_cond1 (grid0.coords t) = 1#1
  · rw [dif_pos h1, zeroOutS_dqt, if_pos ((cond1_iff t).mp h1)]
  · rw [dif_neg h1, if_neg fun e => h1 ((cond1_iff t).mpr e)]

theorem begun_dcq (h : Fin 2) (x : Fin 16384) : (begun m c t σ .dcq (ix3 0 h x) : EReal) = if t.val % 32 = 0 then 0 else σ .dcq (ix3 0 h x) := by
  unfold begun firstS
  by_cases h1 : k0_cond1 (grid0.coords t) = 1#1
  · rw [dif_pos h1, zeroOutS_dcq, if_pos ((cond1_iff t).mp h1)]
  · rw [dif_neg h1, if_neg fun e => h1 ((cond1_iff t).mpr e)]

/-- A point's operands are the arrays' blocks. -/
theorem op_of_inp (hi : Inp m c t σ) : Op (arr m c) (pr t) (kb t) (ready (begun m c t σ)) :=
  Op.of_ready
    (fun h j l => by rw [begun_ne (by decide) (by decide) (by decide), hi.k]; exact iblk1 m c t h j l)
    (fun h x l => by rw [begun_qv hi]; exact qAt_at m c t h x l)
    (fun h j l => by rw [begun_ne (by decide) (by decide) (by decide), hi.v]; exact iblk2 m c t h j l)
    (fun x l => by rw [begun_ne (by decide) (by decide) (by decide), hi.dout]; exact iblk0 m c t x l)
    (fun h x => by rw [begun_ne (by decide) (by decide) (by decide), hi.lse]; exact iblk3 m c t h x)
    (fun h x => by rw [begun_ne (by decide) (by decide) (by decide), hi.delta]; exact iblk4 m c t h x)

end

/-! ## The outputs by array -/

variable (A : Arr)

/-- The gradient of the values. -/
noncomputable def outV (p : Fin 4) (y : Fin 16384) (l : Fin 128) : EReal := ∑ x, PP A p (hd l) y x * A.O x (col p l)
/-- The gradient of the keys. -/
noncomputable def outK (p : Fin 4) (y : Fin 16384) (l : Fin 128) : EReal :=
  (∑ x, DD A p (hd l) y x * A.Q (gh p (hd l)) x l) * ((Real.log 2 : ℝ) : EReal)
/-- The key sums. -/
noncomputable def outCk (p : Fin 4) (h : Fin 2) (y : Fin 16384) : EReal := 0 - ∑ x, DD A p h y x * A.Q (gh p h) x (sumLane h)
/-- The query sums over the keys of block `n`. -/
noncomputable def partCq (p : Fin 4) (h : Fin 2) (x : Fin 16384) (n : Fin 32) : EReal := ∑ j : Fin 512, DD A p h (qpos n j) x
/-- The gradient of the queries from the keys of block `n`. -/
noncomputable def partQ (p : Fin 4) (l : Fin 128) (x : Fin 16384) (n : Fin 32) : EReal :=
  (∑ j : Fin 512, (if mine h0 l then A.K (gh p h0) (qpos n j) l else 0) * DD A p h0 (qpos n j) x)
    + ∑ j : Fin 512, (if mine h1 l then A.K (gh p h1) (qpos n j) l else 0) * DD A p h1 (qpos n j) x

/-- The sum over the blocks up to `k`. -/
noncomputable def upto (f : Fin 32 → EReal) (k : Nat) : EReal := ∑ n : Fin 32, if n.val ≤ k then f n else 0

theorem upto_split (f : Fin 32 → EReal) (n : Fin 32) (prev : EReal)
    (h : prev = ∑ n' : Fin 32, if n'.val < n.val then f n' else 0) : prev + f n = upto f n.val := by
  have e : f n = ∑ n' : Fin 32, if n' = n then f n' else 0 := by simp
  rw [h, e, ← Finset.sum_add_distrib]
  unfold upto
  refine Finset.sum_congr rfl fun n' _ => ?_
  rcases lt_trichotomy n'.val n.val with hl | hl | hl
  · rw [if_pos hl, if_neg (fun e => by rw [e] at hl; omega), if_pos (by omega), add_zero]
  · rw [if_neg (by omega), if_pos (Fin.ext hl), if_pos (by omega), zero_add]
  · rw [if_neg (by omega), if_neg (fun e => by rw [e] at hl; omega), if_neg (by omega), add_zero]

theorem upto_first (f : Fin 32 → EReal) (n : Fin 32) (h : n.val = 0) : (0 : EReal) + f n = upto f n.val :=
  upto_split f n 0 (by rw [Finset.sum_eq_zero fun n' _ => if_neg (by omega)])

theorem upto_next (f : Fin 32 → EReal) (n : Fin 32) (h : n.val ≠ 0) : upto f (n.val - 1) + f n = upto f n.val :=
  upto_split f n _ (Finset.sum_congr rfl fun n' _ => if_congr (by omega) rfl rfl)

theorem upto_last (f : Fin 32 → EReal) : upto f 31 = ∑ n, f n :=
  Finset.sum_congr rfl fun n _ => if_pos (by omega)

/-! ## One point -/

section

variable {t : Fin cfg0.N} {σ : St Ideal} (hi : Inp m c t σ)

include hi

theorem point_dv (j : Fin 512) (l : Fin 128) :
    (pointS (grid0.coords t) (Gen.V m c main_v77) σ .dv (ix2 j l) : EReal) = outV (arr m c) (pr t) (qpos (kb t) j) l :=
  (restS_dv t _ j l).trans ((op_of_inp hi).sumV _ _ _)

theorem point_dk (j : Fin 512) (l : Fin 128) :
    (pointS (grid0.coords t) (Gen.V m c main_v77) σ .dk (ix2 j l) : EReal) = outK (arr m c) (pr t) (qpos (kb t) j) l :=
  (restS_dk t _ j l).trans (congrArg (· * _) ((op_of_inp hi).sumK _ _ _))

theorem point_dck (h : Fin 2) (x : Fin 16384) :
    (pointS (grid0.coords t) (Gen.V m c main_v77) σ .dck (ix3 0 h x) : EReal)
      = if x.val / 512 = t.val % 32 then outCk (arr m c) (pr t) h x else σ .dck (ix3 0 h x) := by
  refine (restS_dck t _ h x).trans ?_
  rw [(op_of_inp hi).sumK]
  split
  next e =>
    unfold outCk
    rw [qpos_inBlk (b := kb t) e]
  next => exact congrFun (begun_ne (by decide) (by decide) (by decide)) _

theorem point_dcq (h : Fin 2) (x : Fin 16384) :
    (pointS (grid0.coords t) (Gen.V m c main_v77) σ .dcq (ix3 0 h x) : EReal)
      = (if t.val % 32 = 0 then 0 else (σ .dcq (ix3 0 h x) : EReal)) + partCq (arr m c) (pr t) h x (kb t) := by
  refine (restS_dcq t _ h x).trans ?_
  rw [(op_of_inp hi).sumS]
  exact congrArg (· + _) (begun_dcq h x)

theorem point_dqt (l : Fin 128) (x : Fin 16384) :
    (pointS (grid0.coords t) (Gen.V m c main_v77) σ .dqt (ix3 0 l x) : EReal)
      = (if t.val % 32 = 0 then 0 else (σ .dqt (ix3 0 l x) : EReal)) + partQ (arr m c) (pr t) l x (kb t) := by
  refine (restS_dqt t _ l x).trans ?_
  rw [(op_of_inp hi).sumQ]
  exact congrArg (· + _) (begun_dqt l x)

end

/-! ## The points of a pair -/

/-- An output found at a point that is not a pair's first was left at the point before. -/
theorem left_before (w : Fin cfg0.W) (t : Fin cfg0.N) (ht : t.val % 32 ≠ 0) (hf : (cfg0.win w).fetch t = false)
    (hl : ∀ u : Fin cfg0.N, (cfg0.win w).flush u = true → u.val % 32 = 31) {Y} (h : (rdat m c).Finds w t Y) :
    (rdat m c).Leaves w ⟨t.val - 1, by omega⟩ Y := by
  refine (((rdat m c).finds_of_pos hf (by omega) Y).mp h).resolve_left fun e => ?_
  have := hl _ e
  simp only at this
  omega

theorem fetch5 : ∀ t : Fin cfg0.N, (cfg0.win 5).fetch t = false := fun t => rfl
theorem fetch8 : ∀ t : Fin cfg0.N, (cfg0.win 8).fetch t = false := fun t => rfl
theorem fetch9 : ∀ t : Fin cfg0.N, (cfg0.win 9).fetch t = false := fun t => rfl

theorem leaves_dv {t : Fin cfg0.N} {X} (h : (rdat m c).Leaves 7 t X) (j : Fin 512) (l : Fin 128) :
    (X (ix2 j l) : EReal) = outV (arr m c) (pr t) (qpos (kb t) j) l := by
  obtain ⟨Y, -, σ, hi, -, rfl⟩ := h
  exact point_dv hi j l

theorem leaves_dk {t : Fin cfg0.N} {X} (h : (rdat m c).Leaves 6 t X) (j : Fin 512) (l : Fin 128) :
    (X (ix2 j l) : EReal) = outK (arr m c) (pr t) (qpos (kb t) j) l := by
  obtain ⟨Y, -, σ, hi, -, rfl⟩ := h
  exact point_dk hi j l

theorem leaves_dcq (k : Nat) : ∀ {t : Fin cfg0.N} {X}, t.val % 32 = k → (rdat m c).Leaves 9 t X → ∀ (h : Fin 2) (x : Fin 16384),
    (X (ix3 0 h x) : EReal) = upto (partCq (arr m c) (pr t) h x) k := by
  induction k with
  | zero =>
    intro t X ht hL h x
    obtain ⟨Y, -, σ, hi, -, rfl⟩ := hL
    refine (point_dcq hi h x).trans ?_
    rw [if_pos ht]
    exact (upto_first _ (kb t) ht).trans (by rw [show (kb t).val = 0 from ht])
  | succ k ih =>
    intro t X ht hL h x
    obtain ⟨Y, hF, σ, hi, rfl, rfl⟩ := hL
    have hb := left_before 9 t (by omega) (fetch9 t) (fun u hu => (Gen.flush0_9 u).mp hu) hF
    have e := ih (t := ⟨t.val - 1, by omega⟩) (by simp only; omega) hb h x
    refine (point_dcq hi h x).trans ?_
    rw [if_neg (by omega), e, show pr (⟨t.val - 1, by omega⟩ : Fin cfg0.N) = pr t from Fin.ext (by simp only; omega)]
    have := upto_next (partCq (arr m c) (pr t) h x) (kb t) (by simp only; omega)
    rw [show (kb t).val = k + 1 from ht] at this
    exact this

theorem leaves_dqt (k : Nat) : ∀ {t : Fin cfg0.N} {X}, t.val % 32 = k → (rdat m c).Leaves 5 t X → ∀ (l : Fin 128) (x : Fin 16384),
    (X (ix3 0 l x) : EReal) = upto (partQ (arr m c) (pr t) l x) k := by
  induction k with
  | zero =>
    intro t X ht hL l x
    obtain ⟨Y, -, σ, hi, -, rfl⟩ := hL
    refine (point_dqt hi l x).trans ?_
    rw [if_pos ht]
    exact (upto_first _ (kb t) ht).trans (by rw [show (kb t).val = 0 from ht])
  | succ k ih =>
    intro t X ht hL l x
    obtain ⟨Y, hF, σ, hi, rfl, rfl⟩ := hL
    have hb := left_before 5 t (by omega) (fetch5 t) (fun u hu => (Gen.flush0_5 u).mp hu) hF
    have e := ih (t := ⟨t.val - 1, by omega⟩) (by simp only; omega) hb l x
    refine (point_dqt hi l x).trans ?_
    rw [if_neg (by omega), e, show pr (⟨t.val - 1, by omega⟩ : Fin cfg0.N) = pr t from Fin.ext (by simp only; omega)]
    have := upto_next (partQ (arr m c) (pr t) l x) (kb t) (by simp only; omega)
    rw [show (kb t).val = k + 1 from ht] at this
    exact this

theorem leaves_dck (k : Nat) : ∀ {t : Fin cfg0.N} {X}, t.val % 32 = k → (rdat m c).Leaves 8 t X → ∀ (h : Fin 2) (x : Fin 16384),
    x.val / 512 ≤ k → (X (ix3 0 h x) : EReal) = outCk (arr m c) (pr t) h x := by
  induction k with
  | zero =>
    intro t X ht hL h x hx
    obtain ⟨Y, -, σ, hi, -, rfl⟩ := hL
    refine (point_dck hi h x).trans ?_
    rw [if_pos (by omega)]
  | succ k ih =>
    intro t X ht hL h x hx
    obtain ⟨Y, hF, σ, hi, rfl, rfl⟩ := hL
    have hb := left_before 8 t (by omega) (fetch8 t) (fun u hu => (Gen.flush0_8 u).mp hu) hF
    refine (point_dck hi h x).trans ?_
    split
    next => rfl
    next hne =>
      rw [ih (t := ⟨t.val - 1, by omega⟩) (by simp only; omega) hb h x (by omega),
        show pr (⟨t.val - 1, by omega⟩ : Fin cfg0.N) = pr t from Fin.ext (by simp only; omega)]

end Cert.KernelIdeal.Body
-- ==== Proof.Val.Arrays.lean ====
/-
What the arrays of results hold at the end of a run.
-/
module

public import proofs.«01_k».proof.Proof.Val.Chain
public import Idealize.ShloMosaic.Lib.Pipeline.ArrRel

@[expose] public section

namespace Cert.KernelIdeal.Body

open Idealize.ShloMosaic Idealize.ShloMosaic.TcCoe
open Idealize.ShloMosaic.Pipeline (RDat Cfg Window Dat)

variable (A : Arr)

/-- The gradient of the queries, transposed. -/
noncomputable def arrQ : S4x128x16384.Idx → EReal := fun i => ∑ n, partQ A (i 0) (i 1) (i 2) n
/-- The gradient of the keys. -/
noncomputable def arrK : S16384x512.Idx → EReal := fun i =>
  outK A ⟨(i 1).val / 128, by have : (i 1).val < 512 := (i 1).isLt; omega⟩ (i 0) ⟨(i 1).val % 128, by omega⟩
/-- The gradient of the values. -/
noncomputable def arrV : S16384x512.Idx → EReal := fun i =>
  outV A ⟨(i 1).val / 128, by have : (i 1).val < 512 := (i 1).isLt; omega⟩ (i 0) ⟨(i 1).val % 128, by omega⟩
/-- The key sums. -/
noncomputable def arrCk : S4x2x16384.Idx → EReal := fun i => outCk A (i 0) (i 1) (i 2)
/-- The query sums. -/
noncomputable def arrCq : S4x2x16384.Idx → EReal := fun i => ∑ n, partCq A (i 0) (i 1) (i 2) n

section place

variable {A} {t : Fin cfg0.N}

theorem place5 (y : S1x128x16384.Idx) (X : S1x128x16384.Idx → EReal)
    (h : ∀ (l : Fin 128) (x : Fin 16384), X (ix3 0 l x) = ∑ n, partQ A (pr t) l x n) :
    X y = arrQ A (((cfg0.win 5).blk t).view.emb y) := by
  obtain ⟨a, l, x, rfl⟩ : ∃ (a : Fin 1) (l : Fin 128) (x : Fin 16384), y = ix3 a l x := ⟨y 0, y 1, y 2, ValueIdx.eq_ix3 y⟩
  obtain rfl : a = 0 := Subsingleton.elim _ _
  rw [h, show ((cfg0.win 5).blk t).view.emb (ix3 0 l x) = ix3 (pr t) l x by blk_ext [idx_out t]]
  rfl

theorem place6 (y : S512x128.Idx) (X : S512x128.Idx → EReal)
    (h : ∀ (j : Fin 512) (l : Fin 128), X (ix2 j l) = outK A (pr t) (qpos (kb t) j) l) :
    X y = arrK A (((cfg0.win 6).blk t).view.emb y) := by
  obtain ⟨j, l, rfl⟩ : ∃ (j : Fin 512) (l : Fin 128), y = ix2 j l := ⟨y 0, y 1, ValueIdx.eq_ix2 y⟩
  rw [h, show ((cfg0.win 6).blk t).view.emb (ix2 j l) = ix2 (qpos (kb t) j) (col (pr t) l) by blk_ext [idx_out t]]
  unfold arrK
  exact congrArg₂ (fun p l => outK A p (qpos (kb t) j) l) (Fin.ext (by show t.val / 32 = (128 * (t.val / 32) + l.val) / 128; omega))
    (Fin.ext (by show l.val = (128 * (t.val / 32) + l.val) % 128; omega))

theorem place7 (y : S512x128.Idx) (X : S512x128.Idx → EReal)
    (h : ∀ (j : Fin 512) (l : Fin 128), X (ix2 j l) = outV A (pr t) (qpos (kb t) j) l) :
    X y = arrV A (((cfg0.win 7).blk t).view.emb y) := by
  obtain ⟨j, l, rfl⟩ : ∃ (j : Fin 512) (l : Fin 128), y = ix2 j l := ⟨y 0, y 1, ValueIdx.eq_ix2 y⟩
  rw [h, show ((cfg0.win 7).blk t).view.emb (ix2 j l) = ix2 (qpos (kb t) j) (col (pr t) l) by blk_ext [idx_out t]]
  unfold arrV
  exact congrArg₂ (fun p l => outV A p (qpos (kb t) j) l) (Fin.ext (by show t.val / 32 = (128 * (t.val / 32) + l.val) / 128; omega))
    (Fin.ext (by show l.val = (128 * (t.val / 32) + l.val) % 128; omega))

theorem place8 (y : S1x2x16384.Idx) (X : S1x2x16384.Idx → EReal)
    (h : ∀ (a : Fin 2) (x : Fin 16384), X (ix3 0 a x) = outCk A (pr t) a x) :
    X y = arrCk A (((cfg0.win 8).blk t).view.emb y) := by
  obtain ⟨b, a, x, rfl⟩ : ∃ (b : Fin 1) (a : Fin 2) (x : Fin 16384), y = ix3 b a x := ⟨y 0, y 1, y 2, ValueIdx.eq_ix3 y⟩
  obtain rfl : b = 0 := Subsingleton.elim _ _
  rw [h, show ((cfg0.win 8).blk t).view.emb (ix3 0 a x) = ix3 (pr t) a x by blk_ext [idx_out t]]
  rfl

theorem place9 (y : S1x2x16384.Idx) (X : S1x2x16384.Idx → EReal)
    (h : ∀ (a : Fin 2) (x : Fin 16384), X (ix3 0 a x) = ∑ n, partCq A (pr t) a x n) :
    X y = arrCq A (((cfg0.win 9).blk t).view.emb y) := by
  obtain ⟨b, a, x, rfl⟩ : ∃ (b : Fin 1) (a : Fin 2) (x : Fin 16384), y = ix3 b a x := ⟨y 0, y 1, y 2, ValueIdx.eq_ix3 y⟩
  obtain rfl : b = 0 := Subsingleton.elim _ _
  rw [h, show ((cfg0.win 9).blk t).view.emb (ix3 0 a x) = ix3 (pr t) a x by blk_ext [idx_out t]]
  rfl

end place

variable {m : (ℓ : Loc nD τ sig) → Buf (Elt Ideal) ℓ}

/-- After a run the arrays of results hold the gradients. -/
theorem results {r : PUnit × MemSt nD τ sig (Elt Ideal)} (h : Post m r) (c : Dev nD) :
    r.2.mem ((c.tc : Thread nD τ).loc main_v135_0) = arrQ (arr m c)
    ∧ r.2.mem ((c.tc : Thread nD τ).loc main_v135_1) = arrK (arr m c)
    ∧ r.2.mem ((c.tc : Thread nD τ).loc main_v135_2) = arrV (arr m c)
    ∧ r.2.mem ((c.tc : Thread nD τ).loc main_v135_3) = arrCk (arr m c)
    ∧ r.2.mem ((c.tc : Thread nD τ).loc main_v135_4) = arrCq (arr m c) := by
  obtain ⟨after, hL, hA⟩ := RDat.FramePost.exists_exact h.1 c
  refine ⟨(hA 5).trans ?_, (hA 6).trans ?_, (hA 7).trans ?_, (hA 8).trans ?_, (hA 9).trans ?_⟩
  · exact Dat.arrAt_eq_of_covers ((rdat m c).withAfter after) 5 (arrQ (arr m c)) (by decide +kernel) fun t hf y =>
      place5 y (after 5 t) fun l x => (leaves_dqt 31 ((Gen.flush0_5 t).mp hf) (hL 5 t hf) l x).trans (upto_last _)
  · exact Dat.arrAt_eq_of_covers ((rdat m c).withAfter after) 6 (arrK (arr m c)) (by decide +kernel) fun t hf y =>
      place6 y (after 6 t) fun j l => leaves_dk (hL 6 t hf) j l
  · exact Dat.arrAt_eq_of_covers ((rdat m c).withAfter after) 7 (arrV (arr m c)) (by decide +kernel) fun t hf y =>
      place7 y (after 7 t) fun j l => leaves_dv (hL 7 t hf) j l
  · exact Dat.arrAt_eq_of_covers ((rdat m c).withAfter after) 8 (arrCk (arr m c)) (by decide +kernel) fun t hf y =>
      place8 y (after 8 t) fun a x => leaves_dck 31 ((Gen.flush0_8 t).mp hf) (hL 8 t hf) a x (by omega)
  · exact Dat.arrAt_eq_of_covers ((rdat m c).withAfter after) 9 (arrCq (arr m c)) (by decide +kernel) fun t hf y =>
      place9 y (after 9 t) fun a x => (leaves_dcq 31 ((Gen.flush0_9 t).mp hf) (hL 9 t hf) a x).trans (upto_last _)

end Cert.KernelIdeal.Body
-- ==== Proof.Val.Result.lean ====
/-
The call's results for real arguments: the gradients of the real attention.
-/
module

public import proofs.«01_k».proof.Proof.Val.Lanes
public import proofs.«01_k».proof.Proof.Val.Arrays

@[expose] public section

set_option maxRecDepth 8192

namespace Cert.KernelIdeal.Body

open Idealize.ShloMosaic Cert.KernelIdeal Cert.Attention

/-! ## Lanes by half -/

/-- Lane `d` of half `h`. -/
abbrev half (h : Fin 2) (d : Fin 64) : Fin 128 := ⟨64 * h.val + d.val, by omega⟩

theorem sum_halves {M : Type*} [AddCommMonoid M] (f : Fin 128 → M) : ∑ l, f l = ∑ d, f (half h0 d) + ∑ d, f (half h1 d) := by
  refine (Fin.sum_univ_add (a := 64) (b := 64) f).trans (congrArg₂ (· + ·) ?_ ?_)
  · exact Finset.sum_congr rfl fun d _ => congrArg f (Fin.ext (by show d.val = 64 * 0 + d.val; omega))
  · exact Finset.sum_congr rfl fun d _ => congrArg f (Fin.ext (by show 64 + d.val = 64 * 1 + d.val; omega))

/-- The half that is not `h`. -/
abbrev other (h : Fin 2) : Fin 2 := ⟨1 - h.val, by omega⟩

theorem sum_other {M : Type*} [AddCommMonoid M] (f : Fin 128 → M) (h : Fin 2) : ∑ l, f l = ∑ d, f (half h d) + ∑ d, f (half (other h) d) := by
  rw [sum_halves]
  rcases (by omega : h.val = 0 ∨ h.val = 1) with e | e
  · rw [show h = h0 from Fin.ext e]; rfl
  · rw [show h = h1 from Fin.ext e, add_comm]; rfl

theorem mine_half (h : Fin 2) (d : Fin 64) : mine h (half h d) := by
  show (64 * h.val + d.val) / 64 = h.val; omega

theorem not_mine_other (h : Fin 2) (d : Fin 64) : ¬ mine h (half (other h) d) := by
  show ¬ (64 * (1 - h.val) + d.val) / 64 = h.val; omega

/-- A sum over a head's own lanes. -/
theorem sum_mine (f : Fin 128 → EReal) (h : Fin 2) : ∑ l, (if mine h l then f l else 0) = ∑ d, f (half h d) := by
  rw [sum_other _ h]
  rw [Finset.sum_congr rfl fun d _ => if_pos (mine_half h d), Finset.sum_congr rfl fun d _ => if_neg (not_mine_other h d)]
  rw [Finset.sum_const_zero, add_zero]

variable (A : Data) (p : Fin 4) (h : Fin 2)

theorem gcol_half (d : Fin 64) : gcol (gh p h) (half h d) = dcol (gh p h) d :=
  Fin.ext (by show (2 * p.val + h.val) / 2 * 128 + (64 * h.val + d.val) = (2 * p.val + h.val) * 64 + d.val; omega)

theorem col_half (d : Fin 64) : col p (half h d) = dcol (gh p h) d :=
  Fin.ext (by show 128 * p.val + (64 * h.val + d.val) = (2 * p.val + h.val) * 64 + d.val; omega)

theorem gh_mod : (gh p h).val % 2 = h.val := by show (2 * p.val + h.val) % 2 = h.val; omega

theorem lanes_in (x y : Fin 16384) (d : Fin 64) :
    laneK A (gh p h) y (half h d) * laneQ A (gh p h) x (half h d)
      = A.q x (dcol (gh p h) d) * (1/8) * A.k y (dcol (gh p h) d) * lm := by
  have e : (half h d).val / 64 = (gh p h).val % 2 := by rw [gh_mod]; exact mine_half h d
  unfold laneK laneQ
  rw [if_pos e, if_pos e, gcol_half]
  ring

theorem lanes_free (x y : Fin 16384) (d : Fin 64) :
    laneK A (gh p h) y (half (other h) d) * laneQ A (gh p h) x (half (other h) d)
      = (if d = 0 then A.c x (gh p h) * lm else 0) - (if d = 3 then A.c y (gh p h) * lm else 0) := by
  have e : ¬ (half (other h) d).val / 64 = (gh p h).val % 2 := by rw [gh_mod]; exact not_mine_other h d
  have hb : (half (other h) d).val = bs (gh p h) + d.val := by
    show 64 * (1 - h.val) + d.val = (1 - (2 * p.val + h.val) % 2) * 64 + d.val; omega
  unfold laneK laneQ
  rw [if_neg e, if_neg e, hb]
  by_cases h0 : d.val = 0
  · have : d = 0 := Fin.ext h0
    subst this; simp
  · by_cases h3 : d.val = 3
    · have : d = 3 := Fin.ext h3
      subst this; simp
    · have n0 : d ≠ 0 := fun e => h0 (congrArg Fin.val e)
      have n3 : d ≠ 3 := fun e => h3 (congrArg Fin.val e)
      rw [if_neg n0, if_neg n3, if_neg (by omega : ¬ bs (gh p h) + d.val = bs (gh p h)), if_neg (by omega : ¬ bs (gh p h) + d.val = bs (gh p h) + 3)]
      by_cases hk : d.val < 3
      · rw [if_neg (by omega : ¬ (bs (gh p h) + 3 ≤ bs (gh p h) + d.val ∧ bs (gh p h) + d.val < bs (gh p h) + 6))]; simp
      · rw [if_neg (by omega : ¬ (bs (gh p h) ≤ bs (gh p h) + d.val ∧ bs (gh p h) + d.val < bs (gh p h) + 3))]; simp

/-- A key's lanes times a query's are the score in units of log 2. -/
theorem lanes_score (x y : Fin 16384) : ∑ l, laneK A (gh p h) y l * laneQ A (gh p h) x l = A.S (gh p h) x y * lm := by
  rw [sum_other _ h, Finset.sum_congr rfl fun d _ => lanes_in A p h x y d, Finset.sum_congr rfl fun d _ => lanes_free A p h x y d,
    Finset.sum_sub_distrib, Finset.sum_ite_eq' Finset.univ (0 : Fin 64), Finset.sum_ite_eq' Finset.univ (3 : Fin 64), ← Finset.sum_mul]
  simp only [Finset.mem_univ, if_true]
  unfold Data.S
  ring

/-! ## The region's arrays -/

theorem log_two_pos : 0 < Real.log 2 := Real.log_pos (by norm_num)

variable {A}

/-- The region's arrays are the real data's. -/
structure Holds (A : Data) (R : Arr) : Prop where
  q : ∀ g x l, R.Q g x l = (laneQ A g x l : EReal)
  k : ∀ g x l, R.K g x l = (laneK A g x l : EReal)
  v : ∀ (g : Fin 8) x (l : Fin 128), l.val / 64 = g.val % 2 → R.V g x l = (A.v x (gcol g l) : EReal)
  o : ∀ x l, R.O x l = (A.o x l : EReal)
  l : ∀ p h x, R.L p h x = (((A.M (gh p h) x + Real.log (A.Z (gh p h) x)) * lm : ℝ) : EReal)
  d : ∀ p h x, R.D p h x = (A.N (gh p h) x : EReal)

set_option maxHeartbeats 3000000 in
theorem arr_holds (m : (ℓ : Loc nD τ sig) → Buf (Elt Ideal) ℓ) (c : Dev nD)
    (hr : Reals A (argQ m c) (argK m c) (argV m c) (argO m c) (argC m c)) : Holds A (arr m c) := by
  refine ⟨?_, ?_, ?_, ?_, ?_, ?_⟩
  · exact q_at m c hr
  · exact k_at m c hr
  · exact v_at m c hr
  · exact do_at m c hr
  · exact lse_at m c hr
  · exact delta_at m c hr

variable {R : Arr} (hr : Holds A R)
include hr

theorem PP_real (y x : Fin 16384) : PP R p h y x = (A.P (gh p h) x y : EReal) := by
  by_cases hx : y.val ≤ x.val
  · unfold PP
    rw [if_pos hx]
    have hs : ∑ l, R.K (gh p h) y l * R.Q (gh p h) x l = ((A.S (gh p h) x y * lm : ℝ) : EReal) := by
      rw [← lanes_score, ← coe_sum]
      refine Finset.sum_congr rfl fun l _ => ?_
      rw [EReal.coe_mul]
      exact congrArg₂ (· * ·) (hr.k _ y l) (hr.q _ x l)
    have hl : R.L p h x = _ := hr.l p h x
    rw [hs, hl, ← EReal.coe_sub, Ideal.exp2_coe, EReal.coe_eq_coe_iff]
    unfold Data.P Data.E
    rw [if_pos hx]
    rw [Real.rpow_eq_pow, Real.rpow_def_of_pos (by norm_num : (0 : ℝ) < 2)]
    have e : Real.log 2 * (A.S (gh p h) x y * lm - (A.M (gh p h) x + Real.log (A.Z (gh p h) x)) * lm)
        = A.S (gh p h) x y - A.M (gh p h) x - Real.log (A.Z (gh p h) x) := by
      have := log_two_pos.ne'
      unfold lm
      field_simp
      ring
    rw [e, Real.exp_sub, Real.exp_log (A.Z_pos _ _)]
  · rw [PP_masked _ _ hx]
    unfold Data.P Data.E
    rw [if_neg hx, zero_div, EReal.coe_zero]

theorem DD_real (y x : Fin 16384) : DD R p h y x = (A.dS (gh p h) x y : EReal) := by
  unfold DD
  have hd : R.D p h x = _ := hr.d p h x
  have hs : ∑ l, (if mine h l then R.V (gh p h) y l else 0) * R.O x (col p l) = (A.G (gh p h) x y : EReal) := by
    have e : ∀ l, (if mine h l then R.V (gh p h) y l else 0) * R.O x (col p l)
        = if mine h l then R.V (gh p h) y l * R.O x (col p l) else 0 := fun l => by
      by_cases hl : mine h l
      · rw [if_pos hl, if_pos hl]
      · rw [if_neg hl, if_neg hl, zero_mul]
    rw [Finset.sum_congr rfl fun l _ => e l, sum_mine]
    unfold Data.G
    rw [← coe_sum]
    refine Finset.sum_congr rfl fun d _ => ?_
    have hv : R.V (gh p h) y (half h d) = (A.v y (gcol (gh p h) (half h d)) : EReal) :=
      hr.v _ y (half h d) (by rw [gh_mod]; exact mine_half h d)
    have ho : R.O x (col p (half h d)) = (A.o x (col p (half h d)) : EReal) := hr.o x _
    rw [hv, ho, ← EReal.coe_mul, gcol_half, col_half, mul_comm]
  rw [PP_real p h hr, hd, hs, ← EReal.coe_sub, ← EReal.coe_mul]
  rfl

/-! ## The results -/

omit hr in
theorem h_col (p : Fin 4) (l : Fin 128) : gcol (gh p (hd l)) l = col p l :=
  Fin.ext (by show (2 * p.val + l.val / 64) / 2 * 128 + l.val = 128 * p.val + l.val; omega)

omit hr in
theorem hd_mod (p : Fin 4) (l : Fin 128) : l.val / 64 = (gh p (hd l)).val % 2 := by
  show l.val / 64 = (2 * p.val + l.val / 64) % 2; omega

omit hr in
/-- A lane belongs to the one head or the other. -/
theorem pick_lane (l : Fin 128) (a b : EReal) (f : Fin 2 → EReal) :
    (if mine h0 l then a else 0) * f h0 + (if mine h1 l then b else 0) * f h1 = (if hd l = h0 then a else b) * f (hd l) := by
  rcases (by omega : l.val / 64 = 0 ∨ l.val / 64 = 1) with e | e
  · have e' : hd l = h0 := Fin.ext e
    rw [if_pos (show mine h0 l from e), if_neg (show ¬ mine h1 l from fun q => by have : l.val / 64 = 1 := q; omega), if_pos e', e', zero_mul, add_zero]
  · have e' : hd l = h1 := Fin.ext e
    rw [if_pos (show mine h1 l from e), if_neg (show ¬ mine h0 l from fun q => by have : l.val / 64 = 0 := q; omega), if_neg (by rw [e']; decide), e', zero_mul, zero_add]

theorem outV_real (y : Fin 16384) (l : Fin 128) :
    outV R p y l = ((∑ x, A.P (gh p (hd l)) x y * A.o x (col p l) : ℝ) : EReal) := by
  unfold outV
  rw [← coe_sum]
  refine Finset.sum_congr rfl fun x _ => ?_
  rw [PP_real p _ hr, hr.o, EReal.coe_mul]

theorem outK_real (y : Fin 16384) (l : Fin 128) :
    outK R p y l = ((∑ x, A.dS (gh p (hd l)) x y * (A.q x (col p l) * (1/8)) : ℝ) : EReal) := by
  unfold outK
  have e : ∑ x, DD R p (hd l) y x * R.Q (gh p (hd l)) x l
      = ((∑ x, A.dS (gh p (hd l)) x y * (A.q x (col p l) * (1/8 * lm)) : ℝ) : EReal) := by
    rw [← coe_sum]
    refine Finset.sum_congr rfl fun x _ => ?_
    rw [DD_real p _ hr, hr.q, EReal.coe_mul]
    unfold laneQ
    rw [if_pos (hd_mod p l), h_col]
  rw [e, ← EReal.coe_mul, EReal.coe_eq_coe_iff, Finset.sum_mul]
  refine Finset.sum_congr rfl fun x _ => ?_
  have := log_two_pos.ne'
  unfold lm
  field_simp

theorem outCk_real (y : Fin 16384) : outCk R p h y = ((- ∑ x, A.dS (gh p h) x y : ℝ) : EReal) := by
  unfold outCk
  have e : ∑ x, DD R p h y x * R.Q (gh p h) x (sumLane h) = ((∑ x, A.dS (gh p h) x y : ℝ) : EReal) := by
    rw [← coe_sum]
    refine Finset.sum_congr rfl fun x _ => ?_
    have hq : R.Q (gh p h) x (sumLane h) = 1 := by
      rw [hr.q, ← EReal.coe_one, EReal.coe_eq_coe_iff]
      unfold laneQ
      rcases (by omega : h.val = 0 ∨ h.val = 1) with e | e
      · have e' : h = h0 := Fin.ext e
        subst e'
        have hb : bs (gh p h0) = 64 := by show (1 - (2 * p.val + 0) % 2) * 64 = 64; omega
        have hs : (sumLane h0).val = 67 := rfl
        rw [if_neg (by rw [gh_mod, hs]; decide), hb, hs]; norm_num
      · have e' : h = h1 := Fin.ext e
        subst e'
        have hb : bs (gh p h1) = 0 := by show (1 - (2 * p.val + 1) % 2) * 64 = 0; omega
        have hs : (sumLane h1).val = 3 := rfl
        rw [if_neg (by rw [gh_mod, hs]; decide), hb, hs]; norm_num
    rw [DD_real p _ hr, hq, mul_one]
  rw [e, ← EReal.coe_zero, ← EReal.coe_sub, zero_sub]

theorem outCq_real (x : Fin 16384) : ∑ n, partCq R p h x n = ((∑ y, A.dS (gh p h) x y : ℝ) : EReal) := by
  unfold partCq
  rw [sum_blocks fun y => DD R p h y x, ← coe_sum]
  exact Finset.sum_congr rfl fun y _ => DD_real p h hr y x

theorem outQ_real (l : Fin 128) (x : Fin 16384) :
    ∑ n, partQ R p l x n = ((∑ y, A.dS (gh p (hd l)) x y * A.k y (col p l) : ℝ) : EReal) := by
  have e : ∀ n, partQ R p l x n = ∑ j : Fin 512, ((A.k (qpos n j) (col p l) * A.dS (gh p (hd l)) x (qpos n j) : ℝ) : EReal) := fun n => by
    unfold partQ
    rw [← Finset.sum_add_distrib]
    refine Finset.sum_congr rfl fun j _ => ?_
    rw [pick_lane l _ _ (fun h => DD R p h (qpos n j) x)]
    have hk : (if hd l = h0 then R.K (gh p h0) (qpos n j) l else R.K (gh p h1) (qpos n j) l) = R.K (gh p (hd l)) (qpos n j) l := by
      split
      · next e => rw [e]
      · next e => rw [show hd l = h1 from Fin.ext (by have : ¬ l.val / 64 = 0 := fun q => e (Fin.ext q); show l.val / 64 = 1; omega)]
    rw [hk, DD_real p _ hr, hr.k]
    unfold laneK
    rw [if_pos (hd_mod p l), h_col, EReal.coe_mul]
  rw [Finset.sum_congr rfl fun n _ => e n, sum_blocks fun y => ((A.k y (col p l) * A.dS (gh p (hd l)) x y : ℝ) : EReal), coe_sum, EReal.coe_eq_coe_iff]
  exact Finset.sum_congr rfl fun y _ => mul_comm _ _

end Cert.KernelIdeal.Body
-- ==== Proof.Val.Equation.lean ====
/-
The equation: the kernel's results are the reference's.
-/
module

public import proofs.«01_k».proof.Proof.Val.RefAt
public import proofs.«01_k».proof.Proof.Val.Result
public import proofs.«01_k».proof.Proof.Val.Arrays

@[expose] public section

namespace Cert.KernelIdeal.Body

open Idealize.ShloMosaic Cert.Attention
open Cert.ReferenceIdeal.Grad (dqR dkR dvR dckR dcqR cg dqR_at dkR_at dvR_at dckR_at dcqR_at)

variable {A : Data} {R : Arr} (hR : Holds A R)
variable {q k v o : FVec Ideal S16384x512 .f32} {c : FVec Ideal S16384x8 .f32} (h : Reals A q k v o c)
variable {ds e : FVec Ideal S8x16384x16384 .f32} {s : FVec Ideal S8x16384 .f32}
variable (hd : ∀ g x y, (ds (ix3 g x y) : EReal) = (A.dS g x y : EReal))
variable (he : ∀ g x y, (e (ix3 g x y) : EReal) = (A.E g x y : EReal)) (hs : ∀ g x, (s (ix2 g x) : EReal) = (A.Z g x : EReal))

/-- The pair of heads of a column, and the column's lane in it. -/
abbrev cp (l : Fin 512) : Fin 4 := ⟨l.val / 128, by omega⟩
abbrev cl (l : Fin 512) : Fin 128 := ⟨l.val % 128, by omega⟩

theorem gh_cl (l : Fin 512) : gh (cp l) (Body.hd (cl l)) = cg l :=
  Fin.ext (by show 2 * (l.val / 128) + l.val % 128 / 64 = l.val / 64; omega)
theorem col_cl (l : Fin 512) : col (cp l) (cl l) = l :=
  Fin.ext (by show 128 * (l.val / 128) + l.val % 128 = l.val; omega)

include hR h hd

theorem same_q : arrQ R = dqR ds k := by
  funext i
  obtain ⟨p, l, x, rfl⟩ : ∃ (p : Fin 4) (l : Fin 128) (x : Fin 16384), i = ix3 p l x := ⟨i 0, i 1, i 2, ValueIdx.eq_ix3 i⟩
  exact (outQ_real p hR l x).trans (dqR_at hd h p l x).symm

theorem same_k : arrK R = dkR ds q := by
  funext i
  obtain ⟨y, l, rfl⟩ : ∃ (y : Fin 16384) (l : Fin 512), i = ix2 y l := ⟨i 0, i 1, ValueIdx.eq_ix2 i⟩
  refine (outK_real (cp l) hR y (cl l)).trans ?_
  rw [gh_cl, col_cl]
  exact (dkR_at hd h y l).symm

theorem same_ck : arrCk R = dckR ds := by
  funext i
  obtain ⟨p, a, y, rfl⟩ : ∃ (p : Fin 4) (a : Fin 2) (y : Fin 16384), i = ix3 p a y := ⟨i 0, i 1, i 2, ValueIdx.eq_ix3 i⟩
  exact (outCk_real p a hR y).trans (dckR_at hd p a y).symm

theorem same_cq : arrCq R = dcqR ds := by
  funext i
  obtain ⟨p, a, y, rfl⟩ : ∃ (p : Fin 4) (a : Fin 2) (y : Fin 16384), i = ix3 p a y := ⟨i 0, i 1, i 2, ValueIdx.eq_ix3 i⟩
  exact (outCq_real p a hR y).trans (dcqR_at hd p a y).symm

omit hd
include he hs

theorem same_v : arrV R = dvR e s o := by
  funext i
  obtain ⟨y, l, rfl⟩ : ∃ (y : Fin 16384) (l : Fin 512), i = ix2 y l := ⟨i 0, i 1, ValueIdx.eq_ix2 i⟩
  refine (outV_real (cp l) hR y (cl l)).trans ?_
  rw [gh_cl, col_cl]
  exact (dvR_at h he hs y l).symm

end Cert.KernelIdeal.Body
-- ==== Proof.Grad.Rows.lean ====
/-
A weight's gradient adds up, over the runs of eight points of the grid, the products of eight blocks of 2048 rows: what a
run of eight such steps leaves is one sum over all 16384 rows.
-/
module

public import Idealize.ShloMosaic.Lib.Pipeline.Value
public import Mathlib.Data.EReal.Operations

@[expose] public section

namespace Cert.Grad

open Idealize.ShloMosaic

/-- Row `r` of the block of rows that point `n` takes. -/
abbrev row (n : ℕ) (r : Fin 2048) : Fin 16384 := ⟨2048 * (n % 8) + r.val, by omega⟩

/-- The eight blocks of rows of a run of points are all rows. -/
theorem sum_rows (q : ℕ) (f : Fin 16384 → EReal) :
    ∑ s ∈ Finset.range 8, ∑ r : Fin 2048, f (row (8 * q + s) r) = ∑ t, f t := by
  rw [Finset.sum_range, ← Finset.sum_product']
  refine Finset.sum_bij' (fun p _ => row (8 * q + p.1.val) p.2)
    (fun t _ => ((⟨t.val / 2048, by omega⟩ : Fin 8), (⟨t.val % 2048, by omega⟩ : Fin 2048))) ?_ ?_ ?_ ?_ ?_
  · exact fun _ _ => Finset.mem_univ _
  · exact fun _ _ => Finset.mem_univ _
  · exact fun p _ => Prod.ext (Fin.ext (by simp only [row]; omega)) (Fin.ext (by simp only [row]; omega))
  · exact fun t _ => Fin.ext (by simp only [row]; omega)
  · exact fun _ _ => rfl

/-- When the first point of a run leaves the sum of `f` over its rows and each later point adds the sum of `f` over its own,
    the run leaves the sum of `f` over all rows. -/
theorem run_rows {N : ℕ} {ι : Type*} (a : (n : ℕ) → n < N → ι → EReal) (g : (n : ℕ) → n < N → (ι → EReal) → ι → EReal)
    (f : ℕ → ι → Fin 16384 → EReal) (ha : ∀ n h i, a n h i = ∑ r : Fin 2048, f (n / 8) i (row n r))
    (hg : ∀ n h acc i, g n h acc i = acc i + ∑ r : Fin 2048, f (n / 8) i (row n r)) (q : ℕ) (h : 8 * q + 7 < N) (i : ι) :
    Pipeline.accAt a g (8 * q) 7 h i = ∑ t, f q i t := by
  rw [Pipeline.accAt_add_apply a g (fun _ => 0) (fun n i => ∑ r : Fin 2048, f (n / 8) i (row n r)) (8 * q) 7
    (fun h i => (ha _ h i).trans (zero_add _).symm) (fun n h acc i _ _ => hg n h acc i) 7 le_rfl h i, zero_add, ← sum_rows q (f q i)]
  refine Finset.sum_congr rfl fun s hs => ?_
  have e : (8 * q + s) / 8 = q := by have := Finset.mem_range.1 hs; omega
  rw [e]

end Cert.Grad

end
-- ==== Proof.Grad.GateUp.lean ====
/-
The gradient of the gate and up weights: the array the call leaves is the reference's product.
-/
module

public import proofs.«01_k».proof.Proof.Gen.GateUpIdeal.Value
public import proofs.«01_k».proof.Proof.Gen.GateUpRefIdeal.Run
public import proofs.«01_k».proof.Proof.Grad.Rows
public import Idealize.ShloMosaic.Lib.Pipeline.ValueKit.Geometry
public import Idealize.ShloMosaic.Lib.Pipeline.ValueKit.Point
public import Idealize.ShloMosaic.Lib.Pointwise.Reduce
public import Idealize.ShloMosaic.Lib.Pointwise.Contract
public import Idealize.ShloMosaic.Lib.Pointwise.Tactic

@[expose] public section

namespace Cert.GateUpIdeal.Grad

open Idealize.ShloMosaic Idealize.ShloMosaic.TcCoe Cert.Grad

/-- The column of `x` that column `a` of a block is, in run `q` of the grid. -/
abbrev colX (_q : ℕ) (a : Fin 1024) : Fin 1024 := a

/-- The column of `dy` that column `b` of a block is, in run `q` of the grid. -/
abbrev colY (q : ℕ) (b : Fin 1408) : Fin 5632 := ⟨1408 * (q % 4) + b.val, by omega⟩

theorem idx : ∀ t : Fin cfg0.N, win0_0.index t = ![t.val % 8, 0] ∧ win0_1.index t = ![t.val % 8, t.val / 8] :=
  (by decide +kernel : ∀ t : Fin grid0.N, _)

theorem lt (t : Fin cfg0.N) : t.val < 32 := t.isLt

section read

variable (t : Fin cfg0.N)

theorem read0 (X : S16384x1024.Idx → EReal) (r : Fin 2048) (a : Fin 1024) :
    ((cfg0.win 0).blk t).view.read (Elt Ideal) X (ix2 r a) = X (ix2 (row t.val r) (colX (t.val / 8) a)) := by
  have := lt t
  blk_ext [idx t]

theorem read1 (X : S16384x5632.Idx → EReal) (r : Fin 2048) (b : Fin 1408) :
    ((cfg0.win 1).blk t).view.read (Elt Ideal) X (ix2 r b) = X (ix2 (row t.val r) (colY (t.val / 8) b)) := by
  have := lt t
  blk_ext [idx t]

end read

/-- One step adds the product of the two blocks. -/
theorem pay2_at (acc : S1024x1408.Idx → EReal) (x : S2048x1024.Idx → EReal) (y : S2048x1408.Idx → EReal) (a : Fin 1024) (b : Fin 1408) :
    Gen.k0_pay2 (F := Ideal) acc x y (ix2 a b) = acc (ix2 a b) + ∑ r : Fin 2048, x (ix2 r a) * y (ix2 r b) := by
  pointwise [Gen.k0_pay2]

theorem pay1_at (i : S1024x1408.Idx) : Gen.k0_pay1 (F := Ideal) i = 0 := by
  pointwise [Gen.k0_pay1]

variable (m : (ℓ : Loc nD τ sig) → Buf (Elt Ideal) ℓ) (c : Dev nD)

/-- The call's two arguments. -/
abbrev argX : S16384x1024.Idx → EReal := m (c.tc.loc main_arg0)
abbrev argY : S16384x5632.Idx → EReal := m (c.tc.loc main_arg1)

/-- What row `t` adds to the entry `i` of run `q`'s block. -/
noncomputable def term (q : ℕ) (i : S1024x1408.Idx) (t : Fin 16384) : EReal :=
  argX m c (ix2 t (colX q (i 0))) * argY m c (ix2 t (colY q (i 1)))

theorem step_at (n : ℕ) (h : n < cfg0.N) (acc : S1024x1408.Idx → EReal) (i : S1024x1408.Idx) :
    Value.step2 m c n h acc i = acc i + ∑ r : Fin 2048, term m c (n / 8) i (row n r) := by
  rw [ValueIdx.eq_ix2 i]
  refine (pay2_at acc _ _ (i 0) (i 1)).trans ?_
  refine congrArg _ (Finset.sum_congr rfl fun r _ => ?_)
  exact congrArg₂ _ (read0 ⟨n, h⟩ (argX m c) r (i 0)) (read1 ⟨n, h⟩ (argY m c) r (i 1))

theorem reset_at (n : ℕ) (h : n < cfg0.N) (i : S1024x1408.Idx) :
    Value.reset2 m c n h i = ∑ r : Fin 2048, term m c (n / 8) i (row n r) :=
  (step_at m c n h _ i).trans (by rw [pay1_at, zero_add])

/-- The call's result at an entry: the sum over all rows. -/
theorem result_at (i : S1024x5632.Idx) :
    (Value.G2 (F := Ideal) m c i : EReal) = ∑ t, argX m c (ix2 t (i 0)) * argY m c (ix2 t (i 1)) := by
  have h0 : (i 0).val < 1024 := (i 0).isLt
  have h1 : (i 1).val < 5632 := (i 1).isLt
  have hr : 8 * Value.run2Of i + 7 < cfg0.N := by
    rw [show cfg0.N = 32 from Gen.N_0]; simp only [Value.run2Of]; omega
  have ex : colX (Value.run2Of i) (Value.loc2Of i 0) = i 0 := Fin.ext (by simp only [colX, Value.run2Of, Value.loc2Of]; omega)
  have ey : colY (Value.run2Of i) (Value.loc2Of i 1) = i 1 := Fin.ext (by simp only [colY, Value.run2Of, Value.loc2Of]; omega)
  refine (dif_pos hr).trans ((run_rows (Value.reset2 m c) (Value.step2 m c) (term m c) (reset_at m c) (step_at m c) _ hr _).trans ?_)
  refine Finset.sum_congr rfl fun t _ => ?_
  unfold term
  rw [ex, ey]

/-- The call's result is the reference's. -/
theorem result (X : S16384x1024.Idx → EReal) (Y : S16384x5632.Idx → EReal) (hX : X = argX m c) (hY : Y = argY m c) :
    Value.G2 (F := Ideal) m c = transpose Cert.GateUpRefIdeal.S1024x5632 [1, 0]
      (Host.dotGeneral (F := Ideal) Cert.GateUpRefIdeal.dot_S16384x5632_S16384x1024_S5632x1024_0_0_1_1_n_n none
        (extf (F := Ideal) .f32 Y Cert.GateUpRefIdeal.Gen.bitsLt_bf16_f32) (extf (F := Ideal) .f32 X Cert.GateUpRefIdeal.Gen.bitsLt_bf16_f32))
      Cert.GateUpRefIdeal.Gen.transposes_S5632x1024_S1024x5632_1_0 := by
  subst hX hY
  funext i
  rw [result_at, ValueIdx.eq_ix2 i]
  pointwise
  exact show (_ : EReal) = _ from Finset.sum_congr rfl fun t _ => EReal.mul_comm _ _

end Cert.GateUpIdeal.Grad

end
-- ==== Proof.Grad.Down.lean ====
/-
The gradient of the down weight: the array the call leaves is the reference's product.
-/
module

public import proofs.«01_k».proof.Proof.Gen.DownIdeal.Value
public import proofs.«01_k».proof.Proof.Gen.DownRefIdeal.Run
public import proofs.«01_k».proof.Proof.Grad.Rows
public import Idealize.ShloMosaic.Lib.Pipeline.ValueKit.Geometry
public import Idealize.ShloMosaic.Lib.Pipeline.ValueKit.Point
public import Idealize.ShloMosaic.Lib.Pointwise.Reduce
public import Idealize.ShloMosaic.Lib.Pointwise.Contract
public import Idealize.ShloMosaic.Lib.Pointwise.Tactic

@[expose] public section

namespace Cert.DownIdeal.Grad

open Idealize.ShloMosaic Idealize.ShloMosaic.TcCoe Cert.Grad

/-- The column of `x` that column `a` of a block is, in run `q` of the grid. -/
abbrev colX (q : ℕ) (a : Fin 1408) : Fin 2816 := ⟨1408 * (q % 2) + a.val, by omega⟩

/-- The column of `dy` that column `b` of a block is, in run `q` of the grid. -/
abbrev colY (_q : ℕ) (b : Fin 1024) : Fin 1024 := b

theorem idx : ∀ t : Fin cfg0.N, win0_0.index t = ![t.val % 8, t.val / 8] ∧ win0_1.index t = ![t.val % 8, 0] :=
  (by decide +kernel : ∀ t : Fin grid0.N, _)

theorem lt (t : Fin cfg0.N) : t.val < 16 := t.isLt

section read

variable (t : Fin cfg0.N)

theorem read0 (X : S16384x2816.Idx → EReal) (r : Fin 2048) (a : Fin 1408) :
    ((cfg0.win 0).blk t).view.read (Elt Ideal) X (ix2 r a) = X (ix2 (row t.val r) (colX (t.val / 8) a)) := by
  have := lt t
  blk_ext [idx t]

theorem read1 (X : S16384x1024.Idx → EReal) (r : Fin 2048) (b : Fin 1024) :
    ((cfg0.win 1).blk t).view.read (Elt Ideal) X (ix2 r b) = X (ix2 (row t.val r) (colY (t.val / 8) b)) := by
  have := lt t
  blk_ext [idx t]

end read

/-- One step adds the product of the two blocks. -/
theorem pay2_at (acc : S1408x1024.Idx → EReal) (x : S2048x1408.Idx → EReal) (y : S2048x1024.Idx → EReal) (a : Fin 1408) (b : Fin 1024) :
    Gen.k0_pay2 (F := Ideal) acc x y (ix2 a b) = acc (ix2 a b) + ∑ r : Fin 2048, x (ix2 r a) * y (ix2 r b) := by
  pointwise [Gen.k0_pay2]

theorem pay1_at (i : S1408x1024.Idx) : Gen.k0_pay1 (F := Ideal) i = 0 := by
  pointwise [Gen.k0_pay1]

variable (m : (ℓ : Loc nD τ sig) → Buf (Elt Ideal) ℓ) (c : Dev nD)

/-- The call's two arguments. -/
abbrev argX : S16384x2816.Idx → EReal := m (c.tc.loc main_arg0)
abbrev argY : S16384x1024.Idx → EReal := m (c.tc.loc main_arg1)

/-- What row `t` adds to the entry `i` of run `q`'s block. -/
noncomputable def term (q : ℕ) (i : S1408x1024.Idx) (t : Fin 16384) : EReal :=
  argX m c (ix2 t (colX q (i 0))) * argY m c (ix2 t (colY q (i 1)))

theorem step_at (n : ℕ) (h : n < cfg0.N) (acc : S1408x1024.Idx → EReal) (i : S1408x1024.Idx) :
    Value.step2 m c n h acc i = acc i + ∑ r : Fin 2048, term m c (n / 8) i (row n r) := by
  rw [ValueIdx.eq_ix2 i]
  refine (pay2_at acc _ _ (i 0) (i 1)).trans ?_
  refine congrArg _ (Finset.sum_congr rfl fun r _ => ?_)
  exact congrArg₂ _ (read0 ⟨n, h⟩ (argX m c) r (i 0)) (read1 ⟨n, h⟩ (argY m c) r (i 1))

theorem reset_at (n : ℕ) (h : n < cfg0.N) (i : S1408x1024.Idx) :
    Value.reset2 m c n h i = ∑ r : Fin 2048, term m c (n / 8) i (row n r) :=
  (step_at m c n h _ i).trans (by rw [pay1_at, zero_add])

/-- The call's result at an entry: the sum over all rows. -/
theorem result_at (i : S2816x1024.Idx) :
    (Value.G2 (F := Ideal) m c i : EReal) = ∑ t, argX m c (ix2 t (i 0)) * argY m c (ix2 t (i 1)) := by
  have h0 : (i 0).val < 2816 := (i 0).isLt
  have h1 : (i 1).val < 1024 := (i 1).isLt
  have hr : 8 * Value.run2Of i + 7 < cfg0.N := by
    rw [show cfg0.N = 16 from Gen.N_0]; simp only [Value.run2Of]; omega
  have ex : colX (Value.run2Of i) (Value.loc2Of i 0) = i 0 := Fin.ext (by simp only [colX, Value.run2Of, Value.loc2Of]; omega)
  have ey : colY (Value.run2Of i) (Value.loc2Of i 1) = i 1 := Fin.ext (by simp only [colY, Value.run2Of, Value.loc2Of]; omega)
  refine (dif_pos hr).trans ((run_rows (Value.reset2 m c) (Value.step2 m c) (term m c) (reset_at m c) (step_at m c) _ hr _).trans ?_)
  refine Finset.sum_congr rfl fun t _ => ?_
  unfold term
  rw [ex, ey]

/-- The call's result is the reference's. -/
theorem result (X : S16384x2816.Idx → EReal) (Y : S16384x1024.Idx → EReal) (hX : X = argX m c) (hY : Y = argY m c) :
    Value.G2 (F := Ideal) m c = transpose Cert.DownRefIdeal.S2816x1024 [1, 0]
      (Host.dotGeneral (F := Ideal) Cert.DownRefIdeal.dot_S16384x1024_S16384x2816_S1024x2816_0_0_1_1_n_n none
        (extf (F := Ideal) .f32 Y Cert.DownRefIdeal.Gen.bitsLt_bf16_f32) (extf (F := Ideal) .f32 X Cert.DownRefIdeal.Gen.bitsLt_bf16_f32))
      Cert.DownRefIdeal.Gen.transposes_S1024x2816_S2816x1024_1_0 := by
  subst hX hY
  funext i
  rw [result_at, ValueIdx.eq_ix2 i]
  pointwise
  exact show (_ : EReal) = _ from Finset.sum_congr rfl fun t _ => EReal.mul_comm _ _

end Cert.DownIdeal.Grad

end
-- ==== Proof.Grad.Out.lean ====
/-
The gradient of the output weight: the array the call leaves is the reference's product.
-/
module

public import proofs.«01_k».proof.Proof.Gen.OutIdeal.Value
public import proofs.«01_k».proof.Proof.Gen.OutRefIdeal.Run
public import proofs.«01_k».proof.Proof.Grad.Rows
public import Idealize.ShloMosaic.Lib.Pipeline.ValueKit.Geometry
public import Idealize.ShloMosaic.Lib.Pipeline.ValueKit.Point
public import Idealize.ShloMosaic.Lib.Pointwise.Reduce
public import Idealize.ShloMosaic.Lib.Pointwise.Contract
public import Idealize.ShloMosaic.Lib.Pointwise.Tactic

@[expose] public section

namespace Cert.OutIdeal.Grad

open Idealize.ShloMosaic Idealize.ShloMosaic.TcCoe Cert.Grad

/-- The column of `x` that column `a` of a block is, in run `q` of the grid. -/
abbrev colX (_q : ℕ) (a : Fin 1024) : Fin 1024 := a

/-- The column of `dy` that column `b` of a block is, in run `q` of the grid. -/
abbrev colY (_q : ℕ) (b : Fin 1024) : Fin 1024 := b

theorem idx : ∀ t : Fin cfg0.N, win0_0.index t = ![t.val % 8, 0] ∧ win0_1.index t = ![t.val % 8, 0] :=
  (by decide +kernel : ∀ t : Fin grid0.N, _)

theorem lt (t : Fin cfg0.N) : t.val < 8 := t.isLt

section read

variable (t : Fin cfg0.N)

theorem read0 (X : S16384x1024.Idx → EReal) (r : Fin 2048) (a : Fin 1024) :
    ((cfg0.win 0).blk t).view.read (Elt Ideal) X (ix2 r a) = X (ix2 (row t.val r) (colX (t.val / 8) a)) := by
  have := lt t
  blk_ext [idx t]

theorem read1 (X : S16384x1024.Idx → EReal) (r : Fin 2048) (b : Fin 1024) :
    ((cfg0.win 1).blk t).view.read (Elt Ideal) X (ix2 r b) = X (ix2 (row t.val r) (colY (t.val / 8) b)) := by
  have := lt t
  blk_ext [idx t]

end read

/-- One step adds the product of the two blocks. -/
theorem pay2_at (acc : S1024x1024.Idx → EReal) (x : S2048x1024.Idx → EReal) (y : S2048x1024.Idx → EReal) (a : Fin 1024) (b : Fin 1024) :
    Gen.k0_pay2 (F := Ideal) acc x y (ix2 a b) = acc (ix2 a b) + ∑ r : Fin 2048, x (ix2 r a) * y (ix2 r b) := by
  pointwise [Gen.k0_pay2]

theorem pay1_at (i : S1024x1024.Idx) : Gen.k0_pay1 (F := Ideal) i = 0 := by
  pointwise [Gen.k0_pay1]

variable (m : (ℓ : Loc nD τ sig) → Buf (Elt Ideal) ℓ) (c : Dev nD)

/-- The call's two arguments. -/
abbrev argX : S16384x1024.Idx → EReal := m (c.tc.loc main_arg0)
abbrev argY : S16384x1024.Idx → EReal := m (c.tc.loc main_arg1)

/-- What row `t` adds to the entry `i` of run `q`'s block. -/
noncomputable def term (q : ℕ) (i : S1024x1024.Idx) (t : Fin 16384) : EReal :=
  argX m c (ix2 t (colX q (i 0))) * argY m c (ix2 t (colY q (i 1)))

theorem step_at (n : ℕ) (h : n < cfg0.N) (acc : S1024x1024.Idx → EReal) (i : S1024x1024.Idx) :
    Value.step2 m c n h acc i = acc i + ∑ r : Fin 2048, term m c (n / 8) i (row n r) := by
  rw [ValueIdx.eq_ix2 i]
  refine (pay2_at acc _ _ (i 0) (i 1)).trans ?_
  refine congrArg _ (Finset.sum_congr rfl fun r _ => ?_)
  exact congrArg₂ _ (read0 ⟨n, h⟩ (argX m c) r (i 0)) (read1 ⟨n, h⟩ (argY m c) r (i 1))

theorem reset_at (n : ℕ) (h : n < cfg0.N) (i : S1024x1024.Idx) :
    Value.reset2 m c n h i = ∑ r : Fin 2048, term m c (n / 8) i (row n r) :=
  (step_at m c n h _ i).trans (by rw [pay1_at, zero_add])

/-- The call's result at an entry: the sum over all rows. -/
theorem result_at (i : S1024x1024.Idx) :
    (Value.G2 (F := Ideal) m c i : EReal) = ∑ t, argX m c (ix2 t (i 0)) * argY m c (ix2 t (i 1)) := by
  have h0 : (i 0).val < 1024 := (i 0).isLt
  have h1 : (i 1).val < 1024 := (i 1).isLt
  have hr : 8 * Value.run2Of i + 7 < cfg0.N := by
    rw [show cfg0.N = 8 from Gen.N_0]; simp only [Value.run2Of]; omega
  have ex : colX (Value.run2Of i) (Value.loc2Of i 0) = i 0 := Fin.ext (by simp only [colX, Value.run2Of, Value.loc2Of]; omega)
  have ey : colY (Value.run2Of i) (Value.loc2Of i 1) = i 1 := Fin.ext (by simp only [colY, Value.run2Of, Value.loc2Of]; omega)
  refine (dif_pos hr).trans ((run_rows (Value.reset2 m c) (Value.step2 m c) (term m c) (reset_at m c) (step_at m c) _ hr _).trans ?_)
  refine Finset.sum_congr rfl fun t _ => ?_
  unfold term
  rw [ex, ey]

/-- The call's result is the reference's. -/
theorem result (X : S16384x1024.Idx → EReal) (Y : S16384x1024.Idx → EReal) (hX : X = argX m c) (hY : Y = argY m c) :
    Value.G2 (F := Ideal) m c = transpose Cert.OutRefIdeal.S1024x1024 [1, 0]
      (Host.dotGeneral (F := Ideal) Cert.OutRefIdeal.dot_S16384x1024_S16384x1024_S1024x1024_0_0_1_1_n_n none
        (extf (F := Ideal) .f32 Y Cert.OutRefIdeal.Gen.bitsLt_bf16_f32) (extf (F := Ideal) .f32 X Cert.OutRefIdeal.Gen.bitsLt_bf16_f32))
      Cert.OutRefIdeal.Gen.transposes_S1024x1024_S1024x1024_1_0 := by
  subst hX hY
  funext i
  rw [result_at, ValueIdx.eq_ix2 i]
  pointwise
  exact show (_ : EReal) = _ from Finset.sum_congr rfl fun t _ => EReal.mul_comm _ _

end Cert.OutIdeal.Grad

end
-- ==== Proof.Grad.In.lean ====
/-
The gradient of the input weight: the array the call leaves is the reference's product.
-/
module

public import proofs.«01_k».proof.Proof.Gen.InIdeal.Value
public import proofs.«01_k».proof.Proof.Gen.InRefIdeal.Run
public import proofs.«01_k».proof.Proof.Grad.Rows
public import Idealize.ShloMosaic.Lib.Pipeline.ValueKit.Geometry
public import Idealize.ShloMosaic.Lib.Pipeline.ValueKit.Point
public import Idealize.ShloMosaic.Lib.Pointwise.Reduce
public import Idealize.ShloMosaic.Lib.Pointwise.Contract
public import Idealize.ShloMosaic.Lib.Pointwise.Tactic

@[expose] public section

namespace Cert.InIdeal.Grad

open Idealize.ShloMosaic Idealize.ShloMosaic.TcCoe Cert.Grad

/-- The column of `x` that column `a` of a block is, in run `q` of the grid. -/
abbrev colX (_q : ℕ) (a : Fin 1024) : Fin 1024 := a

/-- The column of `dy` that column `b` of a block is, in run `q` of the grid. -/
abbrev colY (q : ℕ) (b : Fin 896) : Fin 2688 := ⟨896 * (q % 3) + b.val, by omega⟩

theorem idx : ∀ t : Fin cfg0.N, win0_0.index t = ![t.val % 8, 0] ∧ win0_1.index t = ![t.val % 8, t.val / 8] :=
  (by decide +kernel : ∀ t : Fin grid0.N, _)

theorem lt (t : Fin cfg0.N) : t.val < 24 := t.isLt

section read

variable (t : Fin cfg0.N)

theorem read0 (X : S16384x1024.Idx → EReal) (r : Fin 2048) (a : Fin 1024) :
    ((cfg0.win 0).blk t).view.read (Elt Ideal) X (ix2 r a) = X (ix2 (row t.val r) (colX (t.val / 8) a)) := by
  have := lt t
  blk_ext [idx t]

theorem read1 (X : S16384x2688.Idx → EReal) (r : Fin 2048) (b : Fin 896) :
    ((cfg0.win 1).blk t).view.read (Elt Ideal) X (ix2 r b) = X (ix2 (row t.val r) (colY (t.val / 8) b)) := by
  have := lt t
  blk_ext [idx t]

end read

/-- One step adds the product of the two blocks. -/
theorem pay2_at (acc : S1024x896.Idx → EReal) (x : S2048x1024.Idx → EReal) (y : S2048x896.Idx → EReal) (a : Fin 1024) (b : Fin 896) :
    Gen.k0_pay2 (F := Ideal) acc x y (ix2 a b) = acc (ix2 a b) + ∑ r : Fin 2048, x (ix2 r a) * y (ix2 r b) := by
  pointwise [Gen.k0_pay2]

theorem pay1_at (i : S1024x896.Idx) : Gen.k0_pay1 (F := Ideal) i = 0 := by
  pointwise [Gen.k0_pay1]

variable (m : (ℓ : Loc nD τ sig) → Buf (Elt Ideal) ℓ) (c : Dev nD)

/-- The call's two arguments. -/
abbrev argX : S16384x1024.Idx → EReal := m (c.tc.loc main_arg0)
abbrev argY : S16384x2688.Idx → EReal := m (c.tc.loc main_arg1)

/-- What row `t` adds to the entry `i` of run `q`'s block. -/
noncomputable def term (q : ℕ) (i : S1024x896.Idx) (t : Fin 16384) : EReal :=
  argX m c (ix2 t (colX q (i 0))) * argY m c (ix2 t (colY q (i 1)))

theorem step_at (n : ℕ) (h : n < cfg0.N) (acc : S1024x896.Idx → EReal) (i : S1024x896.Idx) :
    Value.step2 m c n h acc i = acc i + ∑ r : Fin 2048, term m c (n / 8) i (row n r) := by
  rw [ValueIdx.eq_ix2 i]
  refine (pay2_at acc _ _ (i 0) (i 1)).trans ?_
  refine congrArg _ (Finset.sum_congr rfl fun r _ => ?_)
  exact congrArg₂ _ (read0 ⟨n, h⟩ (argX m c) r (i 0)) (read1 ⟨n, h⟩ (argY m c) r (i 1))

theorem reset_at (n : ℕ) (h : n < cfg0.N) (i : S1024x896.Idx) :
    Value.reset2 m c n h i = ∑ r : Fin 2048, term m c (n / 8) i (row n r) :=
  (step_at m c n h _ i).trans (by rw [pay1_at, zero_add])

/-- The call's result at an entry: the sum over all rows. -/
theorem result_at (i : S1024x2688.Idx) :
    (Value.G2 (F := Ideal) m c i : EReal) = ∑ t, argX m c (ix2 t (i 0)) * argY m c (ix2 t (i 1)) := by
  have h0 : (i 0).val < 1024 := (i 0).isLt
  have h1 : (i 1).val < 2688 := (i 1).isLt
  have hr : 8 * Value.run2Of i + 7 < cfg0.N := by
    rw [show cfg0.N = 24 from Gen.N_0]; simp only [Value.run2Of]; omega
  have ex : colX (Value.run2Of i) (Value.loc2Of i 0) = i 0 := Fin.ext (by simp only [colX, Value.run2Of, Value.loc2Of]; omega)
  have ey : colY (Value.run2Of i) (Value.loc2Of i 1) = i 1 := Fin.ext (by simp only [colY, Value.run2Of, Value.loc2Of]; omega)
  refine (dif_pos hr).trans ((run_rows (Value.reset2 m c) (Value.step2 m c) (term m c) (reset_at m c) (step_at m c) _ hr _).trans ?_)
  refine Finset.sum_congr rfl fun t _ => ?_
  unfold term
  rw [ex, ey]

/-- The call's result is the reference's. -/
theorem result (X : S16384x1024.Idx → EReal) (Y : S16384x2688.Idx → EReal) (hX : X = argX m c) (hY : Y = argY m c) :
    Value.G2 (F := Ideal) m c = transpose Cert.InRefIdeal.S1024x2688 [1, 0]
      (Host.dotGeneral (F := Ideal) Cert.InRefIdeal.dot_S16384x2688_S16384x1024_S2688x1024_0_0_1_1_n_n none
        (extf (F := Ideal) .f32 Y Cert.InRefIdeal.Gen.bitsLt_bf16_f32) (extf (F := Ideal) .f32 X Cert.InRefIdeal.Gen.bitsLt_bf16_f32))
      Cert.InRefIdeal.Gen.transposes_S2688x1024_S1024x2688_1_0 := by
  subst hX hY
  funext i
  rw [result_at, ValueIdx.eq_ix2 i]
  pointwise
  exact show (_ : EReal) = _ from Finset.sum_congr rfl fun t _ => EReal.mul_comm _ _

end Cert.InIdeal.Grad

end
-- ==== Proof.Mix.Point.lean ====
/-
What one step of the grid leaves in the result blocks and in the weight buffers.
-/
module

public import proofs.«01_k».proof.Proof.Gen.MixIdeal.Value
public import Idealize.ShloMosaic.Lib.Pipeline.ValueKit.Geometry
public import Idealize.ShloMosaic.Lib.Pipeline.ValueKit.Point

@[expose] public section

noncomputable section

namespace Cert.MixIdeal.Mix

open Cert.MixIdeal Cert.MixIdeal.Gen Idealize.ShloMosaic Idealize.ShloMosaic.TcCoe

variable {F : FTy → Type} [FloatOps F]

theorem hz : (![0, 0] : Fin 2 → Nat) = fun _ => 0 := funext fun a => by fin_cases a <;> rfl

section whole

variable {sig : RefSig} {κ : Kind} {sp : Space} {s : Shape} {e : EltTy} {Val : EltTy → Type} [∀ e, Nonempty (Val e)]

/-- One write of the whole array leaves what it wrote. -/
theorem canon_whole (P : s.Idx → Val e) : View.canon [(⟨Rect.whole s, P⟩ : View.Piece Val s e)] = P := by
  funext y
  have h := View.canon_cons_emb (Rect.whole s) P [] y
  rwa [show (Rect.whole s).emb y = y from funext fun a => Fin.ext (by rw [Rect.emb_apply]; show 0 + 1 * (y a).val = _; omega)] at h

/-- After one write of the whole array a load reads from what was written. -/
theorem readCov_whole (v : View sig κ sp s e) (P : s.Idx → Val e) (r : Rect s) :
    v.readCov [(⟨Rect.whole s, P⟩ : View.Piece Val s e)] r.toLoadRect = View.ld P r := by
  rw [View.readCov_eq_canon', canon_whole]

end whole

section step

variable (x : Vec F S256x1024 .f32) (o s : Vec F S256x512 .f32) (g e : Vec F S1x1024 .f32)
  (w0 : Vec F S1024x1024 .bf16) (w1 : Vec F S1024x5632 .bf16) (w2 : Vec F S2816x1024 .bf16)

/-- The two branches' outputs, normed and scaled. -/
def normO : FVec F S256x512 .bf16 := k0_pay4 o (View.ld g (Rect.unit ![0, 0] ![1, 512] inb_S1x1024_S1x512_0_0))
def normS : FVec F S256x512 .bf16 := k0_pay5 s (View.ld g (Rect.unit ![0, 512] ![1, 512] inb_S1x1024_S1x512_0_512))

/-- The upper and the lower half of the output weight. -/
def wTop : Vec F S512x1024 .bf16 := View.ld w0 (Rect.unit ![0, 0] ![512, 1024] inb_S1024x1024_S512x1024_0_0)
def wBot : Vec F S512x1024 .bf16 := View.ld w0 (Rect.unit ![512, 0] ![512, 1024] inb_S1024x1024_S512x1024_512_0)

/-- The four column blocks of the gate and up weight. -/
def wG0 : Vec F S1024x1408 .bf16 := View.ld w1 (Rect.unit ![0, 0] ![1024, 1408] inb_S1024x5632_S1024x1408_0_0)
def wG1 : Vec F S1024x1408 .bf16 := View.ld w1 (Rect.unit ![0, 1408] ![1024, 1408] inb_S1024x5632_S1024x1408_0_1408)
def wU0 : Vec F S1024x1408 .bf16 := View.ld w1 (Rect.unit ![0, 2816] ![1024, 1408] inb_S1024x5632_S1024x1408_0_2816)
def wU1 : Vec F S1024x1408 .bf16 := View.ld w1 (Rect.unit ![0, 4224] ![1024, 1408] inb_S1024x5632_S1024x1408_0_4224)

/-- The two row blocks of the down weight. -/
def wD0 : Vec F S1408x1024 .bf16 := View.ld w2 (Rect.unit ![0, 0] ![1408, 1024] inb_S2816x1024_S1408x1024_0_0)
def wD1 : Vec F S1408x1024 .bf16 := View.ld w2 (Rect.unit ![1408, 0] ![1408, 1024] inb_S2816x1024_S1408x1024_1408_0)

/-- The rows after the first residual sum. -/
def stepX1 : FVec F S256x1024 .f32 :=
  k0_pay6 (normO o g) (normS s g) x (wTop w0) (constant S256x1024 .f32 0#32) (wBot w0)

/-- The same rows normed and scaled. -/
def stepN : FVec F S256x1024 .bf16 :=
  k0_pay7 (normO o g) (normS s g) x (wTop w0) (constant S256x1024 .f32 0#32) (wBot w0) e

/-- A column block of the gate or of the up product. -/
def stepP (w : Vec F S1024x1408 .bf16) : FVec F S256x1408 .f32 := k0_pay1 (stepN x o s g e w0) w

/-- The rows after the second residual sum. -/
def stepX2 : FVec F S256x1024 .f32 :=
  k0_pay3 (stepX1 x o s g w0) (stepN x o s g e w0) (k0_pay8 (F := F)) (stepP x o s g e w0 (wG0 w1)) (stepP x o s g e w0 (wU0 w1))
    (k0_pay11 (normO o g) (normS s g) x (wTop w0) (constant S256x1024 .f32 0#32) (wBot w0) e (wG0 w1))
    (FloatOps.ofBits .f32 1065353216#32) (wD0 w2) (wG1 w1) (wU1 w1) (wD1 w2)

/-- The gate and up products, stored in four column blocks. -/
def stepGu : FVec F S256x5632 .f32 :=
  View.canon (Val := Elt F) (s := S256x5632) (e := .f32)
    [⟨Rect.unit ![0, 4224] ![256, 1408] inb_S256x5632_S256x1408_0_4224, stepP x o s g e w0 (wU1 w1)⟩,
      ⟨Rect.unit ![0, 1408] ![256, 1408] inb_S256x5632_S256x1408_0_1408, stepP x o s g e w0 (wG1 w1)⟩,
      ⟨Rect.unit ![0, 2816] ![256, 1408] inb_S256x5632_S256x1408_0_2816, stepP x o s g e w0 (wU0 w1)⟩,
      ⟨Rect.unit ![0, 0] ![256, 1408] inb_S256x5632_S256x1408_0_0, stepP x o s g e w0 (wG0 w1)⟩]

end step

/-- The rows after the first residual sum, at the first point, which also loads the weights. -/
theorem out_A_5 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : cond0_0 i)
    (x0 : Vec F S256x1024 .f32) (x1 : Vec F S256x512 .f32) (x2 : Vec F S256x512 .f32) (x3 : Vec F S1x1024 .f32) (x4 : Vec F S1x1024 .f32) (fh0 : HbBuf0 (F := F) c hbM0_0) (fh1 : HbBuf0 (F := F) c hbM0_1) (fh2 : HbBuf0 (F := F) c hbM0_2) :
    out0_A_5 c i arg1 harg1 arg2 harg2 arg3 harg3 arg4 harg4 arg5 harg5 arg9 harg9 arg10 harg10 arg11 harg11 arg12 harg12 arg13 harg13 arg14 harg14 hc0 x0 x1 x2 x3 x4 fh0 fh1 fh2 = stepX1 x0 x1 x2 x3 fh0 := by
  unfold out0_A_5
  rw [View.read_writes_eq_canon _ _ _ (cover0_A_5 c i arg1 harg1 arg2 harg2 arg3 harg3 arg4 harg4 arg5 harg5 arg9 harg9 arg10 harg10 arg11 harg11 arg12 harg12 arg13 harg13 arg14 harg14 hc0 x0 x1 x2 x3 x4 fh0 fh1 fh2)]
  unfold kernelRun0_A
  dsimp only
  try sl_unfold_words
  simp only [View.readAt_eq_ld, harg1.read_unread, harg2.read_unread, harg3.read_unread, harg4.read_unread, harg5.read_unread, harg12.read_unread, harg13.read_unread, harg14.read_unread, readCov_whole, View.ld_unit_zero (S := S256x1024) hz, View.ld_unit_zero (S := S256x512) hz, View.ld_unit_zero (S := S1x1024) hz, View.canon_unit_zero (S := S256x1024) hz]
  rfl

/-- The rows after the second residual sum, at the first point, which also loads the weights. -/
theorem out_A_6 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : cond0_0 i)
    (x0 : Vec F S256x1024 .f32) (x1 : Vec F S256x512 .f32) (x2 : Vec F S256x512 .f32) (x3 : Vec F S1x1024 .f32) (x4 : Vec F S1x1024 .f32) (fh0 : HbBuf0 (F := F) c hbM0_0) (fh1 : HbBuf0 (F := F) c hbM0_1) (fh2 : HbBuf0 (F := F) c hbM0_2) :
    out0_A_6 c i arg1 harg1 arg2 harg2 arg3 harg3 arg4 harg4 arg5 harg5 arg9 harg9 arg10 harg10 arg11 harg11 arg12 harg12 arg13 harg13 arg14 harg14 hc0 x0 x1 x2 x3 x4 fh0 fh1 fh2 = stepX2 x0 x1 x2 x3 x4 fh0 fh1 fh2 := by
  unfold out0_A_6
  rw [View.read_writes_eq_canon _ _ _ (cover0_A_6 c i arg1 harg1 arg2 harg2 arg3 harg3 arg4 harg4 arg5 harg5 arg9 harg9 arg10 harg10 arg11 harg11 arg12 harg12 arg13 harg13 arg14 harg14 hc0 x0 x1 x2 x3 x4 fh0 fh1 fh2)]
  unfold kernelRun0_A
  dsimp only
  try sl_unfold_words
  simp only [View.readAt_eq_ld, harg1.read_unread, harg2.read_unread, harg3.read_unread, harg4.read_unread, harg5.read_unread, harg12.read_unread, harg13.read_unread, harg14.read_unread, readCov_whole, View.ld_unit_zero (S := S256x1024) hz, View.ld_unit_zero (S := S256x512) hz, View.ld_unit_zero (S := S1x1024) hz, View.canon_unit_zero (S := S256x1024) hz]
  rfl

/-- The gate and up products, at the first point, which also loads the weights. -/
theorem out_A_7 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : cond0_0 i)
    (x0 : Vec F S256x1024 .f32) (x1 : Vec F S256x512 .f32) (x2 : Vec F S256x512 .f32) (x3 : Vec F S1x1024 .f32) (x4 : Vec F S1x1024 .f32) (fh0 : HbBuf0 (F := F) c hbM0_0) (fh1 : HbBuf0 (F := F) c hbM0_1) (fh2 : HbBuf0 (F := F) c hbM0_2) :
    out0_A_7 c i arg1 harg1 arg2 harg2 arg3 harg3 arg4 harg4 arg5 harg5 arg9 harg9 arg10 harg10 arg11 harg11 arg12 harg12 arg13 harg13 arg14 harg14 hc0 x0 x1 x2 x3 x4 fh0 fh1 fh2 = stepGu x0 x1 x2 x3 x4 fh0 fh1 := by
  unfold out0_A_7
  rw [View.read_writes_eq_canon _ _ _ (cover0_A_7 c i arg1 harg1 arg2 harg2 arg3 harg3 arg4 harg4 arg5 harg5 arg9 harg9 arg10 harg10 arg11 harg11 arg12 harg12 arg13 harg13 arg14 harg14 hc0 x0 x1 x2 x3 x4 fh0 fh1 fh2)]
  unfold kernelRun0_A
  dsimp only
  try sl_unfold_words
  simp only [View.readAt_eq_ld, harg1.read_unread, harg2.read_unread, harg3.read_unread, harg4.read_unread, harg5.read_unread, harg12.read_unread, harg13.read_unread, harg14.read_unread, readCov_whole, View.ld_unit_zero (S := S256x1024) hz, View.ld_unit_zero (S := S256x512) hz, View.ld_unit_zero (S := S1x1024) hz, View.canon_unit_zero (S := S256x1024) hz]
  rfl

/-- The rows after the first residual sum, at a later point. -/
theorem out_B_5 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : ¬cond0_0 i)
    (x0 : Vec F S256x1024 .f32) (x1 : Vec F S256x512 .f32) (x2 : Vec F S256x512 .f32) (x3 : Vec F S1x1024 .f32) (x4 : Vec F S1x1024 .f32) (xs0 : Vec F S1024x1024 .bf16) (xs1 : Vec F S1024x5632 .bf16) (xs2 : Vec F S2816x1024 .bf16) (fh0 : HbBuf0 (F := F) c hbM0_0) (fh1 : HbBuf0 (F := F) c hbM0_1) (fh2 : HbBuf0 (F := F) c hbM0_2) :
    out0_B_5 c i arg1 harg1 arg2 harg2 arg3 harg3 arg4 harg4 arg5 harg5 arg9 harg9 arg10 harg10 arg11 harg11 arg12 harg12 arg13 harg13 arg14 harg14 hc0 x0 x1 x2 x3 x4 xs0 xs1 xs2 fh0 fh1 fh2 = stepX1 x0 x1 x2 x3 xs0 := by
  unfold out0_B_5
  rw [View.read_writes_eq_canon _ _ _ (cover0_B_5 c i arg1 harg1 arg2 harg2 arg3 harg3 arg4 harg4 arg5 harg5 arg9 harg9 arg10 harg10 arg11 harg11 arg12 harg12 arg13 harg13 arg14 harg14 hc0 x0 x1 x2 x3 x4 xs0 xs1 xs2 fh0 fh1 fh2)]
  unfold kernelRun0_B
  dsimp only
  try sl_unfold_words
  simp only [View.readAt_eq_ld, harg1.read_unread, harg2.read_unread, harg3.read_unread, harg4.read_unread, harg5.read_unread, harg12.read_unread, harg13.read_unread, harg14.read_unread, readCov_whole, View.ld_unit_zero (S := S256x1024) hz, View.ld_unit_zero (S := S256x512) hz, View.ld_unit_zero (S := S1x1024) hz, View.canon_unit_zero (S := S256x1024) hz]
  rfl

/-- The rows after the second residual sum, at a later point. -/
theorem out_B_6 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : ¬cond0_0 i)
    (x0 : Vec F S256x1024 .f32) (x1 : Vec F S256x512 .f32) (x2 : Vec F S256x512 .f32) (x3 : Vec F S1x1024 .f32) (x4 : Vec F S1x1024 .f32) (xs0 : Vec F S1024x1024 .bf16) (xs1 : Vec F S1024x5632 .bf16) (xs2 : Vec F S2816x1024 .bf16) (fh0 : HbBuf0 (F := F) c hbM0_0) (fh1 : HbBuf0 (F := F) c hbM0_1) (fh2 : HbBuf0 (F := F) c hbM0_2) :
    out0_B_6 c i arg1 harg1 arg2 harg2 arg3 harg3 arg4 harg4 arg5 harg5 arg9 harg9 arg10 harg10 arg11 harg11 arg12 harg12 arg13 harg13 arg14 harg14 hc0 x0 x1 x2 x3 x4 xs0 xs1 xs2 fh0 fh1 fh2 = stepX2 x0 x1 x2 x3 x4 xs0 xs1 xs2 := by
  unfold out0_B_6
  rw [View.read_writes_eq_canon _ _ _ (cover0_B_6 c i arg1 harg1 arg2 harg2 arg3 harg3 arg4 harg4 arg5 harg5 arg9 harg9 arg10 harg10 arg11 harg11 arg12 harg12 arg13 harg13 arg14 harg14 hc0 x0 x1 x2 x3 x4 xs0 xs1 xs2 fh0 fh1 fh2)]
  unfold kernelRun0_B
  dsimp only
  try sl_unfold_words
  simp only [View.readAt_eq_ld, harg1.read_unread, harg2.read_unread, harg3.read_unread, harg4.read_unread, harg5.read_unread, harg12.read_unread, harg13.read_unread, harg14.read_unread, readCov_whole, View.ld_unit_zero (S := S256x1024) hz, View.ld_unit_zero (S := S256x512) hz, View.ld_unit_zero (S := S1x1024) hz, View.canon_unit_zero (S := S256x1024) hz]
  rfl

/-- The gate and up products, at a later point. -/
theorem out_B_7 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : ¬cond0_0 i)
    (x0 : Vec F S256x1024 .f32) (x1 : Vec F S256x512 .f32) (x2 : Vec F S256x512 .f32) (x3 : Vec F S1x1024 .f32) (x4 : Vec F S1x1024 .f32) (xs0 : Vec F S1024x1024 .bf16) (xs1 : Vec F S1024x5632 .bf16) (xs2 : Vec F S2816x1024 .bf16) (fh0 : HbBuf0 (F := F) c hbM0_0) (fh1 : HbBuf0 (F := F) c hbM0_1) (fh2 : HbBuf0 (F := F) c hbM0_2) :
    out0_B_7 c i arg1 harg1 arg2 harg2 arg3 harg3 arg4 harg4 arg5 harg5 arg9 harg9 arg10 harg10 arg11 harg11 arg12 harg12 arg13 harg13 arg14 harg14 hc0 x0 x1 x2 x3 x4 xs0 xs1 xs2 fh0 fh1 fh2 = stepGu x0 x1 x2 x3 x4 xs0 xs1 := by
  unfold out0_B_7
  rw [View.read_writes_eq_canon _ _ _ (cover0_B_7 c i arg1 harg1 arg2 harg2 arg3 harg3 arg4 harg4 arg5 harg5 arg9 harg9 arg10 harg10 arg11 harg11 arg12 harg12 arg13 harg13 arg14 harg14 hc0 x0 x1 x2 x3 x4 xs0 xs1 xs2 fh0 fh1 fh2)]
  unfold kernelRun0_B
  dsimp only
  try sl_unfold_words
  simp only [View.readAt_eq_ld, harg1.read_unread, harg2.read_unread, harg3.read_unread, harg4.read_unread, harg5.read_unread, harg12.read_unread, harg13.read_unread, harg14.read_unread, readCov_whole, View.ld_unit_zero (S := S256x1024) hz, View.ld_unit_zero (S := S256x512) hz, View.ld_unit_zero (S := S1x1024) hz, View.canon_unit_zero (S := S256x1024) hz]
  rfl

/-- The first point leaves the weight in its buffer. -/
theorem sout_A_0 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : cond0_0 i)
    (x0 : Vec F S256x1024 .f32) (x1 : Vec F S256x512 .f32) (x2 : Vec F S256x512 .f32) (x3 : Vec F S1x1024 .f32) (x4 : Vec F S1x1024 .f32) (fh0 : HbBuf0 (F := F) c hbM0_0) (fh1 : HbBuf0 (F := F) c hbM0_1) (fh2 : HbBuf0 (F := F) c hbM0_2) :
    sout0_A_0 c i arg1 harg1 arg2 harg2 arg3 harg3 arg4 harg4 arg5 harg5 arg9 harg9 arg10 harg10 arg11 harg11 arg12 harg12 arg13 harg13 arg14 harg14 hc0 x0 x1 x2 x3 x4 fh0 fh1 fh2 = fh0 := by
  unfold sout0_A_0
  rw [View.read_writes_eq_canon _ _ _ (scover0_A_0 c i arg1 harg1 arg2 harg2 arg3 harg3 arg4 harg4 arg5 harg5 arg9 harg9 arg10 harg10 arg11 harg11 arg12 harg12 arg13 harg13 arg14 harg14 hc0 x0 x1 x2 x3 x4 fh0 fh1 fh2)]
  unfold kernelRun0_A
  dsimp only
  try sl_unfold_words
  exact canon_whole _

/-- The first point leaves the weight in its buffer. -/
theorem sout_A_1 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : cond0_0 i)
    (x0 : Vec F S256x1024 .f32) (x1 : Vec F S256x512 .f32) (x2 : Vec F S256x512 .f32) (x3 : Vec F S1x1024 .f32) (x4 : Vec F S1x1024 .f32) (fh0 : HbBuf0 (F := F) c hbM0_0) (fh1 : HbBuf0 (F := F) c hbM0_1) (fh2 : HbBuf0 (F := F) c hbM0_2) :
    sout0_A_1 c i arg1 harg1 arg2 harg2 arg3 harg3 arg4 harg4 arg5 harg5 arg9 harg9 arg10 harg10 arg11 harg11 arg12 harg12 arg13 harg13 arg14 harg14 hc0 x0 x1 x2 x3 x4 fh0 fh1 fh2 = fh1 := by
  unfold sout0_A_1
  rw [View.read_writes_eq_canon _ _ _ (scover0_A_1 c i arg1 harg1 arg2 harg2 arg3 harg3 arg4 harg4 arg5 harg5 arg9 harg9 arg10 harg10 arg11 harg11 arg12 harg12 arg13 harg13 arg14 harg14 hc0 x0 x1 x2 x3 x4 fh0 fh1 fh2)]
  unfold kernelRun0_A
  dsimp only
  try sl_unfold_words
  exact canon_whole _

/-- The first point leaves the weight in its buffer. -/
theorem sout_A_2 (c : Dev nD) (i : grid0.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .f32) (harg9 : arg9.IsWhole) (arg10 : Memref sig .tc .vmem S256x1024 .f32) (harg10 : arg10.IsWhole) (arg11 : Memref sig .tc .vmem S256x5632 .f32) (harg11 : arg11.IsWhole) (arg12 : Memref sig .tc .vmem S1024x1024 .bf16) (harg12 : arg12.IsWhole) (arg13 : Memref sig .tc .vmem S1024x5632 .bf16) (harg13 : arg13.IsWhole) (arg14 : Memref sig .tc .vmem S2816x1024 .bf16) (harg14 : arg14.IsWhole) (hc0 : cond0_0 i)
    (x0 : Vec F S256x1024 .f32) (x1 : Vec F S256x512 .f32) (x2 : Vec F S256x512 .f32) (x3 : Vec F S1x1024 .f32) (x4 : Vec F S1x1024 .f32) (fh0 : HbBuf0 (F := F) c hbM0_0) (fh1 : HbBuf0 (F := F) c hbM0_1) (fh2 : HbBuf0 (F := F) c hbM0_2) :
    sout0_A_2 c i arg1 harg1 arg2 harg2 arg3 harg3 arg4 harg4 arg5 harg5 arg9 harg9 arg10 harg10 arg11 harg11 arg12 harg12 arg13 harg13 arg14 harg14 hc0 x0 x1 x2 x3 x4 fh0 fh1 fh2 = fh2 := by
  unfold sout0_A_2
  rw [View.read_writes_eq_canon _ _ _ (scover0_A_2 c i arg1 harg1 arg2 harg2 arg3 harg3 arg4 harg4 arg5 harg5 arg9 harg9 arg10 harg10 arg11 harg11 arg12 harg12 arg13 harg13 arg14 harg14 hc0 x0 x1 x2 x3 x4 fh0 fh1 fh2)]
  unfold kernelRun0_A
  dsimp only
  try sl_unfold_words
  exact canon_whole _

variable (m : (ℓ : Loc nD τ sig) → Buf (Elt F) ℓ) (c : Dev nD)

/-- After every point the buffers hold the weights. -/
theorem carried : ∀ (n : ℕ) (hn : n < cfg0.N),
    (outsAt0 m c n hn).2.2.2 = ((V m c main_v2, V m c main_v3, V m c main_v4) : Vec F S1024x1024 .bf16 × Vec F S1024x5632 .bf16 × Vec F S2816x1024 .bf16)
  | 0, hn => by
    have e := outsAt0_A m c ⟨0, hn⟩ rfl
    dsimp only at e
    simp only [e, sout_A_0, sout_A_1, sout_A_2]
  | n + 1, hn => by
    by_cases h : (n + 1) % 64 = 0
    · have e := outsAt0_A m c ⟨n + 1, hn⟩ h
      dsimp only at e
      simp only [e, sout_A_0, sout_A_1, sout_A_2]
    · have e := outsAt0_B m c ⟨n + 1, hn⟩ h
      dsimp only at e
      simp only [e, sout0_B_0, sout0_B_1, sout0_B_2, Nat.add_sub_cancel, carried n (Nat.lt_of_succ_lt hn)]

/-- What a point leaves in the first result's block. -/
theorem outs5 (t : Fin cfg0.N) :
    (outsAt0 m c t.val t.isLt).1 = stepX1 (iblk m c 0 t) (iblk m c 1 t) (iblk m c 2 t) (iblk m c 3 t) (V m c main_v2) := by
  by_cases h : t.val % 64 = 0
  · simp only [outsAt0_A m c t h, out_A_5]
  · have hc := carried m c (t.val - 1) (Nat.lt_of_le_of_lt (Nat.sub_le _ _) t.isLt)
    simp only [outsAt0_B m c t h, out_B_5, hc]

/-- What a point leaves in the second result's block. -/
theorem outs6 (t : Fin cfg0.N) :
    (outsAt0 m c t.val t.isLt).2.1 = stepX2 (iblk m c 0 t) (iblk m c 1 t) (iblk m c 2 t) (iblk m c 3 t) (iblk m c 4 t) (V m c main_v2) (V m c main_v3) (V m c main_v4) := by
  by_cases h : t.val % 64 = 0
  · simp only [outsAt0_A m c t h, out_A_6]
  · have hc := carried m c (t.val - 1) (Nat.lt_of_le_of_lt (Nat.sub_le _ _) t.isLt)
    simp only [outsAt0_B m c t h, out_B_6, hc]

/-- What a point leaves in the third result's block. -/
theorem outs7 (t : Fin cfg0.N) :
    (outsAt0 m c t.val t.isLt).2.2.1 = stepGu (iblk m c 0 t) (iblk m c 1 t) (iblk m c 2 t) (iblk m c 3 t) (iblk m c 4 t) (V m c main_v2) (V m c main_v3) := by
  by_cases h : t.val % 64 = 0
  · simp only [outsAt0_A m c t h, out_A_7]
  · have hc := carried m c (t.val - 1) (Nat.lt_of_le_of_lt (Nat.sub_le _ _) t.isLt)
    simp only [outsAt0_B m c t h, out_B_7, hc]

end Cert.MixIdeal.Mix

end

end
-- ==== Proof.Mix.Row.lean ====
/-
The second half of a layer on one token, as sums over the entries of its rows.
-/
module

public import Idealize.ShloMosaic.Lib.Pointwise.Reduce
public import Idealize.ShloMosaic.Lib.Pointwise.Contract
public import Idealize.ShloMosaic.Lib.Pointwise.Tactic

@[expose] public section

noncomputable section

namespace Cert.Mix.Row

open Idealize.ShloMosaic

/-- A sum over `a + b` entries is the sum over the first `a` plus the sum over the last `b`. -/
theorem sum_split {n : ℕ} (a b : ℕ) (h : n = a + b) (f : Fin n → EReal) :
    ∑ k, f k = ∑ k : Fin a, f ⟨k.val, by omega⟩ + ∑ k : Fin b, f ⟨a + k.val, by omega⟩ := by
  subst h
  exact Fin.sum_univ_add f

/-- The reciprocal root of a row's mean square, `c` the number of its entries. -/
def inv {n : ℕ} (c : EReal) (v : Fin n → EReal) : EReal :=
  Ideal.rsqrt (Ideal.div (∑ k, v k * v k) c + Ideal.ofBits .f32 897988541#32)

/-- 512 and 1024. -/
abbrev c512 : EReal := Ideal.ofBits .f32 1140850688#32
abbrev c1024 : EReal := Ideal.ofBits .f32 1149239296#32

variable (x : Fin 1024 → EReal) (o s : Fin 512 → EReal) (g e : Fin 1024 → EReal)
  (w0 : Fin 1024 → Fin 1024 → EReal) (w1 : Fin 1024 → Fin 5632 → EReal) (w2 : Fin 2816 → Fin 1024 → EReal)

/-- The two branches' rows normed, scaled, and put side by side. -/
def merged (k : Fin 1024) : EReal :=
  if h : k.val < 512 then o ⟨k.val, h⟩ * inv c512 o * g ⟨k.val, by omega⟩
  else s ⟨k.val - 512, by omega⟩ * inv c512 s * g ⟨512 + (k.val - 512), by omega⟩

/-- The row after the first residual sum. -/
def x1 (n : Fin 1024) : EReal := x n + ∑ k, merged o s g k * w0 k n

/-- A row normed and scaled. -/
def normed (v : Fin 1024 → EReal) (n : Fin 1024) : EReal := v n * inv c1024 v * e n

/-- The gate and up products of a normed row. -/
def gu (v : Fin 1024 → EReal) (f : Fin 5632) : EReal := ∑ k, v k * w1 k f

/-- The gated product: the gate through `a / (1 + exp (-a))`, times the up product. -/
def act (p : Fin 5632 → EReal) (f : Fin 2816) : EReal :=
  p ⟨f.val, by omega⟩ * Ideal.div 1 (1 + Ideal.exp (-p ⟨f.val, by omega⟩)) * p ⟨2816 + f.val, by omega⟩

/-- The row after the second residual sum. -/
def x2 (v : Fin 1024 → EReal) (p : Fin 5632 → EReal) (n : Fin 1024) : EReal := v n + ∑ f, act p f * w2 f n

/-- The first residual sum, the product taken half by half. -/
theorem x1_split (n : Fin 1024) :
    x1 x o s g w0 n = x n + (∑ k : Fin 512, o k * inv c512 o * g ⟨k.val, by omega⟩ * w0 ⟨k.val, by omega⟩ n
      + ∑ k : Fin 512, s k * inv c512 s * g ⟨512 + k.val, by omega⟩ * w0 ⟨512 + k.val, by omega⟩ n) := by
  refine congrArg _ ((sum_split 512 512 rfl _).trans (congrArg₂ _ (Finset.sum_congr rfl fun k _ => ?_) (Finset.sum_congr rfl fun k _ => ?_)))
  · refine congrArg (· * _) ((dif_pos k.isLt).trans rfl)
  · refine congrArg (· * _) ((dif_neg (show ¬512 + k.val < 512 by omega)).trans ?_)
    have e : 512 + k.val - 512 = k.val := Nat.add_sub_cancel_left ..
    simp only [e]

/-- The second residual sum, the product taken half by half. -/
theorem x2_split (v : Fin 1024 → EReal) (p : Fin 5632 → EReal) (n : Fin 1024) :
    x2 w2 v p n = v n + (∑ f : Fin 1408, act p ⟨f.val, by omega⟩ * w2 ⟨f.val, by omega⟩ n
      + ∑ f : Fin 1408, act p ⟨1408 + f.val, by omega⟩ * w2 ⟨1408 + f.val, by omega⟩ n) :=
  congrArg _ (sum_split 1408 1408 rfl _)

end Cert.Mix.Row

end

end
-- ==== Proof.Mix.Step.lean ====
/-
A row of what one point leaves is the second half of a layer on that row of the point's blocks.
-/
module

public import proofs.«01_k».proof.Proof.Mix.Point
public import proofs.«01_k».proof.Proof.Mix.Row

@[expose] public section

noncomputable section

namespace Cert.MixIdeal.Mix

open Cert.MixIdeal Cert.MixIdeal.Gen Cert.Mix Idealize.ShloMosaic Idealize.ShloMosaic.TcCoe

variable (x : S256x1024.Idx → EReal) (o s : S256x512.Idx → EReal) (g e : S1x1024.Idx → EReal)
  (w0 : S1024x1024.Idx → EReal) (w1 : S1024x5632.Idx → EReal) (w2 : S2816x1024.Idx → EReal) (r : Fin 256)

theorem normO_at (j : Fin 512) :
    normO (F := Ideal) o g (ix2 r j) = o (ix2 r j) * Row.inv Row.c512 (fun k => o (ix2 r k)) * g (ix2 0 ⟨j.val, by omega⟩) := by
  pointwise [normO, k0_pay4]
  rfl

theorem normS_at (j : Fin 512) :
    normS (F := Ideal) s g (ix2 r j) = s (ix2 r j) * Row.inv Row.c512 (fun k => s (ix2 r k)) * g (ix2 0 ⟨512 + j.val, by omega⟩) := by
  pointwise [normS, k0_pay5]
  rfl

/-- A row after the first residual sum. -/
abbrev rowX1 : Fin 1024 → EReal :=
  Row.x1 (fun k => x (ix2 r k)) (fun k => o (ix2 r k)) (fun k => s (ix2 r k)) (fun k => g (ix2 0 k)) (fun k n => w0 (ix2 k n))

theorem stepX1_at (n : Fin 1024) : stepX1 (F := Ideal) x o s g w0 (ix2 r n) = rowX1 x o s g w0 r n := by
  refine Eq.trans ?_ (Row.x1_split _ _ _ _ _ n).symm
  pointwise [stepX1, k0_pay6, wTop, wBot, normO_at, normS_at]

/-- The row normed and scaled. -/
abbrev rowN : Fin 1024 → EReal := Row.normed (fun k => e (ix2 0 k)) (rowX1 x o s g w0 r)

theorem stepN_at (n : Fin 1024) : stepN (F := Ideal) x o s g e w0 (ix2 r n) = rowN x o s g e w0 r n := by
  have h : (fun k => stepX1 (F := Ideal) x o s g w0 (ix2 r k)) = rowX1 x o s g w0 r := funext (stepX1_at x o s g w0 r)
  unfold rowN
  rw [← h]
  unfold stepX1
  pointwise [stepN, k0_pay7]
  rfl

/-- The row's gate and up products. -/
abbrev rowGu : Fin 5632 → EReal := Row.gu (fun k f => w1 (ix2 k f)) (rowN x o s g e w0 r)

theorem stepP_at (w : S1024x1408.Idx → EReal) (j : Fin 1408) :
    stepP (F := Ideal) x o s g e w0 w (ix2 r j) = ∑ k, rowN x o s g e w0 r k * w (ix2 k j) := by
  pointwise [stepP, k0_pay1, stepN_at]

theorem stepG0_at (j : Fin 1408) : stepP (F := Ideal) x o s g e w0 (wG0 (F := Ideal) w1) (ix2 r j) = rowGu x o s g e w0 w1 r ⟨j.val, by omega⟩ := by
  pointwise [stepP_at, wG0]
  rfl

theorem stepG1_at (j : Fin 1408) : stepP (F := Ideal) x o s g e w0 (wG1 (F := Ideal) w1) (ix2 r j) = rowGu x o s g e w0 w1 r ⟨1408 + j.val, by omega⟩ := by
  pointwise [stepP_at, wG1]
  rfl

theorem stepU0_at (j : Fin 1408) : stepP (F := Ideal) x o s g e w0 (wU0 (F := Ideal) w1) (ix2 r j) = rowGu x o s g e w0 w1 r ⟨2816 + j.val, by omega⟩ := by
  pointwise [stepP_at, wU0]
  rfl

theorem stepU1_at (j : Fin 1408) : stepP (F := Ideal) x o s g e w0 (wU1 (F := Ideal) w1) (ix2 r j) = rowGu x o s g e w0 w1 r ⟨4224 + j.val, by omega⟩ := by
  pointwise [stepP_at, wU1]
  rfl

/-- The second result in terms of the column blocks of the gate and up products. -/
theorem stepX2_blocks (n : Fin 1024) :
    stepX2 (F := Ideal) x o s g e w0 w1 w2 (ix2 r n) = stepX1 (F := Ideal) x o s g w0 (ix2 r n)
      + (∑ f : Fin 1408, stepP (F := Ideal) x o s g e w0 (wG0 (F := Ideal) w1) (ix2 r f)
            * Ideal.div 1 (1 + Ideal.exp (0 - stepP (F := Ideal) x o s g e w0 (wG0 (F := Ideal) w1) (ix2 r f)))
            * stepP (F := Ideal) x o s g e w0 (wU0 (F := Ideal) w1) (ix2 r f) * w2 (ix2 ⟨f.val, by omega⟩ n)
        + ∑ f : Fin 1408, stepP (F := Ideal) x o s g e w0 (wG1 (F := Ideal) w1) (ix2 r f)
            * Ideal.div 1 (1 + Ideal.exp (0 - stepP (F := Ideal) x o s g e w0 (wG1 (F := Ideal) w1) (ix2 r f)))
            * stepP (F := Ideal) x o s g e w0 (wU1 (F := Ideal) w1) (ix2 r f) * w2 (ix2 ⟨1408 + f.val, by omega⟩ n)) := by
  pointwise [stepX2, stepP, stepN, k0_pay3, k0_pay11, k0_pay9, k0_pay8, k0_pay1, k0_pay2, wG0, wG1, wU0, wU1, wD0, wD1]

theorem zero_sub' (a : EReal) : 0 - a = -a := by rw [sub_eq_add_neg, zero_add]

theorem stepX2_at (n : Fin 1024) :
    stepX2 (F := Ideal) x o s g e w0 w1 w2 (ix2 r n) = Row.x2 (fun f n => w2 (ix2 f n)) (rowX1 x o s g w0 r) (rowGu x o s g e w0 w1 r) n := by
  rw [stepX2_blocks, Row.x2_split]
  simp only [stepX1_at, stepG0_at, stepG1_at, stepU0_at, stepU1_at, zero_sub']
  refine congrArg _ (congrArg _ (Finset.sum_congr rfl fun f _ => ?_))
  have e : 2816 + (1408 + f.val) = 4224 + f.val := by omega
  simp only [Row.act, e]

theorem stepGu_at (f : Fin 5632) : stepGu (F := Ideal) x o s g e w0 w1 (ix2 r f) = rowGu x o s g e w0 w1 r f := by
  have hf := f.isLt
  unfold stepGu
  refine View.canon_eq_of_allAt _ _ _ (View.cover_of_tiled_head _ _ _ rfl _) ?_
  refine View.allAt_cons_unit _ _ _ _ _ ?_ (View.allAt_cons_unit _ _ _ _ _ ?_ (View.allAt_cons_unit _ _ _ _ _ ?_ (View.allAt_cons_unit _ _ _ _ _ ?_ (View.allAt_nil _ _))))
  · intro y hy
    obtain ⟨a, j, rfl⟩ : ∃ (a : Fin 256) (j : Fin 1408), y = ix2 a j := ⟨y 0, y 1, ValueIdx.eq_ix2 y⟩
    have h0 : r.val = 0 + a.val := hy 0
    have h1 : f.val = 4224 + j.val := hy 1
    obtain rfl : r = a := Fin.ext (by omega)
    exact (stepU1_at x o s g e w0 w1 r j).trans (congrArg _ (Fin.ext (by exact h1.symm)))
  · intro y hy
    obtain ⟨a, j, rfl⟩ : ∃ (a : Fin 256) (j : Fin 1408), y = ix2 a j := ⟨y 0, y 1, ValueIdx.eq_ix2 y⟩
    have h0 : r.val = 0 + a.val := hy 0
    have h1 : f.val = 1408 + j.val := hy 1
    obtain rfl : r = a := Fin.ext (by omega)
    exact (stepG1_at x o s g e w0 w1 r j).trans (congrArg _ (Fin.ext (by exact h1.symm)))
  · intro y hy
    obtain ⟨a, j, rfl⟩ : ∃ (a : Fin 256) (j : Fin 1408), y = ix2 a j := ⟨y 0, y 1, ValueIdx.eq_ix2 y⟩
    have h0 : r.val = 0 + a.val := hy 0
    have h1 : f.val = 2816 + j.val := hy 1
    obtain rfl : r = a := Fin.ext (by omega)
    exact (stepU0_at x o s g e w0 w1 r j).trans (congrArg _ (Fin.ext (by exact h1.symm)))
  · intro y hy
    obtain ⟨a, j, rfl⟩ : ∃ (a : Fin 256) (j : Fin 1408), y = ix2 a j := ⟨y 0, y 1, ValueIdx.eq_ix2 y⟩
    have h0 : r.val = 0 + a.val := hy 0
    have h1 : f.val = 0 + j.val := hy 1
    obtain rfl : r = a := Fin.ext (by omega)
    exact (stepG0_at x o s g e w0 w1 r j).trans (congrArg _ (Fin.ext (by exact (h1.trans (Nat.zero_add _)).symm)))

end Cert.MixIdeal.Mix

end

end
-- ==== Proof.Mix.Arrays.lean ====
/-
The arrays of results after the call: every row is the second half of a layer on that row of the arguments.
-/
module

public import proofs.«01_k».proof.Proof.Mix.Step

@[expose] public section

noncomputable section

namespace Cert.MixIdeal.Mix

open Cert.MixIdeal Cert.MixIdeal.Gen Cert.Mix Idealize.ShloMosaic Idealize.ShloMosaic.TcCoe
open Idealize.ShloMosaic.Pipeline (Dat)

variable (m : (ℓ : Loc nD τ sig) → Buf (Elt Ideal) ℓ) (c : Dev nD)

/-- The call's eight arguments. -/
abbrev argX : S16384x1024.Idx → EReal := m (c.tc.loc main_arg0)
abbrev argO : S16384x512.Idx → EReal := m (c.tc.loc main_arg1)
abbrev argS : S16384x512.Idx → EReal := m (c.tc.loc main_arg2)
abbrev argG : S1024.Idx → EReal := m (c.tc.loc main_arg3)
abbrev argE : S1024.Idx → EReal := m (c.tc.loc main_arg4)
abbrev argW0 : S1024x1024.Idx → EReal := m (c.tc.loc main_arg5)
abbrev argW1 : S1024x5632.Idx → EReal := m (c.tc.loc main_arg6)
abbrev argW2 : S2816x1024.Idx → EReal := m (c.tc.loc main_arg7)

/-- The row of the arrays that row `r` of a block is, at point `t`. -/
abbrev at_ (t : Fin cfg0.N) (r : Fin 256) : Fin 16384 :=
  ⟨256 * t.val + r.val, by have : t.val < 64 := t.isLt; omega⟩

section host

theorem V_gain : (V m c main_v0 : S1x1024.Idx → EReal) = broadcastInDim S1x1024 ![1] bcast_S1024_S1x1024_1 (argG m c) := by
  simp only [V, hostOps0]; after_results_simp

theorem V_gainE : (V m c main_v1 : S1x1024.Idx → EReal) = broadcastInDim S1x1024 ![1] bcast_S1024_S1x1024_1 (argE m c) := by
  simp only [V, hostOps0]; after_results_simp

theorem V_w0 : (V m c main_v2 : S1024x1024.Idx → EReal) = argW0 m c := by
  refine Eq.trans (b := truncf (F := Ideal) .bf16 (argW0 m c) bitsLt_bf16_f32) ?_ (funext fun i => by pointwise)
  simp only [V, hostOps0]; after_results_simp

theorem V_w1 : (V m c main_v3 : S1024x5632.Idx → EReal) = argW1 m c := by
  refine Eq.trans (b := truncf (F := Ideal) .bf16 (argW1 m c) bitsLt_bf16_f32) ?_ (funext fun i => by pointwise)
  simp only [V, hostOps0]; after_results_simp

theorem V_w2 : (V m c main_v4 : S2816x1024.Idx → EReal) = argW2 m c := by
  refine Eq.trans (b := truncf (F := Ideal) .bf16 (argW2 m c) bitsLt_bf16_f32) ?_ (funext fun i => by pointwise)
  simp only [V, hostOps0]; after_results_simp

end host

theorem idx : ∀ t : Fin cfg0.N, win0_0.index t = ![t.val, 0] ∧ win0_1.index t = ![t.val, 0] ∧ win0_2.index t = ![t.val, 0]
    ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

section read

variable (t : Fin cfg0.N)

theorem read0 (X : S16384x1024.Idx → EReal) (r : Fin 256) (k : Fin 1024) :
    ((cfg0.win 0).blk t).view.read (Elt Ideal) X (ix2 r k) = X (ix2 (at_ t r) k) := by
  blk_ext [idx t]

theorem read1 (X : S16384x512.Idx → EReal) (r : Fin 256) (k : Fin 512) :
    ((cfg0.win 1).blk t).view.read (Elt Ideal) X (ix2 r k) = X (ix2 (at_ t r) k) := by
  blk_ext [idx t]

theorem read2 (X : S16384x512.Idx → EReal) (r : Fin 256) (k : Fin 512) :
    ((cfg0.win 2).blk t).view.read (Elt Ideal) X (ix2 r k) = X (ix2 (at_ t r) k) := by
  blk_ext [idx t]

theorem read3 (X : S1x1024.Idx → EReal) (k : Fin 1024) :
    ((cfg0.win 3).blk t).view.read (Elt Ideal) X (ix2 0 k) = X (ix2 0 k) := by
  blk_ext [idx t]

theorem read4 (X : S1x1024.Idx → EReal) (k : Fin 1024) :
    ((cfg0.win 4).blk t).view.read (Elt Ideal) X (ix2 0 k) = X (ix2 0 k) := by
  blk_ext [idx t]

end read

section rows

variable (x : S16384x1024.Idx → EReal) (o s : S16384x512.Idx → EReal) (g e : S1024.Idx → EReal)
  (w0 : S1024x1024.Idx → EReal) (w1 : S1024x5632.Idx → EReal) (w2 : S2816x1024.Idx → EReal) (t : Fin 16384)

/-- Row `t` of the three results. -/
def fullX1 : Fin 1024 → EReal :=
  Row.x1 (fun k => x (ix2 t k)) (fun k => o (ix2 t k)) (fun k => s (ix2 t k)) (fun k => g (ix1 k)) (fun k n => w0 (ix2 k n))
def fullGu : Fin 5632 → EReal :=
  Row.gu (fun k f => w1 (ix2 k f)) (Row.normed (fun k => e (ix1 k)) (fullX1 x o s g w0 t))
def fullX2 : Fin 1024 → EReal :=
  Row.x2 (fun f n => w2 (ix2 f n)) (fullX1 x o s g w0 t) (fullGu x o s g e w0 w1 t)

end rows

section rowsOf

variable (t : Fin cfg0.N) (r : Fin 256)

theorem row_x : (fun k => (iblk m c 0 t : S256x1024.Idx → EReal) (ix2 r k)) = fun k => argX m c (ix2 (at_ t r) k) :=
  funext fun k => (read0 t (V m c main_arg0) r k).trans (congrFun (V_main_arg0 m c) _)
theorem row_o : (fun k => (iblk m c 1 t : S256x512.Idx → EReal) (ix2 r k)) = fun k => argO m c (ix2 (at_ t r) k) :=
  funext fun k => (read1 t (V m c main_arg1) r k).trans (congrFun (V_main_arg1 m c) _)
theorem row_s : (fun k => (iblk m c 2 t : S256x512.Idx → EReal) (ix2 r k)) = fun k => argS m c (ix2 (at_ t r) k) :=
  funext fun k => (read2 t (V m c main_arg2) r k).trans (congrFun (V_main_arg2 m c) _)
theorem row_g : (fun k => (iblk m c 3 t : S1x1024.Idx → EReal) (ix2 0 k)) = fun k => argG m c (ix1 k) :=
  funext fun k => ((read3 t (V m c main_v0) k).trans (congrFun (V_gain m c) _)).trans (by pointwise)
theorem row_e : (fun k => (iblk m c 4 t : S1x1024.Idx → EReal) (ix2 0 k)) = fun k => argE m c (ix1 k) :=
  funext fun k => ((read4 t (V m c main_v1) k).trans (congrFun (V_gainE m c) _)).trans (by pointwise)

theorem rowX1_eq : rowX1 (iblk m c 0 t) (iblk m c 1 t) (iblk m c 2 t) (iblk m c 3 t) (V m c main_v2) r
    = fullX1 (argX m c) (argO m c) (argS m c) (argG m c) (argW0 m c) (at_ t r) := by
  unfold rowX1 fullX1
  rw [row_x, row_o, row_s, row_g, V_w0]

theorem rowGu_eq : rowGu (iblk m c 0 t) (iblk m c 1 t) (iblk m c 2 t) (iblk m c 3 t) (iblk m c 4 t) (V m c main_v2) (V m c main_v3) r
    = fullGu (argX m c) (argO m c) (argS m c) (argG m c) (argE m c) (argW0 m c) (argW1 m c) (at_ t r) := by
  unfold rowGu rowN fullGu
  rw [rowX1_eq, row_e, V_w1]

end rowsOf

/-- Every point's block of the first result. -/
theorem left5 (t : Fin cfg0.N) (r : Fin 256) (n : Fin 1024) : ((dats m 0 c).after 5 t : S256x1024.Idx → EReal) (ix2 r n)
    = fullX1 (argX m c) (argO m c) (argS m c) (argG m c) (argW0 m c) (at_ t r) n := by
  rw [after0_5, outs5]
  exact (stepX1_at _ _ _ _ _ r n).trans (congrFun (rowX1_eq m c t r) n)

/-- Every point's block of the second result. -/
theorem left6 (t : Fin cfg0.N) (r : Fin 256) (n : Fin 1024) : ((dats m 0 c).after 6 t : S256x1024.Idx → EReal) (ix2 r n)
    = fullX2 (argX m c) (argO m c) (argS m c) (argG m c) (argE m c) (argW0 m c) (argW1 m c) (argW2 m c) (at_ t r) n := by
  rw [after0_6, outs6]
  refine (stepX2_at _ _ _ _ _ _ _ _ r n).trans ?_
  rw [rowX1_eq, rowGu_eq, V_w2]
  rfl

/-- Every point's block of the third result. -/
theorem left7 (t : Fin cfg0.N) (r : Fin 256) (n : Fin 5632) : ((dats m 0 c).after 7 t : S256x5632.Idx → EReal) (ix2 r n)
    = fullGu (argX m c) (argO m c) (argS m c) (argG m c) (argE m c) (argW0 m c) (argW1 m c) (at_ t r) n := by
  rw [after0_7, outs7]
  exact (stepGu_at _ _ _ _ _ _ _ r n).trans (congrFun (rowGu_eq m c t r) n)

theorem place5 (t : Fin cfg0.N) (G : Fin 16384 → Fin 1024 → EReal) (X : S256x1024.Idx → EReal)
    (h : ∀ (r : Fin 256) (n : Fin 1024), X (ix2 r n) = G (at_ t r) n) (y : S256x1024.Idx) :
    X y = (fun i : S16384x1024.Idx => G (i 0) (i 1)) (((cfg0.win 5).blk t).view.emb y) := by
  obtain ⟨r, n, rfl⟩ : ∃ (r : Fin 256) (n : Fin 1024), y = ix2 r n := ⟨y 0, y 1, ValueIdx.eq_ix2 y⟩
  rw [h, show ((cfg0.win 5).blk t).view.emb (ix2 r n) = ix2 (at_ t r) n by blk_ext [idx t]]
  rfl

theorem place6 (t : Fin cfg0.N) (G : Fin 16384 → Fin 1024 → EReal) (X : S256x1024.Idx → EReal)
    (h : ∀ (r : Fin 256) (n : Fin 1024), X (ix2 r n) = G (at_ t r) n) (y : S256x1024.Idx) :
    X y = (fun i : S16384x1024.Idx => G (i 0) (i 1)) (((cfg0.win 6).blk t).view.emb y) := by
  obtain ⟨r, n, rfl⟩ : ∃ (r : Fin 256) (n : Fin 1024), y = ix2 r n := ⟨y 0, y 1, ValueIdx.eq_ix2 y⟩
  rw [h, show ((cfg0.win 6).blk t).view.emb (ix2 r n) = ix2 (at_ t r) n by blk_ext [idx t]]
  rfl

theorem place7 (t : Fin cfg0.N) (G : Fin 16384 → Fin 5632 → EReal) (X : S256x5632.Idx → EReal)
    (h : ∀ (r : Fin 256) (n : Fin 5632), X (ix2 r n) = G (at_ t r) n) (y : S256x5632.Idx) :
    X y = (fun i : S16384x5632.Idx => G (i 0) (i 1)) (((cfg0.win 7).blk t).view.emb y) := by
  obtain ⟨r, n, rfl⟩ : ∃ (r : Fin 256) (n : Fin 5632), y = ix2 r n := ⟨y 0, y 1, ValueIdx.eq_ix2 y⟩
  rw [h, show ((cfg0.win 7).blk t).view.emb (ix2 r n) = ix2 (at_ t r) n by blk_ext [idx t]]
  rfl

/-- The first array of results, row by row. -/
theorem array5 : (dats m 0 c).arrAt 5 cfg0.N
    = fun i : S16384x1024.Idx => fullX1 (argX m c) (argO m c) (argS m c) (argG m c) (argW0 m c) (i 0) (i 1) :=
  Dat.arrAt_eq_of_covers (dats m 0 c) 5 _ (by decide +kernel) fun t _ y =>
    place5 t (fullX1 (argX m c) (argO m c) (argS m c) (argG m c) (argW0 m c)) ((dats m 0 c).after 5 t) (left5 m c t) y

/-- The second array of results, row by row. -/
theorem array6 : (dats m 0 c).arrAt 6 cfg0.N
    = fun i : S16384x1024.Idx => fullX2 (argX m c) (argO m c) (argS m c) (argG m c) (argE m c) (argW0 m c) (argW1 m c) (argW2 m c) (i 0) (i 1) :=
  Dat.arrAt_eq_of_covers (dats m 0 c) 6 _ (by decide +kernel) fun t _ y =>
    place6 t (fullX2 (argX m c) (argO m c) (argS m c) (argG m c) (argE m c) (argW0 m c) (argW1 m c) (argW2 m c)) ((dats m 0 c).after 6 t) (left6 m c t) y

/-- The third array of results, row by row. -/
theorem array7 : (dats m 0 c).arrAt 7 cfg0.N
    = fun i : S16384x5632.Idx => fullGu (argX m c) (argO m c) (argS m c) (argG m c) (argE m c) (argW0 m c) (argW1 m c) (i 0) (i 1) :=
  Dat.arrAt_eq_of_covers (dats m 0 c) 7 _ (by decide +kernel) fun t _ y =>
    place7 t (fullGu (argX m c) (argO m c) (argS m c) (argG m c) (argE m c) (argW0 m c) (argW1 m c)) ((dats m 0 c).after 7 t) (left7 m c t) y

end Cert.MixIdeal.Mix

end

end
-- ==== Proof.Mix.Ref.lean ====
/-
The reference's results: row by row the second half of a layer.
-/
module

public import proofs.«01_k».proof.Proof.Mix.Arrays
public import proofs.«01_k».proof.Proof.Gen.MixRefIdeal.Run

@[expose] public section

noncomputable section

namespace Cert.MixRefIdeal.Mix

open Cert.MixRefIdeal Cert.MixRefIdeal.Gen Cert.MixRefIdeal.Value Cert.Mix Idealize.ShloMosaic Idealize.ShloMosaic.TcCoe

section terms

variable (x : FVec Ideal S16384x1024 .f32) (o s : FVec Ideal S16384x512 .f32) (g e : FVec Ideal S1024 .f32)
  (w0 : FVec Ideal S1024x1024 .f32) (w1 : FVec Ideal S1024x5632 .f32) (w2 : FVec Ideal S2816x1024 .f32)

/-- The reference's terms, one named piece after the other: the two branches' outputs normed, -/
def refO : FVec Ideal S16384x512 .f32 :=
  (mulf (mulf o (broadcastInDim S16384x512 ![0, 1] bcast_S16384x1_S16384x512_0_1 (Host.rsqrt (addf (Host.divf (broadcastInDim S16384x1 ![0] bcast_S16384_S16384x1_0 (Host.reduceAdd (mulf o o) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (extractStridedSlice S512 ![0] g slices_S1024_S512_0))))
def refS : FVec Ideal S16384x512 .f32 :=
  (mulf (mulf s (broadcastInDim S16384x512 ![0, 1] bcast_S16384x1_S16384x512_0_1 (Host.rsqrt (addf (Host.divf (broadcastInDim S16384x1 ![0] bcast_S16384_S16384x1_0 (Host.reduceAdd (mulf s s) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (extractStridedSlice S512 ![512] g slices_S1024_S512_512))))
/-- side by side, -/
def refMerged : FVec Ideal S16384x1024 .f32 :=
  (concatenate S16384x1024 1 [⟨S16384x512, (refO o g)⟩, ⟨S16384x512, (refS s g)⟩] concatenates_S16384x512_S16384x512_S16384x1024_d1)
/-- the first residual sum, -/
def refX1 : FVec Ideal S16384x1024 .f32 :=
  addf x (Host.dotGeneral dot_S16384x1024_S1024x1024_S16384x1024_1_0_0_1_n_n none (refMerged o s g) w0)
/-- the gate and up products, -/
def refGu : FVec Ideal S16384x5632 .f32 :=
  Host.dotGeneral dot_S16384x1024_S1024x5632_S16384x5632_1_0_0_1_n_n none (mulf (mulf (refX1 x o s g w0) (broadcastInDim S16384x1024 ![0, 1] bcast_S16384x1_S16384x1024_0_1 (Host.rsqrt (addf (Host.divf (broadcastInDim S16384x1 ![0] bcast_S16384_S16384x1_0 (Host.reduceAdd (mulf (refX1 x o s g w0) (refX1 x o s g w0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 e))) w1
/-- the second residual sum. -/
def refX2 : FVec Ideal S16384x1024 .f32 :=
  addf (refX1 x o s g w0) (Host.dotGeneral dot_S16384x2816_S2816x1024_S16384x1024_1_0_0_1_n_n none (mulf (mulf (extractStridedSlice S16384x2816 ![0, 0] (refGu x o s g e w0 w1) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (refGu x o s g e w0 w1) slices_S16384x5632_S16384x2816_0_0)))))) (extractStridedSlice S16384x2816 ![0, 2816] (refGu x o s g e w0 w1) slices_S16384x5632_S16384x2816_0_2816)) w2)

variable (t : Fin 16384)

theorem refO_at (k : Fin 512) : (refO o g (ix2 t k) : EReal)
    = o (ix2 t k) * Row.inv Row.c512 (fun k => o (ix2 t k)) * g (ix1 ⟨k.val, by omega⟩) := by
  pointwise [refO]
  rfl

theorem refS_at (k : Fin 512) : (refS s g (ix2 t k) : EReal)
    = s (ix2 t k) * Row.inv Row.c512 (fun k => s (ix2 t k)) * g (ix1 ⟨512 + k.val, by omega⟩) := by
  pointwise [refS]
  rfl

theorem refMerged_at (k : Fin 1024) : (refMerged o s g (ix2 t k) : EReal)
    = Row.merged (fun k => o (ix2 t k)) (fun k => s (ix2 t k)) (fun k => g (ix1 k)) k := by
  pointwise [refMerged, refO_at, refS_at]
  rfl

theorem refX1_at (n : Fin 1024) : (refX1 x o s g w0 (ix2 t n) : EReal) = Cert.MixIdeal.Mix.fullX1 x o s g w0 t n := by
  pointwise [refX1, refMerged_at]
  rfl

theorem refGu_at (f : Fin 5632) : (refGu x o s g e w0 w1 (ix2 t f) : EReal) = Cert.MixIdeal.Mix.fullGu x o s g e w0 w1 t f := by
  pointwise [refGu, refX1_at]
  rfl

theorem refX2_at (n : Fin 1024) : (refX2 x o s g e w0 w1 w2 (ix2 t n) : EReal) = Cert.MixIdeal.Mix.fullX2 x o s g e w0 w1 w2 t n := by
  pointwise [refX2, refX1_at, refGu_at]
  rfl

end terms

variable (m : (ℓ : Loc nD τ sig) → Buf (Elt Ideal) ℓ) (c : Dev nD)

theorem res_gu : res_main_v44 m c = refGu (m (c.tc.loc main_arg0)) (m (c.tc.loc main_arg1)) (m (c.tc.loc main_arg2)) (m (c.tc.loc main_arg3))
    (m (c.tc.loc main_arg4)) (m (c.tc.loc main_arg5)) (m (c.tc.loc main_arg6)) := by
  unfold res_main_v44
  rfl

theorem res_x2 : res_main_v50 m c = refX2 (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) := by
  unfold res_main_v50
  rfl

end Cert.MixRefIdeal.Mix

end

end
-- ==== Proof.Mix.Result.lean ====
/-
The call's three results are the reference's.
-/
module

public import proofs.«01_k».proof.Proof.Mix.Ref

@[expose] public section

namespace Cert.MixIdeal.Mix

open Cert.MixIdeal Cert.MixIdeal.Gen Cert.Mix Idealize.ShloMosaic Idealize.ShloMosaic.TcCoe

variable (m : (ℓ : Loc nD τ sig) → Buf (Elt Ideal) ℓ) (c : Dev nD)
  (x : S16384x1024.Idx → EReal) (o s : S16384x512.Idx → EReal) (g e : S1024.Idx → EReal)
  (w0 : S1024x1024.Idx → EReal) (w1 : S1024x5632.Idx → EReal) (w2 : S2816x1024.Idx → EReal)

section

variable (hx : x = argX m c) (ho : o = argO m c) (hs : s = argS m c) (hg : g = argG m c) (h0 : w0 = argW0 m c)

include hx ho hs hg h0

theorem result5 : (dats m 0 c).arrAt 5 cfg0.N = Cert.MixRefIdeal.Mix.refX1 x o s g w0 := by
  subst hx ho hs hg h0
  refine (array5 m c).trans (funext fun i => ?_)
  rw [ValueIdx.eq_ix2 i]
  exact (Cert.MixRefIdeal.Mix.refX1_at (argX m c) (argO m c) (argS m c) (argG m c) (argW0 m c) (i 0) (i 1)).symm

variable (he : e = argE m c) (h1 : w1 = argW1 m c)

include he h1

theorem result7 : (dats m 0 c).arrAt 7 cfg0.N = Cert.MixRefIdeal.Mix.refGu x o s g e w0 w1 := by
  subst hx ho hs hg h0 he h1
  refine (array7 m c).trans (funext fun i => ?_)
  rw [ValueIdx.eq_ix2 i]
  exact (Cert.MixRefIdeal.Mix.refGu_at (argX m c) (argO m c) (argS m c) (argG m c) (argE m c) (argW0 m c) (argW1 m c) (i 0) (i 1)).symm

variable (h2 : w2 = argW2 m c)

include h2

theorem result6 : (dats m 0 c).arrAt 6 cfg0.N = Cert.MixRefIdeal.Mix.refX2 x o s g e w0 w1 w2 := by
  subst hx ho hs hg h0 he h1 h2
  refine (array6 m c).trans (funext fun i => ?_)
  rw [ValueIdx.eq_ix2 i]
  exact (Cert.MixRefIdeal.Mix.refX2_at (argX m c) (argO m c) (argS m c) (argG m c) (argE m c) (argW0 m c) (argW1 m c) (argW2 m c) (i 0) (i 1)).symm

end

end Cert.MixIdeal.Mix

end
-- ==== Proof.lean ====
/-
The claim. Of the attention's backward call: the kernel and its ideal program run without fault and leave their arguments,
the reference too; the ideal program is the kernel over the extended reals with the constant `ln2` named; and on finite
arguments its five results are the reference's. Of each of the four weight gradients: the same, on all arguments.
-/
module

public import proofs.«01_k».proof.Defs
public import proofs.«01_k».proof.Proof.Launch
public import proofs.«01_k».proof.Proof.Bits.Launch
public import proofs.«01_k».proof.Proof.Val.Finite
public import proofs.«01_k».proof.Proof.Val.Equation
public import proofs.«01_k».proof.Proof.Gen.Pre_finite
public import proofs.«01_k».proof.Proof.Gen.ReferenceIdeal
public import proofs.«01_k».proof.Proof.Gen.ReferenceIdeal.Run
public import proofs.«01_k».proof.Proof.Grad.GateUp
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpRefIdeal
public import proofs.«01_k».proof.Proof.Grad.Down
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Grad.Out
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Grad.In
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Mix.Result
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InRefIdeal

@[expose] public section

noncomputable section

namespace Cert.Proof

open Idealize.ShloMosaic Idealize.ShloMosaic.TcCoe Idealize.SL.Sem

/-- The reference runs, leaves its arguments and every semaphore counter zero. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4))
        ∧ r.2.sem = fun _ => 0) := by
  refine (θ_run _ _ _).mono (fun r h => ⟨fun c => ?_, funext fun s => nomatch s⟩) (Cert.ReferenceIdeal.Value.run (F := Ideal) m g)
  obtain ⟨-, -, -, -, -, h0, h1, h2, h3, h4⟩ := h c
  exact ⟨h0, h1, h2, h3, h4⟩

section equation

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- From memories that agree on finite arguments, the kernel's five arrays are the reference's. -/
theorem equation (hp : Cert.Pre_KernelIdeal_finite (hPre_finite := Cert.Pre_finite.Gen.facts) m)
    (h0 : Cert.ReferenceIdeal.Grad.argQ m' c = Cert.KernelIdeal.Body.argQ m c)
    (h1 : Cert.ReferenceIdeal.Grad.argK m' c = Cert.KernelIdeal.Body.argK m c)
    (h2 : Cert.ReferenceIdeal.Grad.argV m' c = Cert.KernelIdeal.Body.argV m c)
    (h3 : Cert.ReferenceIdeal.Grad.argC m' c = Cert.KernelIdeal.Body.argC m c)
    (h4 : Cert.ReferenceIdeal.Grad.argO m' c = Cert.KernelIdeal.Body.argO m c) :
    Cert.KernelIdeal.Body.arrQ (Cert.KernelIdeal.Body.arr m c) = Cert.ReferenceIdeal.Value.res_main_v79 m' c
    ∧ Cert.KernelIdeal.Body.arrK (Cert.KernelIdeal.Body.arr m c) = Cert.ReferenceIdeal.Value.res_main_v81 m' c
    ∧ Cert.KernelIdeal.Body.arrV (Cert.KernelIdeal.Body.arr m c) = Cert.ReferenceIdeal.Value.res_main_v83 m' c
    ∧ Cert.KernelIdeal.Body.arrCk (Cert.KernelIdeal.Body.arr m c) = Cert.ReferenceIdeal.Value.res_main_v84 m' c
    ∧ Cert.KernelIdeal.Body.arrCq (Cert.KernelIdeal.Body.arr m c) = Cert.ReferenceIdeal.Value.res_main_v85 m' c := by
  obtain ⟨A, hr⟩ : ∃ A, Cert.KernelIdeal.Body.Reals A (Cert.KernelIdeal.Body.argQ m c) (Cert.KernelIdeal.Body.argK m c)
      (Cert.KernelIdeal.Body.argV m c) (Cert.KernelIdeal.Body.argO m c) (Cert.KernelIdeal.Body.argC m c) :=
    Cert.Pre_finite.reals (hF := Cert.Pre_finite.Gen.facts) (hp c)
  have hr' : Cert.KernelIdeal.Body.Reals A (Cert.ReferenceIdeal.Grad.argQ m' c) (Cert.ReferenceIdeal.Grad.argK m' c)
      (Cert.ReferenceIdeal.Grad.argV m' c) (Cert.ReferenceIdeal.Grad.argO m' c) (Cert.ReferenceIdeal.Grad.argC m' c) := by
    simp only [h0, h1, h2, h3, h4]
    exact hr
  have hA := Cert.KernelIdeal.Body.arr_holds m c hr
  have hd := Cert.ReferenceIdeal.Grad.ds_at m' c hr'
  rw [Cert.ReferenceIdeal.Grad.v79_eq, Cert.ReferenceIdeal.Grad.v81_eq, Cert.ReferenceIdeal.Grad.v83_eq,
    Cert.ReferenceIdeal.Grad.v84_eq, Cert.ReferenceIdeal.Grad.v85_eq]
  exact ⟨Cert.KernelIdeal.Body.same_q hA hr' hd, Cert.KernelIdeal.Body.same_k hA hr' hd,
    Cert.KernelIdeal.Body.same_v hA hr' (Cert.ReferenceIdeal.Grad.ex_at m' c hr') (Cert.ReferenceIdeal.Grad.sm_at m' c hr'),
    Cert.KernelIdeal.Body.same_ck hA hr' hd, Cert.KernelIdeal.Body.same_cq hA hr' hd⟩

end equation

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => Cert.ReferenceIdeal.Value.res_main_v79 m' c, fun c => Cert.ReferenceIdeal.Value.res_main_v81 m' c,
    fun c => Cert.ReferenceIdeal.Value.res_main_v83 m' c, fun c => Cert.ReferenceIdeal.Value.res_main_v84 m' c,
    fun c => Cert.ReferenceIdeal.Value.res_main_v85 m' c, ?_, Cert.ReferenceIdeal.Value.run (F := Ideal) m' g'⟩
  refine (θ_run _ _ _).mono (fun r h c => ?_) (θ_run_and (Cert.KernelIdeal.Body.run_main m g) (Cert.KernelIdeal.Body.run_frame m g))
  obtain ⟨b0, b1, b2, b3, b4⟩ := ha c
  obtain ⟨e0, e1, e2, e3, e4⟩ := equation m m' c hp b0 b1 b2 b3 b4
  obtain ⟨r0, r1, r2, r3, r4⟩ := Cert.KernelIdeal.Body.results h.1 c
  exact ⟨r0.trans e0, r1.trans e1, r2.trans e2, r3.trans e3, r4.trans e4, h.2.1 c⟩

/-- The reference gradient of the gate and up weights runs, leaves its arguments and every semaphore counter zero. -/
theorem reference_GateUp : Cert.quiescent_GateUpRefIdeal (hGateUpRefIdeal := Cert.GateUpRefIdeal.Gen.facts) := fun m g _ =>
  (θ_run _ _ _).mono (fun _ h => ⟨fun c => (h c).2, funext fun s => nomatch s⟩) (Cert.GateUpRefIdeal.Value.run (F := Ideal) m g)

/-- The call's gradient of the gate and up weights is the reference's. -/
theorem algebraic_GateUp : Cert.algebraic_GateUpIdeal_GateUpRefIdeal (hGateUpIdeal := Cert.GateUpIdeal.Gen.facts)
    (hGateUpRefIdeal := Cert.GateUpRefIdeal.Gen.facts) := by
  intro m g m' g' _ ha
  refine ⟨_, ?_, Cert.GateUpRefIdeal.Value.run (F := Ideal) m' g'⟩
  refine (θ_run _ _ _).mono (fun r h c => ?_) (Cert.GateUpIdeal.Value.run (F := Ideal) m g)
  exact ⟨(h c).1.trans (Cert.GateUpIdeal.Grad.result m c _ _ (ha c).1 (ha c).2), (h c).2⟩

/-- The reference gradient of the down weight runs, leaves its arguments and every semaphore counter zero. -/
theorem reference_Down : Cert.quiescent_DownRefIdeal (hDownRefIdeal := Cert.DownRefIdeal.Gen.facts) := fun m g _ =>
  (θ_run _ _ _).mono (fun _ h => ⟨fun c => (h c).2, funext fun s => nomatch s⟩) (Cert.DownRefIdeal.Value.run (F := Ideal) m g)

/-- The call's gradient of the down weight is the reference's. -/
theorem algebraic_Down : Cert.algebraic_DownIdeal_DownRefIdeal (hDownIdeal := Cert.DownIdeal.Gen.facts)
    (hDownRefIdeal := Cert.DownRefIdeal.Gen.facts) := by
  intro m g m' g' _ ha
  refine ⟨_, ?_, Cert.DownRefIdeal.Value.run (F := Ideal) m' g'⟩
  refine (θ_run _ _ _).mono (fun r h c => ?_) (Cert.DownIdeal.Value.run (F := Ideal) m g)
  exact ⟨(h c).1.trans (Cert.DownIdeal.Grad.result m c _ _ (ha c).1 (ha c).2), (h c).2⟩

/-- The reference gradient of the output weight runs, leaves its arguments and every semaphore counter zero. -/
theorem reference_Out : Cert.quiescent_OutRefIdeal (hOutRefIdeal := Cert.OutRefIdeal.Gen.facts) := fun m g _ =>
  (θ_run _ _ _).mono (fun _ h => ⟨fun c => (h c).2, funext fun s => nomatch s⟩) (Cert.OutRefIdeal.Value.run (F := Ideal) m g)

/-- The call's gradient of the output weight is the reference's. -/
theorem algebraic_Out : Cert.algebraic_OutIdeal_OutRefIdeal (hOutIdeal := Cert.OutIdeal.Gen.facts)
    (hOutRefIdeal := Cert.OutRefIdeal.Gen.facts) := by
  intro m g m' g' _ ha
  refine ⟨_, ?_, Cert.OutRefIdeal.Value.run (F := Ideal) m' g'⟩
  refine (θ_run _ _ _).mono (fun r h c => ?_) (Cert.OutIdeal.Value.run (F := Ideal) m g)
  exact ⟨(h c).1.trans (Cert.OutIdeal.Grad.result m c _ _ (ha c).1 (ha c).2), (h c).2⟩

/-- The reference gradient of the input weight runs, leaves its arguments and every semaphore counter zero. -/
theorem reference_In : Cert.quiescent_InRefIdeal (hInRefIdeal := Cert.InRefIdeal.Gen.facts) := fun m g _ =>
  (θ_run _ _ _).mono (fun _ h => ⟨fun c => (h c).2, funext fun s => nomatch s⟩) (Cert.InRefIdeal.Value.run (F := Ideal) m g)

/-- The call's gradient of the input weight is the reference's. -/
theorem algebraic_In : Cert.algebraic_InIdeal_InRefIdeal (hInIdeal := Cert.InIdeal.Gen.facts)
    (hInRefIdeal := Cert.InRefIdeal.Gen.facts) := by
  intro m g m' g' _ ha
  refine ⟨_, ?_, Cert.InRefIdeal.Value.run (F := Ideal) m' g'⟩
  refine (θ_run _ _ _).mono (fun r h c => ?_) (Cert.InIdeal.Value.run (F := Ideal) m g)
  exact ⟨(h c).1.trans (Cert.InIdeal.Grad.result m c _ _ (ha c).1 (ha c).2), (h c).2⟩

/-- The reference of a layer's second half runs, leaves its arguments and every semaphore counter zero. -/
theorem reference_Mix : Cert.quiescent_MixRefIdeal (hMixRefIdeal := Cert.MixRefIdeal.Gen.facts) := fun m g _ =>
  (θ_run _ _ _).mono (fun _ h => ⟨fun c => (h c).2.2.2, funext fun s => nomatch s⟩) (Cert.MixRefIdeal.Value.run (F := Ideal) m g)

/-- The call's three results of a layer's second half are the reference's. -/
theorem algebraic_Mix : Cert.algebraic_MixIdeal_MixRefIdeal (hMixIdeal := Cert.MixIdeal.Gen.facts)
    (hMixRefIdeal := Cert.MixRefIdeal.Gen.facts) := by
  intro m g m' g' _ ha
  refine ⟨_, _, _, ?_, Cert.MixRefIdeal.Value.run (F := Ideal) m' g'⟩
  refine (θ_run _ _ _).mono (fun r h c => ?_) (Cert.MixIdeal.Value.run_blocks (F := Ideal) m g)
  obtain ⟨hx, ho, hs, hg, he, h0, h1, h2⟩ := ha c
  exact ⟨(h c).1.trans (Cert.MixIdeal.Mix.result5 m c _ _ _ _ _ hx ho hs hg h0),
    (h c).2.1.trans ((Cert.MixIdeal.Mix.result6 m c _ _ _ _ _ _ _ _ hx ho hs hg h0 he h1 h2).trans (Cert.MixRefIdeal.Mix.res_x2 m' c).symm),
    (h c).2.2.1.trans ((Cert.MixIdeal.Mix.result7 m c _ _ _ _ _ _ _ hx ho hs hg h0 he h1).trans (Cert.MixRefIdeal.Mix.res_gu m' c).symm),
    (h c).2.2.2⟩

theorem claim : Cert.Claim := ⟨Cert.Kernel.Gen.facts, Cert.KernelIdeal.Gen.facts, Cert.ReferenceIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.Out.Gen.facts, Cert.OutIdeal.Gen.facts, Cert.OutRefIdeal.Gen.facts,
  Cert.In.Gen.facts, Cert.InIdeal.Gen.facts, Cert.InRefIdeal.Gen.facts,
  Cert.Mix.Gen.facts, Cert.MixIdeal.Gen.facts, Cert.MixRefIdeal.Gen.facts,
  Cert.Pre_finite.Gen.facts,
  fun m g _ => Cert.Kernel.Body.run_frame m g, fun m g _ => Cert.KernelIdeal.Body.run_frame m g,
  fun m g _ => Cert.KernelIdeal.Body.run_frame m g, fun m g _ => reference_runs m g, fun m g _ => reference_runs m g,
  fun m g _ => Cert.GateUp.Gen.frame m g, fun m g _ => Cert.GateUpIdeal.Gen.frame m g, reference_GateUp,
  fun m g _ => Cert.Down.Gen.frame m g, fun m g _ => Cert.DownIdeal.Gen.frame m g, reference_Down,
  fun m g _ => Cert.Out.Gen.frame m g, fun m g _ => Cert.OutIdeal.Gen.frame m g, reference_Out,
  fun m g _ => Cert.In.Gen.frame m g, fun m g _ => Cert.InIdeal.Gen.frame m g, reference_In,
  fun m g _ => Cert.Mix.Gen.frame m g, fun m g _ => Cert.MixIdeal.Gen.frame m g, reference_Mix,
  IdealRules.named_const.statement Cert.KernelIdeal.κ "ln2" .f32 0x3F317218#32 _ rfl, algebraic,
  trivial, algebraic_GateUp,
  trivial, algebraic_Down,
  trivial, algebraic_Out,
  trivial, algebraic_In,
  trivial, algebraic_Mix⟩

end Cert.Proof

end
